-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bounded [hPre_bounded : Cert.Pre_bounded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bounded [hPre_bounded : Cert.Pre_bounded.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_bounded [hKernel5Ideal : Cert.Kernel5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bounded m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_bounded [hReference5Ideal : Cert.Reference5Ideal.Facts] [hPre_bounded : Cert.Pre_bounded.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bounded m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_bounded [hKernel5Ideal : Cert.Kernel5Ideal.Facts] [hReference5Ideal : Cert.Reference5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bounded m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v62_0)) (v1 : (c : Dev Cert.Kernel5Ideal.nD) → Buf (Elt Ideal) ((c.tc : Thread Cert.Kernel5Ideal.nD Cert.Kernel5Ideal.τ).loc Cert.Kernel5Ideal.main_v62_1)) (v2 : (c : Dev Cert.Kernel5Ideal.nD) → Buf (Elt Ideal) ((c.tc : Thread Cert.Kernel5Ideal.nD Cert.Kernel5Ideal.τ).loc Cert.Kernel5Ideal.main_v62_2)) (v3 : (c : Dev Cert.Kernel5Ideal.nD) → Buf (Elt Ideal) ((c.tc : Thread Cert.Kernel5Ideal.nD Cert.Kernel5Ideal.τ).loc Cert.Kernel5Ideal.main_v62_3)) (v4 : (c : Dev Cert.Kernel5Ideal.nD) → Buf (Elt Ideal) ((c.tc : Thread Cert.Kernel5Ideal.nD Cert.Kernel5Ideal.τ).loc Cert.Kernel5Ideal.main_v62_4)) (v5 : (c : Dev Cert.Kernel5Ideal.nD) → Buf (Elt Ideal) ((c.tc : Thread Cert.Kernel5Ideal.nD Cert.Kernel5Ideal.τ).loc Cert.Kernel5Ideal.main_v62_5)) (v6 : (c : Dev Cert.Kernel5Ideal.nD) → Buf (Elt Ideal) ((c.tc : Thread Cert.Kernel5Ideal.nD Cert.Kernel5Ideal.τ).loc Cert.Kernel5Ideal.main_v62_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v62_0) = v0 c
          ∧ r.2.mem ((c.tc : Thread Cert.Kernel5Ideal.nD Cert.Kernel5Ideal.τ).loc Cert.Kernel5Ideal.main_v62_1) = v1 c
          ∧ r.2.mem ((c.tc : Thread Cert.Kernel5Ideal.nD Cert.Kernel5Ideal.τ).loc Cert.Kernel5Ideal.main_v62_2) = v2 c
          ∧ r.2.mem ((c.tc : Thread Cert.Kernel5Ideal.nD Cert.Kernel5Ideal.τ).loc Cert.Kernel5Ideal.main_v62_3) = v3 c
          ∧ r.2.mem ((c.tc : Thread Cert.Kernel5Ideal.nD Cert.Kernel5Ideal.τ).loc Cert.Kernel5Ideal.main_v62_4) = v4 c
          ∧ r.2.mem ((c.tc : Thread Cert.Kernel5Ideal.nD Cert.Kernel5Ideal.τ).loc Cert.Kernel5Ideal.main_v62_5) = v5 c
          ∧ r.2.mem ((c.tc : Thread Cert.Kernel5Ideal.nD Cert.Kernel5Ideal.τ).loc Cert.Kernel5Ideal.main_v62_8) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v76) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v78) = v3 c
          ∧ r.2.mem ((c.tc : Thread Cert.Reference5Ideal.nD Cert.Reference5Ideal.τ).loc Cert.Reference5Ideal.main_v80) = v4 c
          ∧ r.2.mem ((c.tc : Thread Cert.Reference5Ideal.nD Cert.Reference5Ideal.τ).loc Cert.Reference5Ideal.main_v81) = v5 c
          ∧ r.2.mem ((c.tc : Thread Cert.Reference5Ideal.nD Cert.Reference5Ideal.τ).loc Cert.Reference5Ideal.main_v82) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bounded (hKernel5Ideal := hKernel5Ideal) (hPre_bounded := hPre_bounded)
    ∧ quiescent_Reference5Ideal (hReference5Ideal := hReference5Ideal)
    ∧ quiescent_Reference5Ideal_pre_bounded (hReference5Ideal := hReference5Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bounded (hKernel5Ideal := hKernel5Ideal) (hReference5Ideal := hReference5Ideal) (hPre_bounded := hPre_bounded)
-- ==== Pre_bounded.lean ====
abbrev S65536x1024 : Shape := ⟨2, ![65536, 1024]⟩
abbrev S65536x1 : Shape := ⟨2, ![65536, 1]⟩
abbrev S1024x4800 : Shape := ⟨2, ![1024, 4800]⟩
abbrev S1024x2048 : Shape := ⟨2, ![1024, 2048]⟩
abbrev S2048 : Shape := ⟨1, ![2048]⟩
abbrev S2x1024 : Shape := ⟨2, ![2, 1024]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S192 : Shape := ⟨1, ![192]⟩
abbrev S_ : Shape := ⟨0, ![]⟩
abbrev S1024 : Shape := ⟨1, ![1024]⟩

class Facts : Prop where
  reducesTo_S2x1024_S1024_d0 : S2x1024.ReducesTo [0] S1024
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .bf16) (main_arg1 : IVec S65536x1 32) (main_arg2 : FVec F S1024x4800 .f32) (main_arg3 : FVec F S1024x2048 .f32) (main_arg4 : FVec F S2048 .f32) (main_arg5 : FVec F S2x1024 .f32) (main_arg6 : FVec F S384 .f32) (main_arg7 : FVec F S384x1536 .f32) (main_arg8 : FVec F S256 .f32) (main_arg9 : FVec F S256x2048 .f32) (main_arg10 : FVec F S192 .f32) (main_arg11 : FVec F S192 .f32) : IVec S_ 1 :=
  let main_cst : FVec F S_ .f32 := constant S_ .f32 0xFF800000#32
  let main_v0 : FVec F S1024 .f32 := (fun x v => Host.reduce FloatOps.maximumf x v reducesTo_S2x1024_S1024_d0 h_S_) main_arg5 main_cst
  let main_v1 : FVec F S1024 .f32 := Host.absf main_v0
  let main_cst_0 : FVec F S_ .f32 := constant S_ .f32 0x7F800000#32
  let main_v2 : FVec F S1024 .f32 := broadcastInDim S1024 ![] bcast_S_S1024 main_cst_0
  let main_v3 : IVec S1024 1 := cmpf .olt main_v1 main_v2
  let main_c : IVec S_ 1 := constantI S_ 1 1#1
  let main_v4 : IVec S_ 1 := (fun x v => Host.reduce IntOp.andi x v reducesTo_S1024_S_d0 h_S_) main_v3 main_c
  main_v4
-- ==== Pre_finite.lean ====
abbrev S8x8x16x256x512 : Shape := ⟨5, ![8, 8, 16, 256, 512]⟩
abbrev S8x8x8192x256 : Shape := ⟨4, ![8, 8, 8192, 256]⟩
abbrev S8x8x8192x128 : Shape := ⟨4, ![8, 8, 8192, 128]⟩
abbrev S_ : Shape := ⟨0, ![]⟩

class Facts : Prop where
  bitsLt_bf16_f32 : FTy.bits .bf16 < FTy.bits .f32
  bcast_S_S8x8x16x256x512 : S_.BroadcastsInDim S8x8x16x256x512 (![] : Fin 0 → Fin S8x8x16x256x512.rank)
  reducesTo_S8x8x16x256x512_S_d0_1_2_3_4 : S8x8x16x256x512.ReducesTo [0, 1, 2, 3, 4] S_
  h_S_ : 0 < S_.numel
  bcast_S_S8x8x8192x256 : S_.BroadcastsInDim S8x8x8192x256 (![] : Fin 0 → Fin S8x8x8192x256.rank)
  reducesTo_S8x8x8192x256_S_d0_1_2_3 : S8x8x8192x256.ReducesTo [0, 1, 2, 3] S_

variable [Facts]

def fn {F : FTy → Type} [FloatOps F] (main_arg0 : FVec F S8x8x16x256x512 .bf16) (main_arg1 : FVec F S8x8x8192x256 .bf16) (main_arg2 : FVec F S8x8x8192x128 .bf16) : IVec S_ 1 :=
  let main_v0 : FVec F S8x8x16x256x512 .f32 := (extf .f32 · bitsLt_bf16_f32) main_arg0
  let main_v1 : FVec F S8x8x16x256x512 .f32 := Host.absf main_v0
  let main_cst : FVec F S_ .f32 := constant S_ .f32 0x7F800000#32
  let main_v2 : FVec F S8x8x16x256x512 .f32 := broadcastInDim S8x8x16x256x512 ![] bcast_S_S8x8x16x256x512 main_cst
  let main_v3 : IVec S8x8x16x256x512 1 := cmpf .olt main_v1 main_v2
  let main_c : IVec S_ 1 := constantI S_ 1 1#1
  let main_v4 : IVec S_ 1 := (fun x v => Host.reduce IntOp.andi x v reducesTo_S8x8x16x256x512_S_d0_1_2_3_4 h_S_) main_v3 main_c
  let main_v5 : FVec F S8x8x8192x256 .f32 := (extf .f32 · bitsLt_bf16_f32) main_arg1
  let main_v6 : FVec F S8x8x8192x256 .f32 := Host.absf main_v5
  let main_cst_0 : FVec F S_ .f32 := constant S_ .f32 0x7F800000#32
  let main_v7 : FVec F S8x8x8192x256 .f32 := broadcastInDim S8x8x8192x256 ![] bcast_S_S8x8x8192x256 main_cst_0
  let main_v8 : IVec S8x8x8192x256 1 := cmpf .olt main_v6 main_v7
  let main_c_1 : IVec S_ 1 := constantI S_ 1 1#1
  let main_v9 : IVec S_ 1 := (fun x v => Host.reduce IntOp.andi x v reducesTo_S8x8x8192x256_S_d0_1_2_3 h_S_) main_v8 main_c_1
  let main_v10 : IVec S_ 1 := andi main_v4 main_v9
  main_v10
-- ==== Kernel.lean ====
abbrev S8x8x16x256x512 : Shape := ⟨5, ![8, 8, 16, 256, 512]⟩
abbrev S8x8x8192x256 : Shape := ⟨4, ![8, 8, 8192, 256]⟩
abbrev S8x8x8192x128 : Shape := ⟨4, ![8, 8, 8192, 128]⟩
abbrev S8x8192x1024 : Shape := ⟨3, ![8, 8192, 1024]⟩
abbrev S1x1x16x256x512 : Shape := ⟨5, ![1, 1, 16, 256, 512]⟩
abbrev S1x1x8192x256 : Shape := ⟨4, ![1, 1, 8192, 256]⟩
abbrev S1x1x8192x128 : Shape := ⟨4, ![1, 1, 8192, 128]⟩
abbrev S1x8192x128 : Shape := ⟨3, ![1, 8192, 128]⟩
abbrev S8x144x1024 : Shape := ⟨3, ![8, 144, 1024]⟩
abbrev S3x1024x512 : Shape := ⟨3, ![3, 1024, 512]⟩
abbrev S3x1x512 : Shape := ⟨3, ![3, 1, 512]⟩
abbrev S2x1x256 : Shape := ⟨3, ![2, 1, 256]⟩
abbrev S2x144x256 : Shape := ⟨3, ![2, 144, 256]⟩
abbrev S1x1x1024x128 : Shape := ⟨4, ![1, 1, 1024, 128]⟩
abbrev S1024x128 : Shape := ⟨2, ![1024, 128]⟩
abbrev S128x1024 : Shape := ⟨2, ![128, 1024]⟩
abbrev S1x128x1024 : Shape := ⟨3, ![1, 128, 1024]⟩
abbrev S16x1024 : Shape := ⟨2, ![16, 1024]⟩
abbrev S1x16x1024 : Shape := ⟨3, ![1, 16, 1024]⟩
abbrev S1024x256 : Shape := ⟨2, ![1024, 256]⟩
abbrev S1x1x1024x256 : Shape := ⟨4, ![1, 1, 1024, 256]⟩
abbrev S1x1x1x256x512 : Shape := ⟨5, ![1, 1, 1, 256, 512]⟩
abbrev S256x512 : Shape := ⟨2, ![256, 512]⟩
abbrev S1024x512 : Shape := ⟨2, ![1024, 512]⟩
abbrev S1x1024x512 : Shape := ⟨3, ![1, 1024, 512]⟩
abbrev S32x32x512 : Shape := ⟨3, ![32, 32, 512]⟩
abbrev S1x32x512 : Shape := ⟨3, ![1, 32, 512]⟩
abbrev S32x512 : Shape := ⟨2, ![32, 512]⟩
abbrev S512 : Shape := ⟨1, ![512]⟩
abbrev S1x512 : Shape := ⟨2, ![1, 512]⟩
abbrev S1x1x512 : Shape := ⟨3, ![1, 1, 512]⟩
abbrev S1x144x256 : Shape := ⟨3, ![1, 144, 256]⟩
abbrev S144x256 : Shape := ⟨2, ![144, 256]⟩
abbrev S1x256x256 : Shape := ⟨3, ![1, 256, 256]⟩
abbrev S256x256 : Shape := ⟨2, ![256, 256]⟩
abbrev S8x32x256 : Shape := ⟨3, ![8, 32, 256]⟩
abbrev S1x32x256 : Shape := ⟨3, ![1, 32, 256]⟩
abbrev S32x256 : Shape := ⟨2, ![32, 256]⟩
abbrev S256 : Shape := ⟨1, ![256]⟩
abbrev S1x256 : Shape := ⟨2, ![1, 256]⟩
abbrev S1x1x256 : Shape := ⟨3, ![1, 1, 256]⟩
abbrev S1x144x512 : Shape := ⟨3, ![1, 144, 512]⟩
abbrev S144x512 : Shape := ⟨2, ![144, 512]⟩
abbrev S1x512x256 : Shape := ⟨3, ![1, 512, 256]⟩
abbrev S512x256 : Shape := ⟨2, ![512, 256]⟩
abbrev S16x32x256 : Shape := ⟨3, ![16, 32, 256]⟩
abbrev S128x256 : Shape := ⟨2, ![128, 256]⟩
abbrev S256x128 : Shape := ⟨2, ![256, 128]⟩
abbrev S1x256x128 : Shape := ⟨3, ![1, 256, 128]⟩
abbrev S1x144x768 : Shape := ⟨3, ![1, 144, 768]⟩
abbrev S144x768 : Shape := ⟨2, ![144, 768]⟩
abbrev S1x768x256 : Shape := ⟨3, ![1, 768, 256]⟩
abbrev S768x256 : Shape := ⟨2, ![768, 256]⟩
abbrev S24x32x256 : Shape := ⟨3, ![24, 32, 256]⟩
abbrev S1x144x1024 : Shape := ⟨3, ![1, 144, 1024]⟩
abbrev S144x1024 : Shape := ⟨2, ![144, 1024]⟩
abbrev S1x1024x256 : Shape := ⟨3, ![1, 1024, 256]⟩
abbrev S32x32x256 : Shape := ⟨3, ![32, 32, 256]⟩

abbrev nBuf : Space → Nat
  | .hbm => 4
  | .vmem => 13
  | .smem => 0
  | _ => 0

abbrev bufTy : (tb : Table) → Fin (tcTables nBuf tb) → BufTy
  | .hbm, ⟨0, _⟩ => ⟨S8x8x16x256x512, .bf16⟩
  | .hbm, ⟨1, _⟩ => ⟨S8x8x8192x256, .bf16⟩
  | .hbm, ⟨2, _⟩ => ⟨S8x8x8192x128, .bf16⟩
  | .hbm, ⟨3, _⟩ => ⟨S8x8192x1024, .bf16⟩
  | .local _ .vmem, ⟨0, _⟩ => ⟨S1x1x16x256x512, .bf16⟩
  | .local _ .vmem, ⟨1, _⟩ => ⟨S1x1x16x256x512, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S8x144x1024, .bf16⟩
  | .local _ .vmem, ⟨9, _⟩ => ⟨S3x1024x512, .f32⟩
  | .local _ .vmem, ⟨10, _⟩ => ⟨S3x1x512, .f32⟩
  | .local _ .vmem, ⟨11, _⟩ => ⟨S2x1x256, .f32⟩
  | .local _ .vmem, ⟨12, _⟩ => ⟨S2x144x256, .f32⟩
  | _, _ => ⟨S8x8x16x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_100 : BitVec 32 := 0#32
  let c2_i32 : BitVec 32 := 2#32
  let v267 : BitVec 32 := Scalar.addi c0_i32_100 c2_i32
  let c1_i32_101 : BitVec 32 := 1#32
  ⟨c0_i32_100, v267, c1_i32_101⟩
def k0_cond1 (k0_t1 : Fin k0_t1_loop.trips) : BitVec 1 :=
  let c0_i32_100 : BitVec 32 := 0#32
  let c1_i32_101 : BitVec 32 := 1#32
  let arg11 : BitVec 32 := Scf.iv c0_i32_100 c1_i32_101 k0_t1
  let c0_i32_103 : BitVec 32 := 0#32
  let v268 : BitVec 1 := Scalar.cmpi .eq arg11 c0_i32_103
  let v269 : BitVec 32 := Scalar.extui v268
  let c0_i32_104 : BitVec 32 := 0#32
  let v270 : BitVec 1 := Scalar.cmpi .ne v269 c0_i32_104
  v270

def k0_cond2 (k0_t1 : Fin k0_t1_loop.trips) : BitVec 1 :=
  let c0_i32_100 : BitVec 32 := 0#32
  let c1_i32_101 : BitVec 32 := 1#32
  let arg11 : BitVec 32 := Scf.iv c0_i32_100 c1_i32_101 k0_t1
  let c1_i32_105 : BitVec 32 := 1#32
  let v271 : BitVec 1 := Scalar.cmpi .eq arg11 c1_i32_105
  let v272 : BitVec 32 := Scalar.extui v271
  let c0_i32_106 : BitVec 32 := 0#32
  let v273 : BitVec 1 := Scalar.cmpi .ne v272 c0_i32_106
  v273

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8x16x256x512 : Shape := ⟨5, ![8, 8, 16, 256, 512]⟩
abbrev S8x8x8192x256 : Shape := ⟨4, ![8, 8, 8192, 256]⟩
abbrev S8x8x8192x128 : Shape := ⟨4, ![8, 8, 8192, 128]⟩
abbrev S8x8x16x512x256 : Shape := ⟨5, ![8, 8, 16, 512, 256]⟩
abbrev S8x8x8192x8192 : Shape := ⟨4, ![8, 8, 8192, 8192]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8x8192 : Shape := ⟨3, ![8, 8, 8192]⟩
abbrev S8x8x8192x1 : Shape := ⟨4, ![8, 8, 8192, 1]⟩
abbrev S8x8x128x8192 : Shape := ⟨4, ![8, 8, 128, 8192]⟩
abbrev S8x8192x8x128 : Shape := ⟨4, ![8, 8192, 8, 128]⟩
abbrev S8x8192x1024 : Shape := ⟨3, ![8, 8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x8x16x256x512, .bf16⟩
  | .hbm, ⟨1, _⟩ => ⟨S8x8x8192x256, .bf16⟩
  | .hbm, ⟨2, _⟩ => ⟨S8x8x8192x128, .bf16⟩
  | .hbm, ⟨3, _⟩ => ⟨S8x8x16x512x256, .bf16⟩
  | .hbm, ⟨4, _⟩ => ⟨S8x8x8192x256, .bf16⟩
  | .hbm, ⟨5, _⟩ => ⟨S8x8x8192x256, .f32⟩
  | .hbm, ⟨6, _⟩ => ⟨S8x8x8192x256, .f32⟩
  | .hbm, ⟨7, _⟩ => ⟨S8x8x8192x8192, .f32⟩
  | .hbm, ⟨8, _⟩ => ⟨S8x8x8192x8192, .bf16⟩
  | .hbm, ⟨9, _⟩ => ⟨S8x8x8192x8192, .f32⟩
  | .hbm, ⟨10, _⟩ => ⟨S8192, .i32⟩
  | .hbm, ⟨11, _⟩ => ⟨S_, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8x8x8192x8192, .i1⟩
  | .hbm, ⟨37, _⟩ => ⟨S8x8x8192x8192, .f32⟩
  | .hbm, ⟨38, _⟩ => ⟨S8x8x8192x8192, .f32⟩
  | .hbm, ⟨39, _⟩ => ⟨S_, .f32⟩
  | .hbm, ⟨40, _⟩ => ⟨S8x8x8192, .f32⟩
  | .hbm, ⟨41, _⟩ => ⟨S8x8x8192x1, .f32⟩
  | .hbm, ⟨42, _⟩ => ⟨S8x8x8192x8192, .f32⟩
  | .hbm, ⟨43, _⟩ => ⟨S8x8x8192x8192, .f32⟩
  | .hbm, ⟨44, _⟩ => ⟨S_, .f32⟩
  | .hbm, ⟨45, _⟩ => ⟨S8x8x8192x8192, .f32⟩
  | .hbm, ⟨46, _⟩ => ⟨S8x8x8192x8192, .f32⟩
  | .hbm, ⟨47, _⟩ => ⟨S_, .f32⟩
  | .hbm, ⟨48, _⟩ => ⟨S8x8x8192, .f32⟩
  | .hbm, ⟨49, _⟩ => ⟨S8x8x8192x1, .f32⟩
  | .hbm, ⟨50, _⟩ => ⟨S8x8x8192x8192, .f32⟩
  | .hbm, ⟨51, _⟩ => ⟨S8x8x8192x8192, .f32⟩
  | .hbm, ⟨52, _⟩ => ⟨S8x8x8192x8192, .bf16⟩
  | .hbm, ⟨53, _⟩ => ⟨S8x8x8192x8192, .f32⟩
  | .hbm, ⟨54, _⟩ => ⟨S8x8x8192x128, .f32⟩
  | .hbm, ⟨55, _⟩ => ⟨S8x8x128x8192, .f32⟩
  | .hbm, ⟨56, _⟩ => ⟨S8x8192x8x128, .f32⟩
  | .hbm, ⟨57, _⟩ => ⟨S8x8192x8x128, .bf16⟩
  | .hbm, ⟨58, _⟩ => ⟨S8x8192x1024, .bf16⟩
  | _, _ => ⟨S8x8x16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 10
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S1x1024, .f32⟩
  | .hbm, ⟨7, _⟩ => ⟨S2816x1024, .bf16⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S1x1024, .f32⟩
  | .hbm, ⟨7, _⟩ => ⟨S2816x1024, .bf16⟩
  | .hbm, ⟨8, _⟩ => ⟨S1x1024, .f32⟩
  | .hbm, ⟨9, _⟩ => ⟨S65536x1024, .f32⟩
  | .hbm, ⟨10, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | .hbm, ⟨55, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel4.lean ====
abbrev S65536x1024 : Shape := ⟨2, ![65536, 1024]⟩
abbrev S65536x2048 : Shape := ⟨2, ![65536, 2048]⟩
abbrev S1024x1024 : Shape := ⟨2, ![1024, 1024]⟩
abbrev S1024x2048 : Shape := ⟨2, ![1024, 2048]⟩

abbrev nBuf : Space → Nat
  | .hbm => 11
  | .vmem => 13
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x2048, .bf16⟩
  | .hbm, ⟨3, _⟩ => ⟨S65536x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S65536x1024 : Shape := ⟨2, ![65536, 1024]⟩
abbrev S65536x2048 : Shape := ⟨2, ![65536, 2048]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x2048, .bf16⟩
  | .hbm, ⟨3, _⟩ => ⟨S65536x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S65536x2048, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel5.lean ====
abbrev S65536x1024 : Shape := ⟨2, ![65536, 1024]⟩
abbrev S65536x1 : Shape := ⟨2, ![65536, 1]⟩
abbrev S1024x4800 : Shape := ⟨2, ![1024, 4800]⟩
abbrev S1024x2048 : Shape := ⟨2, ![1024, 2048]⟩
abbrev S2048 : Shape := ⟨1, ![2048]⟩
abbrev S2x1024 : Shape := ⟨2, ![2, 1024]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S192 : Shape := ⟨1, ![192]⟩
abbrev S1024x64 : Shape := ⟨2, ![1024, 64]⟩
abbrev S1024x32 : Shape := ⟨2, ![1024, 32]⟩
abbrev S1024x4864 : Shape := ⟨2, ![1024, 4864]⟩
abbrev S384x8x192 : Shape := ⟨3, ![384, 8, 192]⟩
abbrev S384x8x64 : Shape := ⟨3, ![384, 8, 64]⟩
abbrev S384x8x128 : Shape := ⟨3, ![384, 8, 128]⟩
abbrev S384x1024 : Shape := ⟨2, ![384, 1024]⟩
abbrev S384x8x32 : Shape := ⟨3, ![384, 8, 32]⟩
abbrev S384x2048 : Shape := ⟨2, ![384, 2048]⟩
abbrev S256x8x256 : Shape := ⟨3, ![256, 8, 256]⟩
abbrev S256x8x128 : Shape := ⟨3, ![256, 8, 128]⟩
abbrev S256x1024 : Shape := ⟨2, ![256, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x2048 : Shape := ⟨2, ![1, 2048]⟩
abbrev S1x384 : Shape := ⟨2, ![1, 384]⟩
abbrev S1x256 : Shape := ⟨2, ![1, 256]⟩
abbrev S64 : Shape := ⟨1, ![64]⟩
abbrev S65536x2048 : Shape := ⟨2, ![65536, 2048]⟩
abbrev S8x8x16x256x512 : Shape := ⟨5, ![8, 8, 16, 256, 512]⟩
abbrev S8x8x8192x256 : Shape := ⟨4, ![8, 8, 8192, 256]⟩
abbrev S8x8x8192x128 : Shape := ⟨4, ![8, 8, 8192, 128]⟩
abbrev S256x1 : Shape := ⟨2, ![256, 1]⟩
abbrev S1x8x1x256x256 : Shape := ⟨5, ![1, 8, 1, 256, 256]⟩
abbrev S1x8x256x256 : Shape := ⟨4, ![1, 8, 256, 256]⟩
abbrev S1x8x256x128 : Shape := ⟨4, ![1, 8, 256, 128]⟩
abbrev S1024x768 : Shape := ⟨2, ![1024, 768]⟩
abbrev S256x768 : Shape := ⟨2, ![256, 768]⟩
abbrev S1024x1024 : Shape := ⟨2, ![1024, 1024]⟩
abbrev S256x384 : Shape := ⟨2, ![256, 384]⟩
abbrev S256x256 : Shape := ⟨2, ![256, 256]⟩
abbrev S256x128 : Shape := ⟨2, ![256, 128]⟩
abbrev S1024 : Shape := ⟨1, ![1024]⟩
abbrev S1x1024 : Shape := ⟨2, ![1, 1024]⟩
abbrev S64x128 : Shape := ⟨2, ![64, 128]⟩
abbrev S64x1 : Shape := ⟨2, ![64, 1]⟩
abbrev S1x1x1x256x256 : Shape := ⟨5, ![1, 1, 1, 256, 256]⟩
abbrev S1x1x256x128 : Shape := ⟨4, ![1, 1, 256, 128]⟩

abbrev nBuf : Space → Nat
  | .hbm => 87
  | .vmem => 34
  | .smem => 0
  | _ => 0

abbrev bufTy : (tb : Table) → Fin (tcTables nBuf tb) → BufTy
  | .hbm, ⟨0, _⟩ => ⟨S65536x1024, .bf16⟩
  | .hbm, ⟨1, _⟩ => ⟨S65536x1, .i32⟩
  | .hbm, ⟨2, _⟩ => ⟨S1024x4800, .f32⟩
  | .hbm, ⟨3, _⟩ => ⟨S1024x2048, .f32⟩
  | .hbm, ⟨4, _⟩ => ⟨S2048, .f32⟩
  | .hbm, ⟨5, _⟩ => ⟨S2x1024, .f32⟩
  | .hbm, ⟨6, _⟩ => ⟨S384, .f32⟩
  | .hbm, ⟨7, _⟩ => ⟨S384x1536, .f32⟩
  | .hbm, ⟨8, _⟩ => ⟨S256, .f32⟩
  | .hbm, ⟨9, _⟩ => ⟨S256x2048, .f32⟩
  | .hbm, ⟨10, _⟩ => ⟨S192, .f32⟩
  | .hbm, ⟨11, _⟩ => ⟨S192, .f32⟩
  | .hbm, ⟨12, _⟩ => ⟨S1024x64, .f32⟩
  | .hbm, ⟨13, _⟩ => ⟨S1024x32, .f32⟩
  | .hbm, ⟨14, _⟩ => ⟨S1024x32, .f32⟩
  | .hbm, ⟨15, _⟩ => ⟨S1024x32, .f32⟩
  | .hbm, ⟨16, _⟩ => ⟨S1024x64, .f32⟩
  | .hbm, ⟨17, _⟩ => ⟨S1024x4864, .f32⟩
  | .hbm, ⟨18, _⟩ => ⟨S1024x4864, .bf16⟩
  | .hbm, ⟨19, _⟩ => ⟨S384x8x192, .f32⟩
  | .hbm, ⟨20, _⟩ => ⟨S384x8x64, .f32⟩
  | .hbm, ⟨21, _⟩ => ⟨S384x8x128, .f32⟩
  | .hbm, ⟨22, _⟩ => ⟨S384x1024, .f32⟩
  | .hbm, ⟨23, _⟩ => ⟨S384x8x32, .f32⟩
  | .hbm, ⟨24, _⟩ => ⟨S384x8x32, .f32⟩
  | .hbm, ⟨25, _⟩ => ⟨S384x8x32, .f32⟩
  | .hbm, ⟨26, _⟩ => ⟨S384x8x64, .f32⟩
  | .hbm, ⟨27, _⟩ => ⟨S384x8x128, .f32⟩
  | .hbm, ⟨28, _⟩ => ⟨S384x1024, .f32⟩
  | .hbm, ⟨29, _⟩ => ⟨S384x2048, .f32⟩
  | .hbm, ⟨30, _⟩ => ⟨S384x2048, .bf16⟩
  | .hbm, ⟨31, _⟩ => ⟨S256x8x256, .f32⟩
  | .hbm, ⟨32, _⟩ => ⟨S256x8x128, .f32⟩
  | .hbm, ⟨33, _⟩ => ⟨S256x1024, .f32⟩
  | .hbm, ⟨34, _⟩ => ⟨S256x8x128, .f32⟩
  | .hbm, ⟨35, _⟩ => ⟨S256x1024, .f32⟩
  | .hbm, ⟨36, _⟩ => ⟨S256x2048, .f32⟩
  | .hbm, ⟨37, _⟩ => ⟨S256x2048, .bf16⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S1x32, .f32⟩
  | .hbm, ⟨53, _⟩ => ⟨S4x32, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S1024x2048, .bf16⟩
  | .hbm, ⟨61, _⟩ => ⟨S1x2048, .f32⟩
  | .hbm, ⟨62, _⟩ => ⟨S1x384, .f32⟩
  | .hbm, ⟨63, _⟩ => ⟨S1x256, .f32⟩
  | .hbm, ⟨64, _⟩ => ⟨S64, .f32⟩
  | .hbm, ⟨65, _⟩ => ⟨S64, .f32⟩
  | .hbm, ⟨66, _⟩ => ⟨S32, .f32⟩
  | .hbm, ⟨67, _⟩ => ⟨S32, .f32⟩
  | .hbm, ⟨68, _⟩ => ⟨S64, .f32⟩
  | .hbm, ⟨69, _⟩ => ⟨S128, .f32⟩
  | .hbm, ⟨70, _⟩ => ⟨S1x128, .f32⟩
  | .hbm, ⟨71, _⟩ => ⟨S64, .f32⟩
  | .hbm, ⟨72, _⟩ => ⟨S64, .f32⟩
  | .hbm, ⟨73, _⟩ => ⟨S32, .f32⟩
  | .hbm, ⟨74, _⟩ => ⟨S32, .f32⟩
  | .hbm, ⟨75, _⟩ => ⟨S64, .f32⟩
  | .hbm, ⟨76, _⟩ => ⟨S128, .f32⟩
  | .hbm, ⟨77, _⟩ => ⟨S1x128, .f32⟩
  | .hbm, ⟨78, _⟩ => ⟨S65536x1024, .bf16⟩
  | .hbm, ⟨79, _⟩ => ⟨S65536x1024, .f32⟩
  | .hbm, ⟨80, _⟩ => ⟨S65536x1024, .bf16⟩
  | .hbm, ⟨81, _⟩ => ⟨S65536x1024, .bf16⟩
  | .hbm, ⟨82, _⟩ => ⟨S65536x1024, .bf16⟩
  | .hbm, ⟨83, _⟩ => ⟨S65536x2048, .bf16⟩
  | .hbm, ⟨84, _⟩ => ⟨S8x8x16x256x512, .bf16⟩
  | .hbm, ⟨85, _⟩ => ⟨S8x8x8192x256, .bf16⟩
  | .hbm, ⟨86, _⟩ => ⟨S8x8x8192x128, .bf16⟩
  | .local _ .vmem, ⟨0, _⟩ => ⟨S256x1024, .bf16⟩
  | .local _ .vmem, ⟨1, _⟩ => ⟨S256x1024, .bf16⟩
  | .local _ .vmem, ⟨2, _⟩ => ⟨S256x1, .i32⟩
  | .local _ .vmem, ⟨3, _⟩ => ⟨S256x1, .i32⟩
  | .local _ .vmem, ⟨4, _⟩ => ⟨S1024x4864, .bf16⟩
  | .local _ .vmem, ⟨5, _⟩ => ⟨S1024x2048, .bf16⟩
  | .local _ .vmem, ⟨6, _⟩ => ⟨S1x2048, .f32⟩
  | .local _ .vmem, ⟨7, _⟩ => ⟨S2x1024, .f32⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x2048, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .vmem, ⟨28, _⟩ => ⟨S1x8x1x256x256, .bf16⟩
  | .local _ .vmem, ⟨29, _⟩ => ⟨S1x8x1x256x256, .bf16⟩
  | .local _ .vmem, ⟨30, _⟩ => ⟨S1x8x256x256, .bf16⟩
  | .local _ .vmem, ⟨31, _⟩ => ⟨S1x8x256x256, .bf16⟩
  | .local _ .vmem, ⟨32, _⟩ => ⟨S1x8x256x128, .bf16⟩
  | .local _ .vmem, ⟨33, _⟩ => ⟨S1x8x256x128, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev main_v62_5 : Ref sig .tc := ⟨.hbm, 83, rfl⟩
abbrev main_v62_6 : Ref sig .tc := ⟨.hbm, 84, rfl⟩
abbrev main_v62_7 : Ref sig .tc := ⟨.hbm, 85, rfl⟩
abbrev main_v62_8 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.divsi v26 c2_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, c0_i32_22.toNat, v43.toNat, c0_i32_23.toNat, v53.toNat]

def cc0_transform_21 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_22 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference5Ideal.lean ====
abbrev S65536x1024 : Shape := ⟨2, ![65536, 1024]⟩
abbrev S65536x1 : Shape := ⟨2, ![65536, 1]⟩
abbrev S1024x4800 : Shape := ⟨2, ![1024, 4800]⟩
abbrev S1024x2048 : Shape := ⟨2, ![1024, 2048]⟩
abbrev S2048 : Shape := ⟨1, ![2048]⟩
abbrev S2x1024 : Shape := ⟨2, ![2, 1024]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S192 : Shape := ⟨1, ![192]⟩
abbrev S65536x4800 : Shape := ⟨2, ![65536, 4800]⟩
abbrev S65536x384 : Shape := ⟨2, ![65536, 384]⟩
abbrev S65536x256 : Shape := ⟨2, ![65536, 256]⟩
abbrev S65536x64 : Shape := ⟨2, ![65536, 64]⟩
abbrev S65536x2048 : Shape := ⟨2, ![65536, 2048]⟩
abbrev S1x2048 : Shape := ⟨2, ![1, 2048]⟩
abbrev S_ : Shape := ⟨0, ![]⟩
abbrev S65536 : Shape := ⟨1, ![65536]⟩
abbrev S1x256 : Shape := ⟨2, ![1, 256]⟩
abbrev S8x8192x8x256 : Shape := ⟨4, ![8, 8192, 8, 256]⟩
abbrev S8x8192x8x128 : Shape := ⟨4, ![8, 8192, 8, 128]⟩
abbrev S8x8x8192x128 : Shape := ⟨4, ![8, 8, 8192, 128]⟩
abbrev S1024 : Shape := ⟨1, ![1024]⟩
abbrev S1x1024 : Shape := ⟨2, ![1, 1024]⟩

abbrev nBuf : Space → Nat
  | .hbm => 137
  | .vmem => 0
  | .smem => 0
  | _ => 0

abbrev hbmTy0_0 (i : Nat) : BufTy := match i % 128 with
  | 0 => ⟨S65536x1024, .bf16⟩
  | 1 => ⟨S65536x1, .i32⟩
  | 2 => ⟨S1024x4800, .f32⟩
  | 3 => ⟨S1024x2048, .f32⟩
  | 4 => ⟨S2048, .f32⟩
  | 5 => ⟨S2x1024, .f32⟩
  | 6 => ⟨S384, .f32⟩
  | 7 => ⟨S384x1536, .f32⟩
  | 8 => ⟨S256, .f32⟩
  | 9 => ⟨S256x2048, .f32⟩
  | 10 => ⟨S192, .f32⟩
  | 11 => ⟨S192, .f32⟩
  | 12 => ⟨S65536x1024, .f32⟩
  | 13 => ⟨S65536x4800, .f32⟩
  | 14 => ⟨S65536x1024, .f32⟩
  | 15 => ⟨S65536x1024, .f32⟩
  | 16 => ⟨S65536x1024, .f32⟩
  | 17 => ⟨S65536x1024, .f32⟩
  | 18 => ⟨S65536x384, .f32⟩
  | 19 => ⟨S65536x256, .f32⟩
  | 20 => ⟨S65536x64, .f32⟩
  | 21 => ⟨S65536x2048, .f32⟩
  | 22 => ⟨S1x2048, .f32⟩
  | 23 => ⟨S65536x2048, .f32⟩
  | 24 => ⟨S65536x2048, .f32⟩
  | 25 => ⟨S65536x2048, .f32⟩
  | 26 => ⟨S65536x2048, .f32⟩
  | 27 => ⟨S_, .f32⟩
  | 28 => ⟨S65536x2048, .f32⟩
  | 29 => ⟨S65536x2048, .f32⟩
  | 30 => ⟨S_, .f32⟩
  | 31 => ⟨S65536x2048, .f32⟩
  | 32 => ⟨S65536x2048, .f32⟩
  | 33 => ⟨S65536x256, .f32⟩
  | 34 => ⟨S_, .f32⟩
  | 35 => ⟨S65536, .f32⟩
  | 36 => ⟨S65536x1, .f32⟩
  | 37 => ⟨S_, .f32⟩
  | 38 => ⟨S65536x1, .f32⟩
  | 39 => ⟨S65536x1, .f32⟩
  | 40 => ⟨S_, .f32⟩
  | 41 => ⟨S65536x1, .f32⟩
  | 42 => ⟨S65536x1, .f32⟩
  | 43 => ⟨S65536x1, .f32⟩
  | 44 => ⟨S65536x256, .f32⟩
  | 45 => ⟨S65536x256, .f32⟩
  | 46 => ⟨S1x256, .f32⟩
  | 47 => ⟨S65536x256, .f32⟩
  | 48 => ⟨S65536x256, .f32⟩
  | 49 => ⟨S65536x2048, .f32⟩
  | 50 => ⟨S8x8192x8x256, .f32⟩
  | 51 => ⟨S8x8192x8x128, .f32⟩
  | 52 => ⟨S8x8x8192x128, .f32⟩
  | 53 => ⟨S_, .f32⟩
  | 54 => ⟨S1024, .f32⟩
  | 55 => ⟨S_, .f32⟩
  | 56 => ⟨S1024, .f32⟩
  | 57 => ⟨S1024, .f32⟩
  | 58 => ⟨S1x1024, .f32⟩
  | 59 => ⟨S2x1024, .f32⟩
  | 60 => ⟨S2x1024, .f32⟩
  | 61 => ⟨S2x1024, .f32⟩
  | 62 => ⟨S_, .f32⟩
  | 63 => ⟨S1024, .f32⟩
  | 64 => ⟨S1x1024, .f32⟩
  | 65 => ⟨S2x1024, .f32⟩
  | 66 => ⟨S2x1024, .f32⟩
  | 67 => ⟨S_, .f32⟩
  | 68 => ⟨S_, .f32⟩
  | 69 => ⟨S2x1024, .f32⟩
  | 70 => ⟨S1x1024, .f32⟩
  | 71 => ⟨S1024, .f32⟩
  | 72 => ⟨S1024, .f32⟩
  | 73 => ⟨S1024, .f32⟩
  | 74 => ⟨S1024, .f32⟩
  | 75 => ⟨S65536x1024, .f32⟩
  | 76 => ⟨S_, .f32⟩
  | 77 => ⟨S65536x1024, .f32⟩
  | 78 => ⟨S65536x1024, .f32⟩
  | 79 => ⟨S65536x1024, .f32⟩
  | 80 => ⟨S65536x1024, .f32⟩
  | 81 => ⟨S65536x1024, .i1⟩
  | 82 => ⟨S65536x1024, .f32⟩
  | 83 => ⟨S65536x1024, .f32⟩
  | 84 => ⟨S65536x1024, .f32⟩
  | 85 => ⟨S65536x1024, .f32⟩
  | 86 => ⟨S65536x1024, .f32⟩
  | 87 => ⟨S65536x1024, .f32⟩
  | 88 => ⟨S65536x1024, .f32⟩
  | 89 => ⟨S65536x1024, .f32⟩
  | 90 => ⟨S65536x1024, .f32⟩
  | 91 => ⟨S1x1024, .f32⟩
  | 92 => ⟨S65536x1024, .f32⟩
  | 93 => ⟨S65536x1024, .f32⟩
  | 94 => ⟨S1x1024, .f32⟩
  | 95 => ⟨S65536x1024, .f32⟩
  | 96 => ⟨S65536x1024, .f32⟩
  | 97 => ⟨S65536x1024, .f32⟩
  | 98 => ⟨S65536x1024, .f32⟩
  | 99 => ⟨S65536x1024, .i1⟩
  | 100 => ⟨S65536x1024, .f32⟩
  | 101 => ⟨S65536x1024, .f32⟩
  | 102 => ⟨S65536x1024, .f32⟩
  | 103 => ⟨S65536x1024, .f32⟩
  | 104 => ⟨S65536x1024, .f32⟩
  | 105 => ⟨S65536x1024, .f32⟩
  | 106 => ⟨S65536x1024, .f32⟩
  | 107 => ⟨S65536x1024, .f32⟩
  | 108 => ⟨S65536x1024, .f32⟩
  | 109 => ⟨S65536x1024, .f32⟩
  | 110 => ⟨S65536x1024, .f32⟩
  | 111 => ⟨S65536x1024, .f32⟩
  | 112 => ⟨S_, .f32⟩
  | 113 => ⟨S65536x1024, .f32⟩
  | 114 => ⟨S65536x1024, .f32⟩
  | 115 => ⟨S_, .f32⟩
  | 116 => ⟨S65536x1024, .f32⟩
  | 117 => ⟨S65536x1024, .f32⟩
  | 118 => ⟨S65536x1024, .f32⟩
  | 119 => ⟨S65536x1024, .bf16⟩
  | 120 => ⟨S_, .f32⟩
  | 121 => ⟨S65536x1024, .f32⟩
  | 122 => ⟨S65536x1024, .f32⟩
  | 123 => ⟨S65536x1024, .bf16⟩
  | 124 => ⟨S65536x1024, .bf16⟩
  | 125 => ⟨S65536x1024, .f32⟩
  | 126 => ⟨S65536x1024, .f32⟩
  | 127 => ⟨S_, .f32⟩
  | _ => ⟨S65536x1024, .bf16⟩

abbrev hbmTy0_1 (i : Nat) : BufTy := match i % 128 with
  | 0 => ⟨S65536x1024, .f32⟩
  | 1 => ⟨S65536x1024, .f32⟩
  | 2 => ⟨S_, .f32⟩
  | 3 => ⟨S65536x1024, .f32⟩
  | 4 => ⟨S65536x1024, .f32⟩
  | 5 => ⟨S65536x1024, .f32⟩
  | 6 => ⟨S65536x1024, .bf16⟩
  | 7 => ⟨S65536x2048, .bf16⟩
  | 8 => ⟨S8x8x8192x128, .bf16⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_call0_cst : Ref sig .tc := ⟨.hbm, 67, rfl⟩
abbrev main_call0_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v73 : Ref sig .tc := ⟨.hbm, 118, rfl⟩
abbrev main_v74 : Ref sig .tc := ⟨.hbm, 119, rfl⟩
abbrev main_cst_7 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call3_v0 : Ref sig .tc := ⟨.hbm, 125, rfl⟩
abbrev main_call3_v1 : Ref sig .tc := ⟨.hbm, 126, rfl⟩
abbrev main_call3_cst : Ref sig .tc := ⟨.hbm, 127, rfl⟩
abbrev main_call3_v2 : Ref sig .tc := ⟨.hbm, 128, rfl⟩
abbrev main_call3_v3 : Ref sig .tc := ⟨.hbm, 129, rfl⟩
abbrev main_call3_cst_0 : Ref sig .tc := ⟨.hbm, 130, rfl⟩
abbrev main_call3_v4 : Ref sig .tc := ⟨.hbm, 131, rfl⟩
abbrev main_call3_v5 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩

abbrev nD : Nat := 1
abbrev τ : Topo := Topo.v7x

variable {F : FTy → Type} [FloatOps F]
-- ==== Proof.ProjFrame.lean ====
/-
  The projections: the program runs to its end, its arguments unchanged and every semaphore at zero, and each of its
  arrays is named after the run.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each array of the host holds when the call starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block that a window of the call reads or writes at a step. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1380000 in
/-- A run that names every array after the call leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

abbrev r0_0 : Rect S256x1024 := Rect.unit (s := S256x1024) ![0, 0] S256x1024.size inb_S256x1024_S256x1024_0_0
abbrev r0_1 : Rect S1024x4864 := Rect.unit (s := S1024x4864) ![0, 4096] S1024x768.size inb_S1024x4864_S1024x768_0_4096
abbrev r0_2 : Rect S1024x4864 := Rect.unit (s := S1024x4864) ![0, 0] S1024x1024.size inb_S1024x4864_S1024x1024_0_0
abbrev r0_3 : Rect S1x384 := Rect.unit (s := S1x384) ![0, 0] S1x384.size inb_S1x384_S1x384_0_0
abbrev r0_4 : Rect S384x2048 := Rect.unit (s := S384x2048) ![0, 0] S384x2048.size inb_S384x2048_S384x2048_0_0
abbrev r0_5 : Rect S1x256 := Rect.unit (s := S1x256) ![0, 0] S1x256.size inb_S1x256_S1x256_0_0
abbrev r0_6 : Rect S256x2048 := Rect.unit (s := S256x2048) ![0, 0] S256x2048.size inb_S256x2048_S256x2048_0_0
abbrev r0_7 : Rect S2x1024 := Rect.unit (s := S2x1024) ![0, 0] S2x1024.size inb_S2x1024_S2x1024_0_0
abbrev r0_8 : Rect S1024x4864 := Rect.unit (s := S1024x4864) ![0, 1024] S1024x1024.size inb_S1024x4864_S1024x1024_0_1024
abbrev r0_9 : Rect S1024x4864 := Rect.unit (s := S1024x4864) ![0, 2048] S1024x1024.size inb_S1024x4864_S1024x1024_0_2048
abbrev r0_10 : Rect S1024x4864 := Rect.unit (s := S1024x4864) ![0, 3072] S1024x1024.size inb_S1024x4864_S1024x1024_0_3072
abbrev r0_11 : Rect S1024x2048 := Rect.unit (s := S1024x2048) ![0, 0] S1024x1024.size inb_S1024x2048_S1024x1024_0_0
abbrev r0_12 : Rect S1x2048 := Rect.unit (s := S1x2048) ![0, 0] S1x1024.size inb_S1x2048_S1x1024_0_0
abbrev r0_13 : Rect S256x2048 := Rect.unit (s := S256x2048) ![0, 0] S256x1024.size inb_S256x2048_S256x1024_0_0
abbrev r0_14 : Rect S1024x2048 := Rect.unit (s := S1024x2048) ![0, 1024] S1024x1024.size inb_S1024x2048_S1024x1024_0_1024
abbrev r0_15 : Rect S1x2048 := Rect.unit (s := S1x2048) ![0, 1024] S1x1024.size inb_S1x2048_S1x1024_0_1024
abbrev r0_16 : Rect S256x2048 := Rect.unit (s := S256x2048) ![0, 1024] S256x1024.size inb_S256x2048_S256x1024_0_1024
abbrev r0_17 : Rect S256x1 := Rect.unit (s := S256x1) ![0, 0] S256x1.size inb_S256x1_S256x1_0_0
abbrev r0_18 : Rect S1x128 := Rect.unit (s := S1x128) ![0, 0] S1x128.size inb_S1x128_S1x128_0_0
abbrev r0_19 : Rect S1x8x1x256x256 := Rect.unit (s := S1x8x1x256x256) ![0, 0, 0, 0, 0] S1x1x1x256x256.size inb_S1x8x1x256x256_S1x1x1x256x256_0_0_0_0_0
abbrev r0_20 : Rect S1x8x256x256 := Rect.unit (s := S1x8x256x256) ![0, 0, 0, 0] S1x1x256x128.size inb_S1x8x256x256_S1x1x256x128_0_0_0_0
abbrev r0_21 : Rect S1x8x256x256 := Rect.unit (s := S1x8x256x256) ![0, 0, 0, 128] S1x1x256x128.size inb_S1x8x256x256_S1x1x256x128_0_0_0_128
abbrev r0_22 : Rect S1x8x256x128 := Rect.unit (s := S1x8x256x128) ![0, 0, 0, 0] S1x1x256x128.size inb_S1x8x256x128_S1x1x256x128_0_0_0_0
abbrev r0_23 : Rect S1x8x1x256x256 := Rect.unit (s := S1x8x1x256x256) ![0, 1, 0, 0, 0] S1x1x1x256x256.size inb_S1x8x1x256x256_S1x1x1x256x256_0_1_0_0_0
abbrev r0_24 : Rect S1x8x256x256 := Rect.unit (s := S1x8x256x256) ![0, 1, 0, 0] S1x1x256x128.size inb_S1x8x256x256_S1x1x256x128_0_1_0_0
abbrev r0_25 : Rect S1x8x256x256 := Rect.unit (s := S1x8x256x256) ![0, 1, 0, 128] S1x1x256x128.size inb_S1x8x256x256_S1x1x256x128_0_1_0_128
abbrev r0_26 : Rect S1x8x256x128 := Rect.unit (s := S1x8x256x128) ![0, 1, 0, 0] S1x1x256x128.size inb_S1x8x256x128_S1x1x256x128_0_1_0_0
abbrev r0_27 : Rect S1x8x1x256x256 := Rect.unit (s := S1x8x1x256x256) ![0, 2, 0, 0, 0] S1x1x1x256x256.size inb_S1x8x1x256x256_S1x1x1x256x256_0_2_0_0_0
abbrev r0_28 : Rect S1x8x256x256 := Rect.unit (s := S1x8x256x256) ![0, 2, 0, 0] S1x1x256x128.size inb_S1x8x256x256_S1x1x256x128_0_2_0_0
abbrev r0_29 : Rect S1x8x256x256 := Rect.unit (s := S1x8x256x256) ![0, 2, 0, 128] S1x1x256x128.size inb_S1x8x256x256_S1x1x256x128_0_2_0_128
abbrev r0_30 : Rect S1x8x256x128 := Rect.unit (s := S1x8x256x128) ![0, 2, 0, 0] S1x1x256x128.size inb_S1x8x256x128_S1x1x256x128_0_2_0_0
abbrev r0_31 : Rect S1x8x1x256x256 := Rect.unit (s := S1x8x1x256x256) ![0, 3, 0, 0, 0] S1x1x1x256x256.size inb_S1x8x1x256x256_S1x1x1x256x256_0_3_0_0_0
abbrev r0_32 : Rect S1x8x256x256 := Rect.unit (s := S1x8x256x256) ![0, 3, 0, 0] S1x1x256x128.size inb_S1x8x256x256_S1x1x256x128_0_3_0_0
abbrev r0_33 : Rect S1x8x256x256 := Rect.unit (s := S1x8x256x256) ![0, 3, 0, 128] S1x1x256x128.size inb_S1x8x256x256_S1x1x256x128_0_3_0_128
abbrev r0_34 : Rect S1x8x256x128 := Rect.unit (s := S1x8x256x128) ![0, 3, 0, 0] S1x1x256x128.size inb_S1x8x256x128_S1x1x256x128_0_3_0_0
abbrev r0_35 : Rect S1x8x1x256x256 := Rect.unit (s := S1x8x1x256x256) ![0, 4, 0, 0, 0] S1x1x1x256x256.size inb_S1x8x1x256x256_S1x1x1x256x256_0_4_0_0_0
abbrev r0_36 : Rect S1x8x256x256 := Rect.unit (s := S1x8x256x256) ![0, 4, 0, 0] S1x1x256x128.size inb_S1x8x256x256_S1x1x256x128_0_4_0_0
abbrev r0_37 : Rect S1x8x256x256 := Rect.unit (s := S1x8x256x256) ![0, 4, 0, 128] S1x1x256x128.size inb_S1x8x256x256_S1x1x256x128_0_4_0_128
abbrev r0_38 : Rect S1x8x256x128 := Rect.unit (s := S1x8x256x128) ![0, 4, 0, 0] S1x1x256x128.size inb_S1x8x256x128_S1x1x256x128_0_4_0_0
abbrev r0_39 : Rect S1x8x1x256x256 := Rect.unit (s := S1x8x1x256x256) ![0, 5, 0, 0, 0] S1x1x1x256x256.size inb_S1x8x1x256x256_S1x1x1x256x256_0_5_0_0_0
abbrev r0_40 : Rect S1x8x256x256 := Rect.unit (s := S1x8x256x256) ![0, 5, 0, 0] S1x1x256x128.size inb_S1x8x256x256_S1x1x256x128_0_5_0_0
abbrev r0_41 : Rect S1x8x256x256 := Rect.unit (s := S1x8x256x256) ![0, 5, 0, 128] S1x1x256x128.size inb_S1x8x256x256_S1x1x256x128_0_5_0_128
abbrev r0_42 : Rect S1x8x256x128 := Rect.unit (s := S1x8x256x128) ![0, 5, 0, 0] S1x1x256x128.size inb_S1x8x256x128_S1x1x256x128_0_5_0_0
abbrev r0_43 : Rect S1x8x1x256x256 := Rect.unit (s := S1x8x1x256x256) ![0, 6, 0, 0, 0] S1x1x1x256x256.size inb_S1x8x1x256x256_S1x1x1x256x256_0_6_0_0_0
abbrev r0_44 : Rect S1x8x256x256 := Rect.unit (s := S1x8x256x256) ![0, 6, 0, 0] S1x1x256x128.size inb_S1x8x256x256_S1x1x256x128_0_6_0_0
abbrev r0_45 : Rect S1x8x256x256 := Rect.unit (s := S1x8x256x256) ![0, 6, 0, 128] S1x1x256x128.size inb_S1x8x256x256_S1x1x256x128_0_6_0_128
abbrev r0_46 : Rect S1x8x256x128 := Rect.unit (s := S1x8x256x128) ![0, 6, 0, 0] S1x1x256x128.size inb_S1x8x256x128_S1x1x256x128_0_6_0_0
abbrev r0_47 : Rect S1x8x1x256x256 := Rect.unit (s := S1x8x1x256x256) ![0, 7, 0, 0, 0] S1x1x1x256x256.size inb_S1x8x1x256x256_S1x1x1x256x256_0_7_0_0_0
abbrev r0_48 : Rect S1x8x256x256 := Rect.unit (s := S1x8x256x256) ![0, 7, 0, 0] S1x1x256x128.size inb_S1x8x256x256_S1x1x256x128_0_7_0_0
abbrev r0_49 : Rect S1x8x256x256 := Rect.unit (s := S1x8x256x256) ![0, 7, 0, 128] S1x1x256x128.size inb_S1x8x256x256_S1x1x256x128_0_7_0_128
abbrev r0_50 : Rect S1x8x256x128 := Rect.unit (s := S1x8x256x128) ![0, 7, 0, 0] S1x1x256x128.size inb_S1x8x256x128_S1x1x256x128_0_7_0_0

def k0_pay110 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x2048 .f32 :=
  k0_pay5 (View.ld x0 r0_0) (View.ld x2 r0_1) (View.ld x6 r0_3) (View.ld x7 r0_4)
def k0_pay111 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x2048 .f32 :=
  k0_pay9 (k0_pay6 (View.ld x0 r0_0) (View.ld x2 r0_1)) (k0_pay7 (View.ld x8 r0_5)) (k0_pay8 (View.ld x0 r0_0) (View.ld x2 r0_1)) (Scalar.ofBits .f32 0x43800000#32) (View.ld x9 r0_6)
def k0_pay112 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x128 .f32 :=
  k0_pay10 (k0_pay3 (View.ld x0 r0_0) (View.ld x2 r0_1))
def k0_pay113 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S1x1024 .f32 :=
  k0_pay11 (View.ld x5 r0_7)
def k0_pay114 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : IVec S64x128 32 :=
  iota .tc S64x128 32 [1] iota_S64x128_d1_w32
def k0_pay115 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S64x128 .f32 :=
  k0_pay27 (View.ld x1 r0_17) (View.ld x13 r0_18)
def k0_pay116 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S64x128 .f32 :=
  k0_pay28 (View.ld x1 r0_17) (View.ld x13 r0_18)
def k0_pay117 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S64x128 .f32 :=
  k0_pay29 (k0_pay114 x0 x1 x2 x3 x4 x5 x6 x7 x8 x9 x10 x11 x12 x13) (k0_pay115 x0 x1 x2 x3 x4 x5 x6 x7 x8 x9 x10 x11 x12 x13) (k0_pay116 x0 x1 x2 x3 x4 x5 x6 x7 x8 x9 x10 x11 x12 x13)
def k0_pay118 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S64x128 .f32 :=
  k0_pay30 (k0_pay114 x0 x1 x2 x3 x4 x5 x6 x7 x8 x9 x10 x11 x12 x13) (k0_pay115 x0 x1 x2 x3 x4 x5 x6 x7 x8 x9 x10 x11 x12 x13) (k0_pay116 x0 x1 x2 x3 x4 x5 x6 x7 x8 x9 x10 x11 x12 x13)
def k0_pay119 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S64x128 .f32 :=
  k0_pay31 (k0_pay114 x0 x1 x2 x3 x4 x5 x6 x7 x8 x9 x10 x11 x12 x13) (k0_pay115 x0 x1 x2 x3 x4 x5 x6 x7 x8 x9 x10 x11 x12 x13)
def k0_pay120 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S64x128 .f32 :=
  k0_pay32 (k0_pay114 x0 x1 x2 x3 x4 x5 x6 x7 x8 x9 x10 x11 x12 x13) (k0_pay116 x0 x1 x2 x3 x4 x5 x6 x7 x8 x9 x10 x11 x12 x13)
def k0_pay121 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : IVec S64x128 32 :=
  k0_pay33
def k0_pay122 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : IVec S256x128 1 :=
  k0_pay35
def k0_pay123 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x128 .f32 :=
  k0_pay36 (k0_pay112 x0 x1 x2 x3 x4 x5 x6 x7 x8 x9 x10 x11 x12 x13) (k0_pay114 x0 x1 x2 x3 x4 x5 x6 x7 x8 x9 x10 x11 x12 x13) (k0_pay115 x0 x1 x2 x3 x4 x5 x6 x7 x8 x9 x10 x11 x12 x13) (k0_pay116 x0 x1 x2 x3 x4 x5 x6 x7 x8 x9 x10 x11 x12 x13) (k0_pay117 x0 x1 x2 x3 x4 x5 x6 x7 x8 x9 x10 x11 x12 x13) (k0_pay118 x0 x1 x2 x3 x4 x5 x6 x7 x8 x9 x10 x11 x12 x13) (k0_pay119 x0 x1 x2 x3 x4 x5 x6 x7 x8 x9 x10 x11 x12 x13) (k0_pay120 x0 x1 x2 x3 x4 x5 x6 x7 x8 x9 x10 x11 x12 x13) (k0_pay121 x0 x1 x2 x3 x4 x5 x6 x7 x8 x9 x10 x11 x12 x13) (View.ld x12 r0_18)
def k0_pay124 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x1 .f32 :=
  k0_pay37 (k0_pay112 x0 x1 x2 x3 x4 x5 x6 x7 x8 x9 x10 x11 x12 x13)
def k0_pay125 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x128 .f32 :=
  k0_pay38 (k0_pay114 x0 x1 x2 x3 x4 x5 x6 x7 x8 x9 x10 x11 x12 x13) (k0_pay115 x0 x1 x2 x3 x4 x5 x6 x7 x8 x9 x10 x11 x12 x13) (k0_pay116 x0 x1 x2 x3 x4 x5 x6 x7 x8 x9 x10 x11 x12 x13) (k0_pay117 x0 x1 x2 x3 x4 x5 x6 x7 x8 x9 x10 x11 x12 x13) (k0_pay118 x0 x1 x2 x3 x4 x5 x6 x7 x8 x9 x10 x11 x12 x13) (k0_pay119 x0 x1 x2 x3 x4 x5 x6 x7 x8 x9 x10 x11 x12 x13) (k0_pay120 x0 x1 x2 x3 x4 x5 x6 x7 x8 x9 x10 x11 x12 x13) (k0_pay121 x0 x1 x2 x3 x4 x5 x6 x7 x8 x9 x10 x11 x12 x13) (View.ld x10 r0_18)
def k0_pay126 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x1 .f32 :=
  k0_pay64 (k0_pay111 x0 x1 x2 x3 x4 x5 x6 x7 x8 x9 x10 x11 x12 x13) (k0_pay124 x0 x1 x2 x3 x4 x5 x6 x7 x8 x9 x10 x11 x12 x13)
def k0_pay127 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : FVec F S256x1 .f32 :=
  k0_pay65 (F := F)

def out0_14 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S256x1024 .bf16 :=
  View.canon [⟨r0_0, k0_pay4 (View.ld x0 r0_0) (View.ld x2 r0_2)⟩]

theorem cover0_14 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

def out0_15 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S256x1024 .f32 :=
  View.canon [⟨r0_0, k0_pay19 (k0_pay113 x0 x1 x2 x3 x4 x5 x6 x7 x8 x9 x10 x11 x12 x13) (k0_pay17 (View.ld x5 r0_7)) (k0_pay18 (View.ld x0 r0_0) (View.ld x2 r0_8))⟩]

theorem cover0_15 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_16 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S256x1024 .bf16 :=
  View.canon [⟨r0_0, k0_pay20 (k0_pay113 x0 x1 x2 x3 x4 x5 x6 x7 x8 x9 x10 x11 x12 x13) (k0_pay14 (View.ld x0 r0_0) (View.ld x2 r0_8)) (k0_pay15 (View.ld x0 r0_0) (View.ld x2 r0_8)) (k0_pay16 (View.ld x0 r0_0) (View.ld x2 r0_8))⟩]

theorem cover0_16 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

def out0_17 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S256x1024 .bf16 :=
  View.canon [⟨r0_0, k0_pay21 (View.ld x0 r0_0) (View.ld x2 r0_9)⟩]

theorem cover0_17 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

def out0_18 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S256x1024 .bf16 :=
  View.canon [⟨r0_0, k0_pay22 (View.ld x0 r0_0) (View.ld x2 r0_10)⟩]

theorem cover0_18 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

def out0_19 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S256x2048 .bf16 :=
  View.canon [⟨r0_16, k0_pay25 (View.ld x0 r0_0) (View.ld x3 r0_14) (View.ld x4 r0_15)⟩,
    ⟨r0_13, k0_pay24 (k0_pay23 (View.ld x0 r0_0) (View.ld x3 r0_11) (View.ld x4 r0_12))⟩]

theorem cover0_19 (p0 : Vec F S256x1024 .bf16) (p1 : Vec F S256x1024 .bf16) (y : S256x2048.Idx) :
    ∃ pc ∈ ([⟨r0_16, p0⟩, ⟨r0_13, p1⟩] : List (View.Piece (Elt F) S256x2048 .bf16)), y ∈ pc.1.set :=
  View.cover_of_tiled [⟨r0_16, p0⟩, ⟨r0_13, p1⟩] S256x1024.size (by rfl) y

def out0_20 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S1x8x1x256x256 .bf16 :=
  View.canon [⟨r0_47, k0_pay105 (k0_pay104 (k0_pay110 x0 x1 x2 x3 x4 x5 x6 x7 x8 x9 x10 x11 x12 x13) (k0_pay125 x0 x1 x2 x3 x4 x5 x6 x7 x8 x9 x10 x11 x12 x13))⟩,
    ⟨r0_43, k0_pay97 (k0_pay125 x0 x1 x2 x3 x4 x5 x6 x7 x8 x9 x10 x11 x12 x13) (k0_pay94 (k0_pay110 x0 x1 x2 x3 x4 x5 x6 x7 x8 x9 x10 x11 x12 x13)) (k0_pay95 (k0_pay110 x0 x1 x2 x3 x4 x5 x6 x7 x8 x9 x10 x11 x12 x13)) (k0_pay96 (k0_pay110 x0 x1 x2 x3 x4 x5 x6 x7 x8 x9 x10 x11 x12 x13))⟩,
    ⟨r0_39, k0_pay87 (k0_pay110 x0 x1 x2 x3 x4 x5 x6 x7 x8 x9 x10 x11 x12 x13) (k0_pay125 x0 x1 x2 x3 x4 x5 x6 x7 x8 x9 x10 x11 x12 x13)⟩,
    ⟨r0_35, k0_pay80 (k0_pay79 (k0_pay110 x0 x1 x2 x3 x4 x5 x6 x7 x8 x9 x10 x11 x12 x13) (k0_pay125 x0 x1 x2 x3 x4 x5 x6 x7 x8 x9 x10 x11 x12 x13))⟩,
    ⟨r0_31, k0_pay73 (k0_pay125 x0 x1 x2 x3 x4 x5 x6 x7 x8 x9 x10 x11 x12 x13) (k0_pay70 (k0_pay110 x0 x1 x2 x3 x4 x5 x6 x7 x8 x9 x10 x11 x12 x13)) (k0_pay71 (k0_pay110 x0 x1 x2 x3 x4 x5 x6 x7 x8 x9 x10 x11 x12 x13)) (k0_pay72 (k0_pay110 x0 x1 x2 x3 x4 x5 x6 x7 x8 x9 x10 x11 x12 x13))⟩,
    ⟨r0_27, k0_pay62 (k0_pay110 x0 x1 x2 x3 x4 x5 x6 x7 x8 x9 x10 x11 x12 x13) (k0_pay125 x0 x1 x2 x3 x4 x5 x6 x7 x8 x9 x10 x11 x12 x13)⟩,
    ⟨r0_23, k0_pay55 (k0_pay52 (k0_pay110 x0 x1 x2 x3 x4 x5 x6 x7 x8 x9 x10 x11 x12 x13)) (k0_pay53 (k0_pay110 x0 x1 x2 x3 x4 x5 x6 x7 x8 x9 x10 x11 x12 x13)) (k0_pay54 (k0_pay110 x0 x1 x2 x3 x4 x5 x6 x7 x8 x9 x10 x11 x12 x13) (k0_pay125 x0 x1 x2 x3 x4 x5 x6 x7 x8 x9 x10 x11 x12 x13))⟩,
    ⟨r0_19, k0_pay43 (k0_pay125 x0 x1 x2 x3 x4 x5 x6 x7 x8 x9 x10 x11 x12 x13) (k0_pay39 (k0_pay110 x0 x1 x2 x3 x4 x5 x6 x7 x8 x9 x10 x11 x12 x13)) (k0_pay40 (k0_pay110 x0 x1 x2 x3 x4 x5 x6 x7 x8 x9 x10 x11 x12 x13)) (k0_pay41 (k0_pay110 x0 x1 x2 x3 x4 x5 x6 x7 x8 x9 x10 x11 x12 x13)) (k0_pay42 (k0_pay110 x0 x1 x2 x3 x4 x5 x6 x7 x8 x9 x10 x11 x12 x13))⟩]

theorem cover0_20 (p0 : Vec F S1x1x1x256x256 .bf16) (p1 : Vec F S1x1x1x256x256 .bf16) (p2 : Vec F S1x1x1x256x256 .bf16) (p3 : Vec F S1x1x1x256x256 .bf16) (p4 : Vec F S1x1x1x256x256 .bf16) (p5 : Vec F S1x1x1x256x256 .bf16) (p6 : Vec F S1x1x1x256x256 .bf16) (p7 : Vec F S1x1x1x256x256 .bf16) (y : S1x8x1x256x256.Idx) :
    ∃ pc ∈ ([⟨r0_47, p0⟩, ⟨r0_43, p1⟩, ⟨r0_39, p2⟩, ⟨r0_35, p3⟩, ⟨r0_31, p4⟩, ⟨r0_27, p5⟩, ⟨r0_23, p6⟩, ⟨r0_19, p7⟩] : List (View.Piece (Elt F) S1x8x1x256x256 .bf16)), y ∈ pc.1.set :=
  View.cover_of_tiled [⟨r0_47, p0⟩, ⟨r0_43, p1⟩, ⟨r0_39, p2⟩, ⟨r0_35, p3⟩, ⟨r0_31, p4⟩, ⟨r0_27, p5⟩, ⟨r0_23, p6⟩, ⟨r0_19, p7⟩] S1x1x1x256x256.size (by rfl) y

def out0_21 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S1x8x256x256 .bf16 :=
  View.canon [⟨r0_49, k0_pay1 (k0_pay109 (k0_pay111 x0 x1 x2 x3 x4 x5 x6 x7 x8 x9 x10 x11 x12 x13) (k0_pay122 x0 x1 x2 x3 x4 x5 x6 x7 x8 x9 x10 x11 x12 x13) (k0_pay123 x0 x1 x2 x3 x4 x5 x6 x7 x8 x9 x10 x11 x12 x13) (k0_pay124 x0 x1 x2 x3 x4 x5 x6 x7 x8 x9 x10 x11 x12 x13))⟩,
    ⟨r0_48, k0_pay108 (k0_pay111 x0 x1 x2 x3 x4 x5 x6 x7 x8 x9 x10 x11 x12 x13) (k0_pay124 x0 x1 x2 x3 x4 x5 x6 x7 x8 x9 x10 x11 x12 x13) (View.ld x11 r0_18)⟩,
    ⟨r0_45, k0_pay102 (k0_pay101 (k0_pay111 x0 x1 x2 x3 x4 x5 x6 x7 x8 x9 x10 x11 x12 x13) (k0_pay122 x0 x1 x2 x3 x4 x5 x6 x7 x8 x9 x10 x11 x12 x13) (k0_pay123 x0 x1 x2 x3 x4 x5 x6 x7 x8 x9 x10 x11 x12 x13) (k0_pay124 x0 x1 x2 x3 x4 x5 x6 x7 x8 x9 x10 x11 x12 x13))⟩,
    ⟨r0_44, k0_pay100 (k0_pay111 x0 x1 x2 x3 x4 x5 x6 x7 x8 x9 x10 x11 x12 x13) (k0_pay124 x0 x1 x2 x3 x4 x5 x6 x7 x8 x9 x10 x11 x12 x13) (View.ld x11 r0_18)⟩,
    ⟨r0_41, k0_pay92 (k0_pay122 x0 x1 x2 x3 x4 x5 x6 x7 x8 x9 x10 x11 x12 x13) (k0_pay123 x0 x1 x2 x3 x4 x5 x6 x7 x8 x9 x10 x11 x12 x13) (k0_pay89 (k0_pay111 x0 x1 x2 x3 x4 x5 x6 x7 x8 x9 x10 x11 x12 x13) (k0_pay124 x0 x1 x2 x3 x4 x5 x6 x7 x8 x9 x10 x11 x12 x13))⟩,
    ⟨r0_40, k0_pay91 (k0_pay88 (k0_pay111 x0 x1 x2 x3 x4 x5 x6 x7 x8 x9 x10 x11 x12 x13)) (k0_pay90 (k0_pay111 x0 x1 x2 x3 x4 x5 x6 x7 x8 x9 x10 x11 x12 x13) (k0_pay124 x0 x1 x2 x3 x4 x5 x6 x7 x8 x9 x10 x11 x12 x13)) (View.ld x11 r0_18)⟩,
    ⟨r0_37, k0_pay84 (k0_pay111 x0 x1 x2 x3 x4 x5 x6 x7 x8 x9 x10 x11 x12 x13) (k0_pay122 x0 x1 x2 x3 x4 x5 x6 x7 x8 x9 x10 x11 x12 x13) (k0_pay123 x0 x1 x2 x3 x4 x5 x6 x7 x8 x9 x10 x11 x12 x13) (k0_pay124 x0 x1 x2 x3 x4 x5 x6 x7 x8 x9 x10 x11 x12 x13)⟩,
    ⟨r0_36, k0_pay83 (k0_pay111 x0 x1 x2 x3 x4 x5 x6 x7 x8 x9 x10 x11 x12 x13) (k0_pay124 x0 x1 x2 x3 x4 x5 x6 x7 x8 x9 x10 x11 x12 x13) (View.ld x11 r0_18)⟩,
    ⟨r0_33, k0_pay77 (k0_pay122 x0 x1 x2 x3 x4 x5 x6 x7 x8 x9 x10 x11 x12 x13) (k0_pay123 x0 x1 x2 x3 x4 x5 x6 x7 x8 x9 x10 x11 x12 x13) (k0_pay75 (k0_pay111 x0 x1 x2 x3 x4 x5 x6 x7 x8 x9 x10 x11 x12 x13) (k0_pay124 x0 x1 x2 x3 x4 x5 x6 x7 x8 x9 x10 x11 x12 x13))⟩,
    ⟨r0_32, k0_pay76 (k0_pay111 x0 x1 x2 x3 x4 x5 x6 x7 x8 x9 x10 x11 x12 x13) (k0_pay124 x0 x1 x2 x3 x4 x5 x6 x7 x8 x9 x10 x11 x12 x13) (View.ld x11 r0_18)⟩,
    ⟨r0_29, k0_pay68 (k0_pay122 x0 x1 x2 x3 x4 x5 x6 x7 x8 x9 x10 x11 x12 x13) (k0_pay123 x0 x1 x2 x3 x4 x5 x6 x7 x8 x9 x10 x11 x12 x13) (k0_pay126 x0 x1 x2 x3 x4 x5 x6 x7 x8 x9 x10 x11 x12 x13) (k0_pay127 x0 x1 x2 x3 x4 x5 x6 x7 x8 x9 x10 x11 x12 x13)⟩,
    ⟨r0_28, k0_pay67 (k0_pay63 (k0_pay111 x0 x1 x2 x3 x4 x5 x6 x7 x8 x9 x10 x11 x12 x13)) (k0_pay126 x0 x1 x2 x3 x4 x5 x6 x7 x8 x9 x10 x11 x12 x13) (k0_pay127 x0 x1 x2 x3 x4 x5 x6 x7 x8 x9 x10 x11 x12 x13) (View.ld x11 r0_18)⟩,
    ⟨r0_25, k0_pay59 (k0_pay111 x0 x1 x2 x3 x4 x5 x6 x7 x8 x9 x10 x11 x12 x13) (k0_pay122 x0 x1 x2 x3 x4 x5 x6 x7 x8 x9 x10 x11 x12 x13) (k0_pay123 x0 x1 x2 x3 x4 x5 x6 x7 x8 x9 x10 x11 x12 x13) (k0_pay124 x0 x1 x2 x3 x4 x5 x6 x7 x8 x9 x10 x11 x12 x13)⟩,
    ⟨r0_24, k0_pay58 (k0_pay111 x0 x1 x2 x3 x4 x5 x6 x7 x8 x9 x10 x11 x12 x13) (k0_pay124 x0 x1 x2 x3 x4 x5 x6 x7 x8 x9 x10 x11 x12 x13) (View.ld x11 r0_18)⟩,
    ⟨r0_21, k0_pay48 (k0_pay122 x0 x1 x2 x3 x4 x5 x6 x7 x8 x9 x10 x11 x12 x13) (k0_pay123 x0 x1 x2 x3 x4 x5 x6 x7 x8 x9 x10 x11 x12 x13) (k0_pay45 (k0_pay111 x0 x1 x2 x3 x4 x5 x6 x7 x8 x9 x10 x11 x12 x13) (k0_pay124 x0 x1 x2 x3 x4 x5 x6 x7 x8 x9 x10 x11 x12 x13))⟩,
    ⟨r0_20, k0_pay47 (k0_pay46 (k0_pay111 x0 x1 x2 x3 x4 x5 x6 x7 x8 x9 x10 x11 x12 x13) (k0_pay124 x0 x1 x2 x3 x4 x5 x6 x7 x8 x9 x10 x11 x12 x13) (View.ld x11 r0_18))⟩]

theorem cover0_21 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (y : S1x8x256x256.Idx) :
    ∃ pc ∈ ([⟨r0_49, p0⟩, ⟨r0_48, p1⟩, ⟨r0_45, p2⟩, ⟨r0_44, p3⟩, ⟨r0_41, p4⟩, ⟨r0_40, p5⟩, ⟨r0_37, p6⟩, ⟨r0_36, p7⟩, ⟨r0_33, p8⟩, ⟨r0_32, p9⟩, ⟨r0_29, p10⟩, ⟨r0_28, p11⟩, ⟨r0_25, p12⟩, ⟨r0_24, p13⟩, ⟨r0_21, p14⟩, ⟨r0_20, p15⟩] : List (View.Piece (Elt F) S1x8x256x256 .bf16)), y ∈ pc.1.set :=
  View.cover_of_tiled [⟨r0_49, p0⟩, ⟨r0_48, p1⟩, ⟨r0_45, p2⟩, ⟨r0_44, p3⟩, ⟨r0_41, p4⟩, ⟨r0_40, p5⟩, ⟨r0_37, p6⟩, ⟨r0_36, p7⟩, ⟨r0_33, p8⟩, ⟨r0_32, p9⟩, ⟨r0_29, p10⟩, ⟨r0_28, p11⟩, ⟨r0_25, p12⟩, ⟨r0_24, p13⟩, ⟨r0_21, p14⟩, ⟨r0_20, p15⟩] S1x1x256x128.size (by rfl) y

def out0_22 (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) : Vec F S1x8x256x128 .bf16 :=
  View.canon [⟨r0_50, k0_pay2 (k0_pay111 x0 x1 x2 x3 x4 x5 x6 x7 x8 x9 x10 x11 x12 x13)⟩,
    ⟨r0_46, k0_pay103 (k0_pay111 x0 x1 x2 x3 x4 x5 x6 x7 x8 x9 x10 x11 x12 x13)⟩,
    ⟨r0_42, k0_pay93 (k0_pay111 x0 x1 x2 x3 x4 x5 x6 x7 x8 x9 x10 x11 x12 x13)⟩,
    ⟨r0_38, k0_pay86 (k0_pay85 (k0_pay111 x0 x1 x2 x3 x4 x5 x6 x7 x8 x9 x10 x11 x12 x13))⟩,
    ⟨r0_34, k0_pay78 (k0_pay111 x0 x1 x2 x3 x4 x5 x6 x7 x8 x9 x10 x11 x12 x13)⟩,
    ⟨r0_30, k0_pay69 (k0_pay111 x0 x1 x2 x3 x4 x5 x6 x7 x8 x9 x10 x11 x12 x13)⟩,
    ⟨r0_26, k0_pay61 (k0_pay60 (k0_pay111 x0 x1 x2 x3 x4 x5 x6 x7 x8 x9 x10 x11 x12 x13))⟩,
    ⟨r0_22, k0_pay49 (k0_pay111 x0 x1 x2 x3 x4 x5 x6 x7 x8 x9 x10 x11 x12 x13)⟩]

theorem cover0_22 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (y : S1x8x256x128.Idx) :
    ∃ pc ∈ ([⟨r0_50, p0⟩, ⟨r0_46, p1⟩, ⟨r0_42, p2⟩, ⟨r0_38, p3⟩, ⟨r0_34, p4⟩, ⟨r0_30, p5⟩, ⟨r0_26, p6⟩, ⟨r0_22, p7⟩] : List (View.Piece (Elt F) S1x8x256x128 .bf16)), y ∈ pc.1.set :=
  View.cover_of_tiled [⟨r0_50, p0⟩, ⟨r0_46, p1⟩, ⟨r0_42, p2⟩, ⟨r0_38, p3⟩, ⟨r0_34, p4⟩, ⟨r0_30, p5⟩, ⟨r0_26, p6⟩, ⟨r0_22, p7⟩] S1x1x256x128.size (by rfl) y

set_option maxHeartbeats 1030100 in
/-- The body, from its blocks to the blocks it stores. -/
theorem sound_kernel (c : Dev nD) (E : Set ℕ) (i : grid0.Coords) (arg1 : Memref sig .tc .vmem S256x1024 .bf16) (harg1 : arg1.IsWhole) (arg2 : Memref sig .tc .vmem S256x1 .i32) (harg2 : arg2.IsWhole) (arg3 : Memref sig .tc .vmem S1024x4864 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S2x1024 .f32) (harg6 : arg6.IsWhole) (arg7 : Memref sig .tc .vmem S1x384 .f32) (harg7 : arg7.IsWhole) (arg8 : Memref sig .tc .vmem S384x2048 .bf16) (harg8 : arg8.IsWhole) (arg9 : Memref sig .tc .vmem S1x256 .f32) (harg9 : arg9.IsWhole) (arg10 : Memref sig .tc .vmem S256x2048 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x2048 .bf16) (harg20 : arg20.IsWhole) (arg21 : Memref sig .tc .vmem S1x8x1x256x256 .bf16) (harg21 : arg21.IsWhole) (arg22 : Memref sig .tc .vmem S1x8x256x256 .bf16) (harg22 : arg22.IsWhole) (arg23 : Memref sig .tc .vmem S1x8x256x128 .bf16) (harg23 : arg23.IsWhole)
    (x0 : Vec F S256x1024 .bf16) (x1 : Vec F S256x1 .i32) (x2 : Vec F S1024x4864 .bf16) (x3 : Vec F S1024x2048 .bf16) (x4 : Vec F S1x2048 .f32) (x5 : Vec F S2x1024 .f32) (x6 : Vec F S1x384 .f32) (x7 : Vec F S384x2048 .bf16) (x8 : Vec F S1x256 .f32) (x9 : Vec F S256x2048 .bf16) (x10 : Vec F S1x128 .f32) (x11 : Vec F S1x128 .f32) (x12 : Vec F S1x128 .f32) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13) ∗ owns (c : Thread nD τ) arg23 fullShare (out0_22 x0 x1 x2 x3 x4 x5 x6 x7 x8 x9 x10 x11 x12 x13)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _ _ _ _ _ _ _ _ _ _ _ _ _ _ _ _)).trans ?_
    rfl
  iexists _; isplitr
  swap; · iexact H22
  ipureintro
  refine (View.read_writes_eq_canon _ _ _ (cover0_22 _ _ _ _ _ _ _ _)).trans ?_
  rfl

/-- The contents of every window, step by step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What a step starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- What a step leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- A step of the call takes what it starts from to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, every array of the call named. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The projections run to their end, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel5Ideal.Proj

end
-- ==== Proof.ProjTwin.lean ====
/-
  The projections read at machine words are, operation by operation, the text of the idealised program: the two frames are
  one proposition.
-/
module

public import proofs.«01_k».proof.Proof.ProjFrame
public import proofs.«01_k».proof.Proof.Gen.Kernel5
public import Idealize.ShloMosaic.PureOps.BitExact
public import Idealize.ShloMosaic.PureOps.Ideal

@[expose] public section

noncomputable section

namespace Cert.Kernel5.Proj

open Idealize.ShloMosaic Idealize.ShloMosaic.TcCoe Idealize.ShloMosaic.Tactic Idealize.SL.Sem

/-- The idealised program's text, its floats machine words, runs to its end, its arguments unchanged and every semaphore at zero. -/
def frameIdealText : Prop :=
  ∀ (m : (ℓ : Loc Cert.Kernel5Ideal.nD Cert.Kernel5Ideal.τ Cert.Kernel5Ideal.sig) → Buf (Elt Bits) ℓ) (g : Dev Cert.Kernel5Ideal.nD → PrngReg),
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

/-- The program's own text, its floats machine words, runs to its end, its arguments unchanged and every semaphore at zero. -/
def frameText : Prop :=
  ∀ (m : (ℓ : Loc Cert.Kernel5.nD Cert.Kernel5.τ Cert.Kernel5.sig) → Buf (Elt Bits) ℓ) (g : Dev Cert.Kernel5.nD → PrngReg),
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

theorem text_eq : frameIdealText = frameText := by sl_kernel_rfl

/-- The projections at machine words run to their end, their arguments unchanged and every semaphore at zero. -/
theorem frame : frameText := text_eq ▸ fun m g => Cert.Kernel5Ideal.Proj.frame (F := Bits) m g

end Cert.Kernel5.Proj

end
-- ==== Proof.Row.lean ====
/-
  What the feed-forward block and the merge compute on a row, on the extended reals, and the kernels' and the references'
  operations read on a row.
-/
module

public import Idealize.ShloMosaic.PureOps.Ideal.Laws
public import Idealize.ShloMosaic.Lib.ValueIdx
public import Idealize.ShloMosaic.Lib.ValueLayout
public import Idealize.ShloMosaic.Lib.Pipeline.Value
public import Idealize.ShloMosaic.Lib.MatmulPlain
public import Idealize.ShloMosaic.Lib.StackMember
public import Idealize.ShloMosaic.Lib.IdealHost
public import Idealize.ShloMosaic.Lib.Pipeline.ValueKit

@[expose] public section

noncomputable section

namespace Cert.Att.Row

open Idealize.ShloMosaic hiding ix1 ix2 eq_ix2 addf_apply mulf_apply divf_apply
open Idealize.ShloMosaic.ValueIdx

/-! ## The rows -/

/-- One over the root of a row's mean square, 1024 long, the small number added. -/
def scale {n : ℕ} (x : Fin n → EReal) : EReal :=
  Ideal.rsqrt (Ideal.div (∑ k, x k * x k) (Ideal.ofBits .f32 0x44800000#32) + Ideal.ofBits .f32 0x358637BD#32)

/-- The root mean square norm of a row with gains `g`. -/
def rms {n : ℕ} (x g : Fin n → EReal) (j : Fin n) : EReal := x j * scale x * g j

/-- The gated unit of a row with the two columns: `s · σ(s) · t` for the products `s` and `t`. -/
def act {n : ℕ} (x w u : Fin n → EReal) : EReal := (∑ k, x k * w k) * Ideal.logistic (∑ k, x k * w k) * ∑ k, x k * u k

/-- The half step: a row plus half of the gated units of its norm times the second weights. -/
def half (x g : Fin 1024 → EReal) (W : Fin 1024 → Fin 5632 → EReal) (V : Fin 2816 → Fin 1024 → EReal) (j : Fin 1024) : EReal :=
  x j + Ideal.ofBits .f32 0x3F000000#32
    * ∑ f : Fin 2816, act (rms x g) (fun k => W k ⟨f.val, by omega⟩) (fun k => W k ⟨2816 + f.val, by omega⟩) * V f j

/-- The merge: a row plus the sum of the two gated products times the last weights. -/
def merged (y z a b h : Fin 1024 → EReal) (U V W : Fin 1024 → Fin 1024 → EReal) (j : Fin 1024) : EReal :=
  h j + ∑ k : Fin 1024, (a k * (∑ l, y l * U l k) + b k * (∑ l, z l * V l k)) * W k j

/-! ## The arrays -/

/-- The merge of whole arrays, row by row. -/
def mergedArr (y z : FVec Ideal ⟨2, ![65536, 1024]⟩ .bf16) (a : FVec Ideal ⟨2, ![65536, 2048]⟩ .bf16)
    (h : FVec Ideal ⟨2, ![65536, 1024]⟩ .f32) (u v w : FVec Ideal ⟨2, ![1024, 1024]⟩ .f32) : FVec Ideal ⟨2, ![65536, 1024]⟩ .f32 :=
  fun i => merged (fun l => y (ix2 (i 0) l)) (fun l => z (ix2 (i 0) l)) (fun k => a (ix2 (i 0) ⟨k.val, by omega⟩))
    (fun k => a (ix2 (i 0) ⟨1024 + k.val, by omega⟩)) (fun k => h (ix2 (i 0) k)) (fun l k => u (ix2 l k)) (fun l k => v (ix2 l k))
    (fun k j => w (ix2 k j)) (i 1)

/-- The half step of whole arrays, row by row. -/
def halfArr (x : FVec Ideal ⟨2, ![65536, 1024]⟩ .f32) (g : FVec Ideal ⟨1, ![1024]⟩ .f32) (w : FVec Ideal ⟨2, ![1024, 5632]⟩ .f32)
    (v : FVec Ideal ⟨2, ![2816, 1024]⟩ .f32) : FVec Ideal ⟨2, ![65536, 1024]⟩ .f32 :=
  fun i => half (fun k => x (ix2 (i 0) k)) (fun k => g (ix1 k)) (fun k f => w (ix2 k f)) (fun f j => v (ix2 f j)) (i 1)

/-- The norm of whole arrays, row by row. -/
def rmsArr (x : FVec Ideal ⟨2, ![65536, 1024]⟩ .f32) (g : FVec Ideal ⟨1, ![1024]⟩ .f32) : FVec Ideal ⟨2, ![65536, 1024]⟩ .f32 :=
  fun i => rms (fun k => x (ix2 (i 0) k)) (fun k => g (ix1 k)) (i 1)

/-! ## The kernels' operations -/

section Kernel
variable {a b c : ℕ}

theorem cast_col {α : Type} (x : (⟨1, ![a]⟩ : Shape).Idx → α) (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    omega)

theorem col_spread {α : Type} (x : (⟨2, ![a, 1]⟩ : Shape).Idx → α) (h : (⟨2, ![a, 1]⟩ : Shape).Broadcasts ⟨2, ![a, b]⟩) (i : Fin a)
    (j : Fin b) : broadcastTo ⟨2, ![a, b]⟩ x h (ix2 i j) = x (ix2 i 0) :=
  broadcastTo_apply x h _ _ fun ax => by
    match ax with
    | ⟨0, _⟩ =>
      show i.val = if a = 1 then 0 else i.val
      split <;> omega
    | ⟨1, _⟩ => rfl

theorem lift_row (h : (⟨2, ![a, b]⟩ : Shape).Reduces [1] ⟨1, ![a]⟩) (i : Fin a) (k : Fin b) : h.lift (ix1 i) k = ix2 i k := by
  funext ax
  apply Fin.ext
  match ax with
  | ⟨0, _⟩ => rfl
  | ⟨1, _⟩ => rfl

/-- The mean square of a block's rows. -/
def meanV (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ (mulf x x) 0x00000000#32 hr (.inl rfl) rfl) hc)
    (broadcast ⟨2, ![a, 1]⟩ (Scalar.ofBits .f32 0x44800000#32 : Ideal .f32))

theorem meanV_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (i : Fin a) (u : Fin 1) :
    meanV x hr hc (ix2 i u) = Ideal.div (∑ k, x (ix2 i k) * x (ix2 i k)) (Ideal.ofBits .f32 0x44800000#32) := by
  unfold meanV
  rw [divf_apply, cast_col]
  refine congrArg₂ Ideal.div ?_ rfl
  refine (Ideal.multiReduction_add_single _ _ hr _ _ _).trans (Finset.sum_congr rfl fun k _ => ?_)
  exact congrArg (fun p => x p * x p) (lift_row hr i k)

/-- The norm of a block's rows, from the mean squares. -/
def normV (x : FVec Ideal ⟨2, ![a, b]⟩ .f32) (g : FVec Ideal ⟨2, ![1, b]⟩ .f32) (s : FVec Ideal ⟨2, ![a, 1]⟩ .f32)
    (hs : (⟨2, ![a, 1]⟩ : Shape).Broadcasts ⟨2, ![a, b]⟩) (hg : (⟨2, ![1, b]⟩ : Shape).Broadcasts ⟨2, ![a, b]⟩) :
    FVec Ideal ⟨2, ![a, b]⟩ .f32 :=
  mulf (mulf x (broadcastTo ⟨2, ![a, b]⟩ (rsqrt (addf s (broadcast ⟨2, ![a, 1]⟩ (Scalar.ofBits .f32 0x358637BD#32 : Ideal .f32)))) hs))
    (broadcastTo ⟨2, ![a, b]⟩ g hg)

theorem normV_apply (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hs : (⟨2, ![a, 1]⟩ : Shape).Broadcasts ⟨2, ![a, b]⟩) (hg : (⟨2, ![1, b]⟩ : Shape).Broadcasts ⟨2, ![a, b]⟩) (i : Fin a) (j : Fin b) :
    normV x g (meanV x hr hc) hs hg (ix2 i j) = rms (fun k => x (ix2 i k)) (fun k => g (ix2 0 k)) j := by
  unfold normV rms scale
  rw [mulf_apply, mulf_apply, col_spread, broadcastTo_1b_ab_apply]
  refine congrArg (fun v => x (ix2 i j) * Ideal.rsqrt (v + _) * _) ?_
  exact meanV_apply x hr hc i 0

/-- The product of two matrices. -/
theorem dot_apply {φ ψ : FTy} (x : FVec Ideal ⟨2, ![a, b]⟩ φ) (w : FVec Ideal ⟨2, ![b, c]⟩ ψ) (i : Fin a) (j : Fin c) :
    matmul (DotDims.plain a b c) none x w (constant ⟨2, ![a, c]⟩ .f32 0x00000000#32) (ix2 i j)
      = ∑ k : Fin b, x (ix2 i k) * w (ix2 k j) := by
  simp only [matmul]
  rw [Ideal.matmul_plain_apply, constant_apply, Ideal.ofBits_zero_f32, zero_add]

/-- The gated units of a block with two parts of the weights. -/
def gateV (x : FVec Ideal ⟨2, ![a, b]⟩ .bf16) (w u : FVec Ideal ⟨2, ![b, c]⟩ .bf16) : FVec Ideal ⟨2, ![a, c]⟩ .f32 :=
  mulf (mulf (matmul (DotDims.plain a b c) none x w (constant ⟨2, ![a, c]⟩ .f32 0x00000000#32))
    (logistic (matmul (DotDims.plain a b c) none x w (constant ⟨2, ![a, c]⟩ .f32 0x00000000#32))))
    (matmul (DotDims.plain a b c) none x u (constant ⟨2, ![a, c]⟩ .f32 0x00000000#32))

theorem gateV_apply (x : FVec Ideal ⟨2, ![a, b]⟩ .bf16) (w u : FVec Ideal ⟨2, ![b, c]⟩ .bf16) (i : Fin a) (j : Fin c) :
    gateV x w u (ix2 i j) = act (fun k => x (ix2 i k)) (fun k => w (ix2 k j)) (fun k => u (ix2 k j)) := by
  unfold gateV act
  rw [mulf_apply, mulf_apply, dot_apply x u]
  refine congrArg (· * _) ?_
  rw [← dot_apply x w]
  rfl

/-- The half step of a block, from its gated units. -/
def halfV (x : FVec Ideal ⟨2, ![a, c]⟩ .f32) (h : FVec Ideal ⟨2, ![a, b]⟩ .bf16) (v : FVec Ideal ⟨2, ![b, c]⟩ .bf16) :
    FVec Ideal ⟨2, ![a, c]⟩ .f32 :=
  addf x (mulf (broadcast ⟨2, ![a, c]⟩ (Scalar.ofBits .f32 0x3F000000#32 : Ideal .f32))
    (matmul (DotDims.plain a b c) none h v (constant ⟨2, ![a, c]⟩ .f32 0x00000000#32)))

theorem halfV_apply (x : FVec Ideal ⟨2, ![a, c]⟩ .f32) (h : FVec Ideal ⟨2, ![a, b]⟩ .bf16) (v : FVec Ideal ⟨2, ![b, c]⟩ .bf16)
    (i : Fin a) (j : Fin c) :
    halfV x h v (ix2 i j) = x (ix2 i j) + Ideal.ofBits .f32 0x3F000000#32 * ∑ f : Fin b, h (ix2 i f) * v (ix2 f j) := by
  unfold halfV
  rw [addf_apply, mulf_apply, dot_apply h v]
  rfl

/-- A load of the columns from `o` on. -/
theorem ld_columns (w : Vec Ideal ⟨2, ![a, b]⟩ .bf16) (o n : ℕ)
    (inb : ∀ ax, ![0, o] ax + ![a, n] ax ≤ (⟨2, ![a, b]⟩ : Shape).size ax) (k : Fin a) (f : Fin n) (f' : Fin b) (hf : f'.val = o + f.val) :
    View.ld w (Rect.unit (s := ⟨2, ![a, b]⟩) ![0, o] ![a, n] inb) (ix2 k f) = w (ix2 k f') :=
  View.ld_unit_apply_of w _ _ _ _ (ix2 k f') fun ax => by
    match ax with
    | ⟨0, _⟩ => exact (Nat.zero_add _).symm
    | ⟨1, _⟩ => exact hf

/-- A column of a part of the weights is the whole weights' column. -/
theorem column (w : Vec Ideal ⟨2, ![1024, 5632]⟩ .bf16) (o n : ℕ)
    (inb : ∀ ax, ![0, o] ax + ![1024, n] ax ≤ (⟨2, ![1024, 5632]⟩ : Shape).size ax) (f : Fin n) (f' : Fin 5632) (hf : f'.val = o + f.val) :
    (fun k : Fin 1024 => View.ld w (Rect.unit (s := ⟨2, ![1024, 5632]⟩) ![0, o] ![1024, n] inb) (ix2 k f)) = fun k => w (ix2 k f') :=
  funext fun k => ld_columns w o n inb k f f' hf

/-- The gated units of a row. -/
def hidden (x : Vec Ideal ⟨2, ![1024, 1024]⟩ .bf16) (w : Vec Ideal ⟨2, ![1024, 5632]⟩ .bf16) : Vec Ideal ⟨2, ![1024, 2816]⟩ .bf16 :=
  fun y => act (fun k => x (ix2 (y 0) k)) (fun k => w (ix2 k ⟨(y 1).val, Nat.lt_trans (y 1).isLt (by decide : 2816 < 5632)⟩))
    (fun k => w (ix2 k ⟨2816 + (y 1).val, Nat.add_lt_add_left (y 1).isLt 2816⟩))

/-- A part's gated units are those of the whole row, at the part's place. -/
theorem part (x : Vec Ideal ⟨2, ![1024, 1024]⟩ .bf16) (w : Vec Ideal ⟨2, ![1024, 5632]⟩ .bf16) (o o' n : ℕ) (ho : o' = 2816 + o)
    (inb : ∀ ax, ![0, o] ax + ![1024, n] ax ≤ (⟨2, ![1024, 5632]⟩ : Shape).size ax)
    (inb' : ∀ ax, ![0, o'] ax + ![1024, n] ax ≤ (⟨2, ![1024, 5632]⟩ : Shape).size ax) (y : (⟨2, ![1024, 2816]⟩ : Shape).Idx)
    (z : (⟨2, ![1024, n]⟩ : Shape).Idx) (hz : ∀ ax, (y ax).val = ![0, o] ax + (z ax).val) :
    gateV (a := 1024) (b := 1024) (c := n) x (View.ld w (Rect.unit (s := ⟨2, ![1024, 5632]⟩) ![0, o] ![1024, n] inb))
      (View.ld w (Rect.unit (s := ⟨2, ![1024, 5632]⟩) ![0, o'] ![1024, n] inb')) z = hidden x w y := by
  have h0 : y 0 = z 0 := Fin.ext ((hz 0).trans (Nat.zero_add _))
  have h1 : (y 1).val = o + (z 1).val := hz 1
  refine (congrArg _ (eq_ix2 z)).trans ((gateV_apply _ _ _ (z 0) (z 1)).trans ?_)
  exact congr (congrArg₂ act (congrArg (fun (r : Fin 1024) (k : Fin 1024) => x (ix2 r k)) h0.symm)
    (column w o n inb (z 1) ⟨(y 1).val, Nat.lt_trans (y 1).isLt (by decide : 2816 < 5632)⟩ h1))
    (column w o' n inb' (z 1) ⟨2816 + (y 1).val, Nat.add_lt_add_left (y 1).isLt 2816⟩ (by show 2816 + (y 1).val = _; omega))

theorem in_band (o n : ℕ) (inb : ∀ ax, ![0, o] ax + ![1024, n] ax ≤ (⟨2, ![1024, 2816]⟩ : Shape).size ax)
    (y : (⟨2, ![1024, 2816]⟩ : Shape).Idx) (h : o ≤ (y 1).val) (h' : (y 1).val < o + n) :
    y ∈ (Rect.unit (s := ⟨2, ![1024, 2816]⟩) ![0, o] ![1024, n] inb).set :=
  Rect.mem_set_unit.2 fun ax => by
    match ax with
    | ⟨0, _⟩ => exact ⟨Nat.zero_le _, by have h0 : (y 0).val < 1024 := (y 0).isLt; show (y 0).val < 0 + 1024; omega⟩
    | ⟨1, _⟩ => exact ⟨h, h'⟩

/-- The six parts cover the scratch buffer. -/
theorem cover_six (i0 : ∀ ax, ![0, 2560] ax + ![1024, 256] ax ≤ (⟨2, ![1024, 2816]⟩ : Shape).size ax) (i1 : ∀ ax, ![0, 2048] ax + ![1024, 512] ax ≤ (⟨2, ![1024, 2816]⟩ : Shape).size ax) (i2 : ∀ ax, ![0, 1536] ax + ![1024, 512] ax ≤ (⟨2, ![1024, 2816]⟩ : Shape).size ax) (i3 : ∀ ax, ![0, 1024] ax + ![1024, 512] ax ≤ (⟨2, ![1024, 2816]⟩ : Shape).size ax) (i4 : ∀ ax, ![0, 512] ax + ![1024, 512] ax ≤ (⟨2, ![1024, 2816]⟩ : Shape).size ax) (i5 : ∀ ax, ![0, 0] ax + ![1024, 512] ax ≤ (⟨2, ![1024, 2816]⟩ : Shape).size ax)
    (p0 : Vec Ideal ⟨2, ![1024, 256]⟩ .bf16)
    (p1 : Vec Ideal ⟨2, ![1024, 512]⟩ .bf16)
    (p2 : Vec Ideal ⟨2, ![1024, 512]⟩ .bf16)
    (p3 : Vec Ideal ⟨2, ![1024, 512]⟩ .bf16)
    (p4 : Vec Ideal ⟨2, ![1024, 512]⟩ .bf16)
    (p5 : Vec Ideal ⟨2, ![1024, 512]⟩ .bf16)
    (y : (⟨2, ![1024, 2816]⟩ : Shape).Idx) :
    ∃ p ∈ ([⟨Rect.unit (s := ⟨2, ![1024, 2816]⟩) ![0, 2560] ![1024, 256] i0, p0⟩,
      ⟨Rect.unit (s := ⟨2, ![1024, 2816]⟩) ![0, 2048] ![1024, 512] i1, p1⟩,
      ⟨Rect.unit (s := ⟨2, ![1024, 2816]⟩) ![0, 1536] ![1024, 512] i2, p2⟩,
      ⟨Rect.unit (s := ⟨2, ![1024, 2816]⟩) ![0, 1024] ![1024, 512] i3, p3⟩,
      ⟨Rect.unit (s := ⟨2, ![1024, 2816]⟩) ![0, 512] ![1024, 512] i4, p4⟩,
      ⟨Rect.unit (s := ⟨2, ![1024, 2816]⟩) ![0, 0] ![1024, 512] i5, p5⟩] : List (View.Piece (Elt Ideal) ⟨2, ![1024, 2816]⟩ .bf16)), y ∈ p.1.set := by
  have hy : (y 1).val < 2816 := (y 1).isLt
  by_cases h0 : 2560 ≤ (y 1).val
  · exact ⟨_, .head _, in_band _ _ i0 y h0 (by omega)⟩
  by_cases h1 : 2048 ≤ (y 1).val
  · exact ⟨_, .tail _ (.head _), in_band _ _ i1 y h1 (by omega)⟩
  by_cases h2 : 1536 ≤ (y 1).val
  · exact ⟨_, .tail _ (.tail _ (.head _)), in_band _ _ i2 y h2 (by omega)⟩
  by_cases h3 : 1024 ≤ (y 1).val
  · exact ⟨_, .tail _ (.tail _ (.tail _ (.head _))), in_band _ _ i3 y h3 (by omega)⟩
  by_cases h4 : 512 ≤ (y 1).val
  · exact ⟨_, .tail _ (.tail _ (.tail _ (.tail _ (.head _)))), in_band _ _ i4 y h4 (by omega)⟩
  exact ⟨_, .tail _ (.tail _ (.tail _ (.tail _ (.tail _ (.head _))))), in_band _ _ i5 y (Nat.zero_le _) (by omega)⟩

/-- The half step of a block with the gated units of its norm, at an entry. -/
theorem half_block (x : Vec Ideal ⟨2, ![1024, 1024]⟩ .f32) (g : Fin 1024 → EReal) (p : Vec Ideal ⟨2, ![1024, 1024]⟩ .bf16)
    (w : Vec Ideal ⟨2, ![1024, 5632]⟩ .bf16) (v : Vec Ideal ⟨2, ![2816, 1024]⟩ .bf16) (r j : Fin 1024)
    (hp : ∀ k, p (ix2 r k) = rms (fun l => x (ix2 r l)) g k) :
    halfV (a := 1024) (b := 2816) (c := 1024) x (hidden p w) v (ix2 r j)
      = half (fun k => x (ix2 r k)) g (fun k f => w (ix2 k f)) (fun f j => v (ix2 f j)) j := by
  refine (halfV_apply (a := 1024) (b := 2816) (c := 1024) x (hidden p w) v r j).trans ?_
  refine congrArg (fun q => x (ix2 r j) + Ideal.ofBits .f32 0x3F000000#32 * q) (Finset.sum_congr rfl fun f _ => congrArg (· * v (ix2 f j)) ?_)
  exact congrArg (fun q => act q (fun k => w (ix2 k ⟨f.val, by omega⟩)) (fun k => w (ix2 k ⟨2816 + f.val, by omega⟩))) (funext hp)

/-- A vector laid out as one row. -/
theorem cast_row {α : Type} (x : (⟨1, ![b]⟩ : Shape).Idx → α) (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    rw [Shape.rowMajor_val_one, Shape.rowMajor_val_two]
    show j.val = u.val * b + j.val
    rw [show u.val = 0 by omega, Nat.zero_mul, Nat.zero_add])

end Kernel

end Cert.Att.Row
-- ==== Proof.ProjRow.lean ====
/-
  What the projections compute on a row, on the extended reals, and the operations read on a row.
-/
module

public import proofs.«01_k».proof.Proof.Row

@[expose] public section

noncomputable section

namespace Cert.Att.Proj

open Idealize.ShloMosaic hiding ix1 ix2 ix4 eq_ix2 eq_ix4 addf_apply mulf_apply divf_apply
open Idealize.ShloMosaic.ValueIdx Cert.Att.Row

/-! ## The rows and the arrays -/

/-- `s · σ(s)`. -/
def silu (s : EReal) : EReal := s * Ideal.logistic s

/-- A row of the stream times a column of the weights. -/
def proj {n : ℕ} (u : FVec Ideal ⟨2, ![65536, 1024]⟩ .bf16) (w : FVec Ideal ⟨2, ![1024, n]⟩ .f32) (i : Fin 65536) (j : Fin n) : EReal :=
  ∑ k : Fin 1024, u (ix2 i k) * w (ix2 k j)

/-- One over the root of a row's mean square, 256 long, the small number added. -/
def scaleL (x : Fin 256 → EReal) : EReal :=
  Ideal.rsqrt (Ideal.div (∑ k, x k * x k) (Ideal.ofBits .f32 0x43800000#32) + Ideal.ofBits .f32 0x358637BD#32)

/-- The root mean square norm of a row of the latent with gains `g`. -/
def rmsL (x g : Fin 256 → EReal) (j : Fin 256) : EReal := x j * scaleL x * g j

/-- The norm of a row of the latent times a column of the weights. -/
def up (x g : Fin 256 → EReal) (v : Fin 256 → Fin 2048 → EReal) (n : Fin 2048) : EReal := ∑ l, rmsL x g l * v l n

theorem up_congr {x x' g g' : Fin 256 → EReal} {v v' : Fin 256 → Fin 2048 → EReal} {n n' : Fin 2048} (hx : ∀ k, x k = x' k)
    (hg : ∀ k, g k = g' k) (hv : ∀ l, v l n = v' l n') : up x g v n = up x' g' v' n' := by
  obtain rfl : x = x' := funext hx
  obtain rfl : g = g' := funext hg
  exact Finset.sum_congr rfl fun l _ => congrArg (rmsL x g l * ·) (hv l)

/-- The products with the columns from `o` on. -/
def projArr (o : ℕ) (ho : o + 1024 ≤ 4800) (u : FVec Ideal ⟨2, ![65536, 1024]⟩ .bf16) (w : FVec Ideal ⟨2, ![1024, 4800]⟩ .f32) :
    FVec Ideal ⟨2, ![65536, 1024]⟩ .bf16 :=
  fun i => proj u w (i 0) ⟨o + (i 1).val, by have h : (i 1).val < 1024 := (i 1).isLt; omega⟩

/-- The products with the columns from `o` on, each times its own sigmoid. -/
def siluArr (o : ℕ) (ho : o + 1024 ≤ 4800) (u : FVec Ideal ⟨2, ![65536, 1024]⟩ .bf16) (w : FVec Ideal ⟨2, ![1024, 4800]⟩ .f32) :
    FVec Ideal ⟨2, ![65536, 1024]⟩ .bf16 :=
  fun i => silu (projArr o ho u w i)

/-- The gates: the sigmoid of the products plus the biases. -/
def gateArr (u : FVec Ideal ⟨2, ![65536, 1024]⟩ .bf16) (w : FVec Ideal ⟨2, ![1024, 2048]⟩ .f32) (b : FVec Ideal ⟨1, ![2048]⟩ .f32) :
    FVec Ideal ⟨2, ![65536, 2048]⟩ .bf16 :=
  fun i => Ideal.logistic (proj u w (i 0) (i 1) + b (ix1 (i 1)))

/-- The values of the heads: entry `d` of head `h` at place `s` of sequence `b`. -/
def valueArr (u : FVec Ideal ⟨2, ![65536, 1024]⟩ .bf16) (w : FVec Ideal ⟨2, ![1024, 4800]⟩ .f32) (g : FVec Ideal ⟨1, ![256]⟩ .f32)
    (v : FVec Ideal ⟨2, ![256, 2048]⟩ .f32) : FVec Ideal ⟨4, ![8, 8, 8192, 128]⟩ .bf16 :=
  fun i => up
    (fun k => proj u w ⟨(i 0).val * 8192 + (i 2).val, by have h0 : (i 0).val < 8 := (i 0).isLt; have h2 : (i 2).val < 8192 := (i 2).isLt; omega⟩
      ⟨4480 + k.val, by omega⟩)
    (fun k => g (ix1 k)) (fun l n => v (ix2 l n))
    ⟨256 * (i 1).val + 128 + (i 3).val, by have h1 : (i 1).val < 8 := (i 1).isLt; have h3 : (i 3).val < 128 := (i 3).isLt; omega⟩

/-! ## The kernel's operations -/

section Kernel
variable {a b : ℕ}

/-- A load of the columns from `o` on. -/
theorem ld_cols {e : EltTy} (w : Vec Ideal ⟨2, ![a, b]⟩ e) (o n : ℕ)
    (inb : ∀ ax, ![0, o] ax + ![a, n] ax ≤ (⟨2, ![a, b]⟩ : Shape).size ax) (k : Fin a) (f : Fin n) (f' : Fin b) (hf : f'.val = o + f.val) :
    View.ld w (Rect.unit (s := ⟨2, ![a, b]⟩) ![0, o] ![a, n] inb) (ix2 k f) = w (ix2 k f') :=
  View.ld_unit_apply_of w _ _ _ _ (ix2 k f') fun ax => by
    match ax with
    | ⟨0, _⟩ => exact (Nat.zero_add _).symm
    | ⟨1, _⟩ => exact hf

/-- The sums of squares of a block's rows. -/
def sumV (x : FVec Ideal ⟨2, ![a, 256]⟩ .f32) (hr : (⟨2, ![a, 256]⟩ : Shape).Reduces [1] ⟨1, ![a]⟩)
    (hc : (⟨1, ![a]⟩ : Shape).ShapeCasts ⟨2, ![a, 1]⟩) : FVec Ideal ⟨2, ![a, 1]⟩ .f32 :=
  shapeCast ⟨2, ![a, 1]⟩ (multiReduction .add [1] ⟨1, ![a]⟩ (mulf x x) 0x00000000#32 hr (.inl rfl) rfl) hc

theorem sumV_apply (x : FVec Ideal ⟨2, ![a, 256]⟩ .f32) (hr : (⟨2, ![a, 256]⟩ : Shape).Reduces [1] ⟨1, ![a]⟩)
    (hc : (⟨1, ![a]⟩ : Shape).ShapeCasts ⟨2, ![a, 1]⟩) (i : Fin a) (u : Fin 1) :
    sumV x hr hc (ix2 i u) = ∑ k : Fin 256, x (ix2 i k) * x (ix2 i k) := by
  unfold sumV
  rw [cast_col]
  refine (Ideal.multiReduction_add_single _ _ hr _ _ _).trans (Finset.sum_congr rfl fun k _ => ?_)
  exact congrArg (fun p => x p * x p) (lift_row hr i k)

/-- The norm of a block's rows, from the sums of squares. -/
def normL (x : FVec Ideal ⟨2, ![a, 256]⟩ .f32) (g : FVec Ideal ⟨2, ![1, 256]⟩ .f32) (s : FVec Ideal ⟨2, ![a, 1]⟩ .f32)
    (hs : (⟨2, ![a, 1]⟩ : Shape).Broadcasts ⟨2, ![a, 256]⟩) (hg : (⟨2, ![1, 256]⟩ : Shape).Broadcasts ⟨2, ![a, 256]⟩) :
    FVec Ideal ⟨2, ![a, 256]⟩ .f32 :=
  mulf (mulf x (broadcastTo ⟨2, ![a, 256]⟩ (rsqrt (addf (divf s (broadcast ⟨2, ![a, 1]⟩ (Scalar.ofBits .f32 0x43800000#32 : Ideal .f32)))
    (broadcast ⟨2, ![a, 1]⟩ (Scalar.ofBits .f32 0x358637BD#32 : Ideal .f32)))) hs))
    (broadcastTo ⟨2, ![a, 256]⟩ g hg)

theorem normL_apply (x : FVec Ideal ⟨2, ![a, 256]⟩ .f32) (g : FVec Ideal ⟨2, ![1, 256]⟩ .f32)
    (hr : (⟨2, ![a, 256]⟩ : Shape).Reduces [1] ⟨1, ![a]⟩) (hc : (⟨1, ![a]⟩ : Shape).ShapeCasts ⟨2, ![a, 1]⟩)
    (hs : (⟨2, ![a, 1]⟩ : Shape).Broadcasts ⟨2, ![a, 256]⟩) (hg : (⟨2, ![1, 256]⟩ : Shape).Broadcasts ⟨2, ![a, 256]⟩) (i : Fin a)
    (j : Fin 256) :
    normL x g (sumV x hr hc) hs hg (ix2 i j) = rmsL (fun k => x (ix2 i k)) (fun k => g (ix2 0 k)) j := by
  unfold normL rmsL scaleL
  rw [mulf_apply, mulf_apply, col_spread, broadcastTo_1b_ab_apply]
  refine congrArg (fun v => x (ix2 i j) * Ideal.rsqrt (Ideal.div v (Ideal.ofBits .f32 0x43800000#32) + Ideal.ofBits .f32 0x358637BD#32)
    * g (ix2 0 j)) ?_
  exact sumV_apply x hr hc i 0

/-- A part of a block's columns, laid out as the rows of one head. -/
theorem head_apply (x : FVec Ideal ⟨2, ![256, 2048]⟩ .f32) (o : ℕ) (ho : o + 128 ≤ 2048)
    (hs : (⟨2, ![256, 2048]⟩ : Shape).Slices ![0, o] ⟨2, ![256, 128]⟩)
    (hc : (⟨2, ![256, 128]⟩ : Shape).ShapeCasts ⟨4, ![1, 1, 256, 128]⟩) (p q : Fin 1) (r : Fin 256) (d : Fin 128) :
    shapeCast ⟨4, ![1, 1, 256, 128]⟩ (extractStridedSlice ⟨2, ![256, 128]⟩ ![0, o] x hs) hc (ix4 p q r d)
      = x (ix2 r (⟨o + d.val, by omega⟩ : Fin 2048)) := by
  refine (shapeCast_apply _ hc _ (ix2 r d) (by
    rw [Shape.rowMajor_val_two, Shape.rowMajor_val_four]
    show r.val * 128 + d.val = ((p.val * 1 + q.val) * 256 + r.val) * 128 + d.val
    omega)).trans ?_
  exact extractStridedSlice_apply _ _ _ _ _ (fun a => by
    match a with
    | ⟨0, _⟩ => exact (Nat.zero_add _).symm
    | ⟨1, _⟩ => rfl)

end Kernel

end Cert.Att.Proj

end
-- ==== Proof.Decay.lean ====
/-
  The decay and the key of the recurrence from a lower bound and a gate, on the extended reals: the call's form and the reference's.
-/
module

public import proofs.«01_k».proof.Proof.ProjRow

@[expose] public section

noncomputable section

namespace Cert.Att.Decay

open Idealize.ShloMosaic

/-! ## The forms -/

/-- The exponential of minus a magnitude. -/
def fall (z : EReal) : EReal := Ideal.exp (0 - max z (-z))

/-- `1 / (1 + e^{-|z|})`. -/
def big (z : EReal) : EReal := Ideal.div 1 (1 + fall z)

/-- `e^{-|z|} / (1 + e^{-|z|})`. -/
def small (z : EReal) : EReal := fall z * big z

/-- The call's forget gate. -/
def gate (l z : EReal) : EReal := l + (1 - l) * (if 0 ≤ z then big z else small z)

/-- The call's key. -/
def key (l z : EReal) : EReal := (1 - l) * (if 0 ≤ z then small z else big z)

/-- The logarithm of a sum of exponentials, as the reference computes it. -/
def lse (a b : EReal) : EReal := max a b + Ideal.log (1 + Ideal.exp (-max (a - b) (-(a - b))))

/-- The reference's logarithm of the forget gate. -/
def logGate (l z : EReal) : EReal := lse (Ideal.log l) (Ideal.log (1 + -l) + -lse (-z) 0)

/-- The lower bound from the two entries of the table. -/
def bound (s t : EReal) : EReal := Ideal.div (Ideal.exp (s - max s t)) (Ideal.exp (s - max s t) + Ideal.exp (t - max s t))

/-! ## On the reals -/

theorem exp_coe (r : ℝ) : Ideal.exp (r : EReal) = ((Real.exp r : ℝ) : EReal) := rfl

theorem log_coe {r : ℝ} (h : 0 < r) : Ideal.log (r : EReal) = ((Real.log r : ℝ) : EReal) := if_neg (not_le.2 h)

theorem max_coe (r s : ℝ) : max (r : EReal) (s : EReal) = ((max r s : ℝ) : EReal) :=
  (Monotone.map_max (f := fun x : ℝ => (x : EReal)) fun _ _ h => EReal.coe_le_coe_iff.2 h).symm

theorem div_coe (r : ℝ) {s : ℝ} (h : s ≠ 0) : Ideal.div (r : EReal) (s : EReal) = ((r / s : ℝ) : EReal) := by
  unfold Ideal.div
  rw [if_neg (by exact_mod_cast h), ← EReal.coe_inv, ← EReal.coe_mul, div_eq_mul_inv]

theorem one_coe : (1 : EReal) = ((1 : ℝ) : EReal) := rfl

theorem zero_coe : (0 : EReal) = ((0 : ℝ) : EReal) := rfl

/-- The reference's form is the logarithm of the sum of the exponentials. -/
theorem lse_real (a b : ℝ) : max a b + Real.log (1 + Real.exp (-max (a - b) (-(a - b)))) = Real.log (Real.exp a + Real.exp b) := by
  rcases le_total a b with h | h
  · rw [max_eq_right h, max_eq_right (by linarith), ← Real.log_exp b, ← Real.log_mul (Real.exp_pos _).ne' (by positivity), Real.log_exp,
      mul_add, mul_one, ← Real.exp_add, add_comm]
    congr 3; ring
  · rw [max_eq_left h, max_eq_left (by linarith), ← Real.log_exp a, ← Real.log_mul (Real.exp_pos _).ne' (by positivity), Real.log_exp,
      mul_add, mul_one, ← Real.exp_add]
    congr 3; ring

theorem lse_coe (a b : ℝ) : lse (a : EReal) (b : EReal) = ((Real.log (Real.exp a + Real.exp b) : ℝ) : EReal) := by
  unfold lse
  rw [← EReal.coe_sub, ← EReal.coe_neg, max_coe, max_coe, ← EReal.coe_neg, exp_coe, one_coe, ← EReal.coe_add, log_coe (by positivity),
    ← EReal.coe_add, lse_real]

theorem lse_bot_right (a : ℝ) : lse (a : EReal) ⊥ = (a : EReal) := by
  unfold lse
  have h : (a : EReal) - ⊥ = ⊤ := rfl
  have e : Ideal.exp (-⊤ : EReal) = 0 := rfl
  rw [h, max_eq_left (show -(⊤ : EReal) ≤ ⊤ from le_top), e, add_zero, max_eq_left bot_le, one_coe, log_coe one_pos, Real.log_one]
  exact add_zero _

theorem fall_coe (z : ℝ) : fall (z : EReal) = ((Real.exp (-|z|) : ℝ) : EReal) := by
  unfold fall
  rw [← EReal.coe_neg, max_coe, zero_coe, ← EReal.coe_sub, exp_coe, zero_sub]
  rfl

theorem big_coe (z : ℝ) : big (z : EReal) = ((1 / (1 + Real.exp (-|z|)) : ℝ) : EReal) := by
  unfold big
  rw [fall_coe, one_coe, ← EReal.coe_add, div_coe _ (by positivity)]

theorem small_coe (z : ℝ) : small (z : EReal) = ((Real.exp (-|z|) * (1 / (1 + Real.exp (-|z|))) : ℝ) : EReal) := by
  unfold small
  rw [fall_coe, big_coe, ← EReal.coe_mul]

/-- The sigmoid, chosen by the sign. -/
theorem pick_coe (z : ℝ) : (if (0 : EReal) ≤ (z : EReal) then big z else small z) = ((1 / (1 + Real.exp (-z)) : ℝ) : EReal) := by
  by_cases h : 0 ≤ z
  · rw [if_pos (by exact_mod_cast h), big_coe, abs_of_nonneg h]
  · rw [if_neg (by exact_mod_cast h), small_coe, abs_of_neg (not_le.1 h), neg_neg, Real.exp_neg]
    congr 1
    have := Real.exp_pos z
    field_simp
    ring

/-- One less the sigmoid, chosen by the sign. -/
theorem rest_coe (z : ℝ) : (if (0 : EReal) ≤ (z : EReal) then small z else big z) = ((1 - 1 / (1 + Real.exp (-z)) : ℝ) : EReal) := by
  by_cases h : 0 ≤ z
  · rw [if_pos (by exact_mod_cast h), small_coe, abs_of_nonneg h]
    congr 1
    have := Real.exp_pos (-z)
    field_simp
    ring
  · rw [if_neg (by exact_mod_cast h), big_coe, abs_of_neg (not_le.1 h), neg_neg, Real.exp_neg]
    congr 1
    have := Real.exp_pos z
    field_simp
    ring

/-! ## The equality -/

/-- The reference's logarithm of the gate, the gate and the key, for the sigmoid's value `s`. -/
theorem of_sigmoid {l s : ℝ} (h0 : 0 < l) (h1 : l < 1) (hs : 0 ≤ s) (hs1 : s ≤ 1) :
    Ideal.log ((l : EReal) + (1 - (l : EReal)) * (s : EReal)) = ((Real.log (l + (1 - l) * s) : ℝ) : EReal)
      ∧ -(Ideal.exp ((Real.log (l + (1 - l) * s) : ℝ) : EReal) - 1) = (1 - (l : EReal)) * ((1 - s : ℝ) : EReal) := by
  have hp : 0 < l + (1 - l) * s := add_pos_of_pos_of_nonneg h0 (mul_nonneg (by linarith) hs)
  constructor
  · rw [one_coe, ← EReal.coe_sub, ← EReal.coe_mul, ← EReal.coe_add, log_coe hp]
  · rw [exp_coe, Real.exp_log hp, one_coe, ← EReal.coe_sub, ← EReal.coe_sub, ← EReal.coe_neg, ← EReal.coe_mul]
    congr 1
    ring

theorem logGate_of {l s : ℝ} (h0 : 0 < l) (h1 : l < 1) {z : EReal} (hz : (-lse (-z) 0 = ((Real.log s : ℝ) : EReal) ∧ 0 < s) ∨ (-lse (-z) 0 = ⊥ ∧ s = 0)) :
    logGate (l : EReal) z = ((Real.log (l + (1 - l) * s) : ℝ) : EReal) := by
  have h1' : 0 < 1 + -l := by linarith
  unfold logGate
  rw [log_coe h0, ← EReal.coe_neg, one_coe, ← EReal.coe_add, log_coe h1']
  rcases hz with ⟨e, hs⟩ | ⟨e, hs⟩
  · rw [e, ← EReal.coe_add, lse_coe, Real.exp_log h0, Real.exp_add, Real.exp_log h1', Real.exp_log hs, ← sub_eq_add_neg]
  · rw [e, EReal.add_bot, lse_bot_right, hs, mul_zero, add_zero]

/-- The sigmoid as the call picks it is a real between zero and one, and its logarithm is the reference's, minus infinity at zero. -/
theorem sigmoid_real (z : EReal) : ∃ s : ℝ, 0 ≤ s ∧ s ≤ 1 ∧ (if 0 ≤ z then big z else small z) = (s : EReal)
    ∧ (if 0 ≤ z then small z else big z) = ((1 - s : ℝ) : EReal)
    ∧ ((-lse (-z) 0 = ((Real.log s : ℝ) : EReal) ∧ 0 < s) ∨ (-lse (-z) 0 = ⊥ ∧ s = 0)) := by
  have cases : ∀ s : ℝ, 0 ≤ s → s ≤ 1 → (if 0 ≤ z then big z else small z) = (s : EReal) → (if 0 ≤ z then small z else big z) = ((1 - s : ℝ) : EReal) →
      ((-lse (-z) 0 = ((Real.log s : ℝ) : EReal) ∧ 0 < s) ∨ (-lse (-z) 0 = ⊥ ∧ s = 0)) →
      ∃ s : ℝ, 0 ≤ s ∧ s ≤ 1 ∧ (if 0 ≤ z then big z else small z) = (s : EReal)
          ∧ (if 0 ≤ z then small z else big z) = ((1 - s : ℝ) : EReal)
          ∧ ((-lse (-z) 0 = ((Real.log s : ℝ) : EReal) ∧ 0 < s) ∨ (-lse (-z) 0 = ⊥ ∧ s = 0)) :=
    fun s a b c d e => ⟨s, a, b, c, d, e⟩
  induction z using EReal.rec with
  | bot =>
    have f : fall ⊥ = 0 := by unfold fall; rw [EReal.neg_bot, max_eq_right bot_le]; rfl
    have b : big ⊥ = 1 := by unfold big; rw [f, add_zero, one_coe, div_coe _ one_ne_zero, div_one]
    have a : small ⊥ = 0 := by unfold small; rw [f, zero_mul]
    have n : ¬ (0 : EReal) ≤ ⊥ := by simp
    refine cases 0 le_rfl zero_le_one ?_ ?_ (.inr ⟨?_, rfl⟩)
    · rw [if_neg n, a]; rfl
    · rw [if_neg n, b, sub_zero]; rfl
    · unfold lse
      rw [EReal.neg_bot, sub_zero, max_eq_left (show -(⊤ : EReal) ≤ ⊤ from le_top), max_eq_left le_top]
      have e : Ideal.exp (-⊤ : EReal) = 0 := rfl
      rw [e, add_zero, one_coe, log_coe one_pos, EReal.top_add_coe, EReal.neg_top]
  | top =>
    have f : fall ⊤ = 0 := by unfold fall; rw [EReal.neg_top, max_eq_left bot_le]; rfl
    have b : big ⊤ = 1 := by unfold big; rw [f, add_zero, one_coe, div_coe _ one_ne_zero, div_one]
    have a : small ⊤ = 0 := by unfold small; rw [f, zero_mul]
    refine cases 1 zero_le_one le_rfl ?_ ?_ (.inl ⟨?_, one_pos⟩)
    · rw [if_pos le_top, b]; rfl
    · rw [if_pos le_top, a, sub_self]; rfl
    · unfold lse
      rw [EReal.neg_top, sub_zero, EReal.neg_bot, max_eq_right bot_le, max_eq_right bot_le]
      have e : Ideal.exp (-⊤ : EReal) = 0 := rfl
      rw [e, add_zero, one_coe, log_coe one_pos, Real.log_one]
      simp
  | coe z =>
    have hp : 0 < 1 + Real.exp (-z) := by positivity
    refine cases (1 / (1 + Real.exp (-z))) (by positivity) ?_ (pick_coe z) (rest_coe z) (.inl ⟨?_, by positivity⟩)
    · rw [div_le_one hp]; linarith [Real.exp_pos (-z)]
    · rw [← EReal.coe_neg, zero_coe, lse_coe, ← EReal.coe_neg, Real.exp_zero, one_div, Real.log_inv, add_comm]

/-- The call's gate and key are the reference's, for a lower bound between zero and one. -/
theorem decay_between {l : ℝ} (h0 : 0 < l) (h1 : l < 1) (z : EReal) :
    logGate l z = Ideal.log (gate l z) ∧ -(Ideal.exp (logGate l z) - 1) = key l z := by
  obtain ⟨s, hs, hs1, e, e', hz⟩ := sigmoid_real z
  have h := of_sigmoid h0 h1 hs hs1
  unfold gate key
  rw [logGate_of h0 h1 hz, e, e']
  exact ⟨h.1.symm, h.2⟩

theorem log_zero : Ideal.log (0 : EReal) = ⊥ := by
  rw [zero_coe]
  exact if_pos le_rfl

theorem lse_bot_left {x : EReal} (h : x ≠ ⊤) : lse ⊥ x = x := by
  unfold lse
  have e : Ideal.exp (-⊤ : EReal) = 0 := rfl
  rw [EReal.bot_sub, EReal.neg_bot, max_eq_right bot_le, max_eq_right bot_le, e, add_zero, one_coe, log_coe one_pos, Real.log_one]
  exact add_zero x

/-- So they are for the lower bound zero. -/
theorem decay_low (z : EReal) : logGate 0 z = Ideal.log (gate 0 z) ∧ -(Ideal.exp (logGate 0 z) - 1) = key 0 z := by
  obtain ⟨s, hs, hs1, e, e', hz⟩ := sigmoid_real z
  have l1 : Ideal.log (1 + -0 : EReal) = 0 := by rw [neg_zero, add_zero, one_coe, log_coe one_pos, Real.log_one]; rfl
  unfold gate key logGate
  rw [log_zero, l1, zero_add, zero_add, sub_zero, one_mul, one_mul, e, e']
  rcases hz with ⟨q, hp⟩ | ⟨q, hp⟩
  · rw [q, lse_bot_left (EReal.coe_ne_top _), exp_coe, Real.exp_log hp, log_coe hp]
    refine ⟨rfl, ?_⟩
    rw [one_coe, ← EReal.coe_sub, ← EReal.coe_neg, neg_sub]
  · subst hp
    rw [q, lse_bot_left (by simp)]
    refine ⟨log_zero.symm, ?_⟩
    have x : Ideal.exp (⊥ : EReal) = ((0 : ℝ) : EReal) := rfl
    rw [x, one_coe, ← EReal.coe_sub, ← EReal.coe_neg, neg_sub]

/-- And for the lower bound one. -/
theorem decay_high (z : EReal) : logGate 1 z = Ideal.log (gate 1 z) ∧ -(Ideal.exp (logGate 1 z) - 1) = key 1 z := by
  obtain ⟨s, hs, hs1, e, e', hz⟩ := sigmoid_real z
  have o : (1 : EReal) - 1 = 0 := by rw [one_coe, ← EReal.coe_sub, sub_self]; rfl
  have l0 : Ideal.log (1 : EReal) = 0 := by rw [one_coe, log_coe one_pos, Real.log_one]; rfl
  have l1 : Ideal.log (1 + -1 : EReal) = ⊥ := by rw [← sub_eq_add_neg, o, log_zero]
  have x : Ideal.exp (0 : EReal) = 1 := by rw [zero_coe, exp_coe, Real.exp_zero]; rfl
  have y : lse 0 ⊥ = 0 := by
    rw [zero_coe, lse_bot_right]
  unfold gate key logGate
  rw [l0, l1, EReal.bot_add, y, o, zero_mul, zero_mul, add_zero, l0, x, o, neg_zero]
  exact ⟨rfl, rfl⟩

/-- The lower bound, where the greater entry of its column is a real, is a real from zero to one. -/
theorem bound_real (s t : EReal) (h : ∃ r : ℝ, max s t = (r : EReal)) : ∃ l : ℝ, bound s t = (l : EReal) ∧ 0 ≤ l ∧ l ≤ 1 := by
  obtain ⟨r, hr⟩ := h
  have part : ∀ x : EReal, x ≤ (r : EReal) → ∃ p : ℝ, Ideal.exp (x - r) = (p : EReal) ∧ 0 ≤ p := fun x hx => by
    induction x using EReal.rec with
    | bot => exact ⟨0, by rw [EReal.bot_sub]; rfl, le_rfl⟩
    | top => exact absurd hx (by simp)
    | coe x => exact ⟨Real.exp (x - r), by rw [← EReal.coe_sub, exp_coe], (Real.exp_pos _).le⟩
  obtain ⟨p, hp, p0⟩ := part s (hr ▸ le_max_left s t)
  obtain ⟨q, hq, q0⟩ := part t (hr ▸ le_max_right s t)
  have one : Ideal.exp ((r : EReal) - r) = ((1 : ℝ) : EReal) := by rw [← EReal.coe_sub, sub_self, exp_coe, Real.exp_zero]
  have pos : 0 < p + q := by
    rcases le_total s t with hst | hst
    · rw [max_eq_right hst] at hr
      rw [hr, one] at hq
      have : (1 : ℝ) = q := by exact_mod_cast hq
      linarith
    · rw [max_eq_left hst] at hr
      rw [hr, one] at hp
      have : (1 : ℝ) = p := by exact_mod_cast hp
      linarith
  refine ⟨p / (p + q), ?_, by positivity, ?_⟩
  · unfold bound
    rw [hr, hp, hq, ← EReal.coe_add, div_coe _ pos.ne']
  · rw [div_le_one pos]
    linarith

/-- The call's gate and key are the reference's, where the greater entry of the lower bound's column is a real. -/
theorem decay_eq (s t : EReal) (h : ∃ r : ℝ, max s t = (r : EReal)) (z : EReal) :
    logGate (bound s t) z = Ideal.log (gate (bound s t) z) ∧ -(Ideal.exp (logGate (bound s t) z) - 1) = key (bound s t) z := by
  obtain ⟨l, e, h0, h1⟩ := bound_real s t h
  rw [e]
  rcases h0.lt_or_eq with h0 | h0
  · rcases h1.lt_or_eq with h1 | h1
    · exact decay_between h0 h1 z
    · subst h1; exact decay_high z
  · subst h0; exact decay_low z

/-! ## The arrays -/

/-- The lower bound of a column from the table. -/
def boundAt (t : FVec Ideal ⟨2, ![2, 1024]⟩ .f32) (j : Fin 1024) : EReal := bound (t (ValueIdx.ix2 (0 : Fin 2) j)) (t (ValueIdx.ix2 (1 : Fin 2) j))

/-- The logarithms of the decay, to base two. -/
def decayArr (u : FVec Ideal ⟨2, ![65536, 1024]⟩ .bf16) (w : FVec Ideal ⟨2, ![1024, 4800]⟩ .f32) (t : FVec Ideal ⟨2, ![2, 1024]⟩ .f32) :
    FVec Ideal ⟨2, ![65536, 1024]⟩ .f32 :=
  fun i => Ideal.log (gate (boundAt t (i 1)) (Proj.projArr 1024 (by decide) u w i)) * Ideal.ofBits .f32 0x3FB8AA3B#32

/-- The keys of the recurrence. -/
def keyArr (u : FVec Ideal ⟨2, ![65536, 1024]⟩ .bf16) (w : FVec Ideal ⟨2, ![1024, 4800]⟩ .f32) (t : FVec Ideal ⟨2, ![2, 1024]⟩ .f32) :
    FVec Ideal ⟨2, ![65536, 1024]⟩ .bf16 :=
  fun i => key (boundAt t (i 1)) (Proj.projArr 1024 (by decide) u w i)

end Cert.Att.Decay

end
-- ==== Proof.ProjBody.lean ====
/-
  The projections: what the body stores for five of the call's results, element by element on the extended reals, and the
  weights as the host prepares them.
-/
module

public import proofs.«01_k».proof.Proof.ProjRow
public import proofs.«01_k».proof.Proof.ProjFrame
public import Idealize.ShloMosaic.Lib.Pipeline.ValueKit

@[expose] public section

noncomputable section

namespace Cert.Kernel5Ideal.Proj

open Cert.Kernel5Ideal Cert.Kernel5Ideal.Gen
open Idealize.ShloMosaic hiding ix1 ix2 ix3 ix4 eq_ix2 eq_ix4 addf_apply mulf_apply divf_apply
open Idealize.ShloMosaic.TcCoe Idealize.ShloMosaic.ValueIdx
open Idealize.SL Idealize.SL.Sem
open Cert.Att.Row Cert.Att.Proj

/-! ## What the body stores -/

/-- The products of a block's row. -/
theorem product_apply (x : Vec Ideal S256x1024 .bf16) (w : Vec Ideal S1024x1024 .bf16) (r : Fin 256) (j : Fin 1024) :
    (matmul (F := Ideal) (φ₁ := .bf16) (φ₂ := .bf16) dot_S256x1024_S1024x1024_S256x1024_1_0_0_1_n_n none x w (constant S256x1024 .f32 0x00000000#32) : FVec Ideal S256x1024 .f32)
      (ix2 r j) = ∑ k : Fin 1024, x (ix2 r k) * w (ix2 k j) :=
  dot_apply (φ := .bf16) (ψ := .bf16) (a := 256) (b := 1024) (c := 1024) x w r j

theorem pay4_apply (x : Vec Ideal S256x1024 .bf16) (w : Vec Ideal S1024x1024 .bf16) (r : Fin 256) (j : Fin 1024) :
    k0_pay4 x w (ix2 r j) = silu (∑ k : Fin 1024, x (ix2 r k) * w (ix2 k j)) := by
  unfold k0_pay4
  simp only [shapeCast_self]
  exact congrArg silu (product_apply x w r j)

theorem pay21_apply (x : Vec Ideal S256x1024 .bf16) (w : Vec Ideal S1024x1024 .bf16) (r : Fin 256) (j : Fin 1024) :
    k0_pay21 x w (ix2 r j) = ∑ k : Fin 1024, x (ix2 r k) * w (ix2 k j) := by
  unfold k0_pay21
  simp only [shapeCast_self]
  exact product_apply x w r j

theorem pay22_apply (x : Vec Ideal S256x1024 .bf16) (w : Vec Ideal S1024x1024 .bf16) (r : Fin 256) (j : Fin 1024) :
    k0_pay22 x w (ix2 r j) = silu (∑ k : Fin 1024, x (ix2 r k) * w (ix2 k j)) := by
  unfold k0_pay22
  simp only [shapeCast_self]
  exact congrArg silu (product_apply x w r j)

theorem pay25_apply (x : Vec Ideal S256x1024 .bf16) (w : Vec Ideal S1024x1024 .bf16) (b : Vec Ideal S1x1024 .f32) (r : Fin 256)
    (j : Fin 1024) :
    k0_pay25 x w b (ix2 r j) = Ideal.logistic ((∑ k : Fin 1024, x (ix2 r k) * w (ix2 k j)) + b (ix2 (0 : Fin 1) j)) := by
  unfold k0_pay25
  simp only [shapeCast_self]
  refine congrArg Ideal.logistic ((addf_apply _ _ _).trans (congrArg₂ (fun p q : EReal => p + q) (product_apply x w r j) ?_))
  exact broadcastTo_1b_ab_apply _ _ _ _

theorem pay24_apply (x : Vec Ideal S256x1024 .bf16) (w : Vec Ideal S1024x1024 .bf16) (b : Vec Ideal S1x1024 .f32) (r : Fin 256)
    (j : Fin 1024) :
    k0_pay24 (k0_pay23 x w b) (ix2 r j)
      = Ideal.logistic ((∑ k : Fin 1024, x (ix2 r k) * w (ix2 k j)) + b (ix2 (0 : Fin 1) j)) :=
  pay25_apply x w b r j

theorem pay6_apply (x : Vec Ideal S256x1024 .bf16) (w : Vec Ideal S1024x768 .bf16) (r l : Fin 256) :
    k0_pay6 x w (ix2 r l) = ∑ k : Fin 1024, x (ix2 r k) * w (ix2 k (⟨384 + l.val, by omega⟩ : Fin 768)) := by
  unfold k0_pay6 k0_pay3
  simp only [shapeCast_self]
  refine (extractStridedSlice_apply _ _ _ _ (ix2 r (⟨384 + l.val, by omega⟩ : Fin 768)) (fun a => by
    match a with
    | ⟨0, _⟩ => exact (Nat.zero_add _).symm
    | ⟨1, _⟩ => rfl)).trans ?_
  exact dot_apply (φ := .bf16) (ψ := .bf16) (a := 256) (b := 1024) (c := 768) x w r _

/-- The second product: the norm of the latent times the weights. -/
theorem pay9_apply (x : Vec Ideal S256x1024 .bf16) (w : Vec Ideal S1024x768 .bf16) (g : Vec Ideal S1x256 .f32)
    (v : Vec Ideal S256x2048 .bf16) (r : Fin 256) (n : Fin 2048) :
    k0_pay9 (k0_pay6 x w) (k0_pay7 g) (k0_pay8 x w) (Scalar.ofBits .f32 0x43800000#32) v (ix2 r n)
      = up (fun l => k0_pay6 x w (ix2 r l)) (fun l => g (ix2 (0 : Fin 1) l)) (fun l n => v (ix2 l n)) n := by
  unfold k0_pay9 k0_pay8 k0_pay7
  simp only [shapeCast_self]
  refine (dot_apply (φ := .bf16) (ψ := .bf16) (a := 256) (b := 256) (c := 2048) _ v r n).trans
    (Finset.sum_congr rfl fun l _ => congrArg (· * v (ix2 l n)) ?_)
  exact normL_apply (a := 256) (k0_pay6 x w) g reduces_S256x256_S256 shapeCasts_S256_S256x1 broadcasts_S256x1_S256x256
    broadcasts_S1x256_S256x256 r l

/-! ## The weights as prepared -/

variable (m : (ℓ : Loc nD τ sig) → Buf (Elt Ideal) ℓ)

theorem V_in (c : Dev nD) (k : Fin 1024) (j : Fin 4864) (j' : Fin 4800) (hj : j'.val = j.val) :
    (V m c main_v6 : S1024x4864.Idx → EReal) (ix2 k j) = (m ((c.tc : Thread nD τ).loc main_arg2) : S1024x4800.Idx → EReal) (ix2 k j') := by
  unfold V
  after_results_simp
  exact concatenate_pair_apply_left _ _ _ concatenates_S1024x4800_S1024x64_S1024x4864_d1 (ix2 k j) rfl (ix2 k j') (fun b => by
    match b with
    | ⟨0, _⟩ => rfl
    | ⟨1, _⟩ => exact hj)

theorem V_gate (c : Dev nD) : (V m c main_v44 : S1024x2048.Idx → EReal)
    = (m ((c.tc : Thread nD τ).loc main_arg3) : S1024x2048.Idx → EReal) := by
  unfold V
  after_results_simp
  rfl

theorem V_bias (c : Dev nD) (k : Fin 2048) : (V m c main_v45 : S1x2048.Idx → EReal) (ix2 (0 : Fin 1) k)
    = (m ((c.tc : Thread nD τ).loc main_arg4) : S2048.Idx → EReal) (ix1 k) := by
  unfold V
  after_results_simp
  exact cast_row (b := 2048) _ _ 0 k

theorem V_gain (c : Dev nD) (k : Fin 256) : (V m c main_v47 : S1x256.Idx → EReal) (ix2 (0 : Fin 1) k)
    = (m ((c.tc : Thread nD τ).loc main_arg8) : S256.Idx → EReal) (ix1 k) := by
  unfold V
  after_results_simp
  exact cast_row (b := 256) _ _ 0 k

theorem V_up (c : Dev nD) (l : Fin 256) (h : Fin 8) (d : Fin 128) (n n' : Fin 2048) (hn : n.val = 1024 + 128 * h.val + d.val)
    (hn' : n'.val = 256 * h.val + 128 + d.val) :
    (V m c main_v25 : S256x2048.Idx → EReal) (ix2 l n) = (m ((c.tc : Thread nD τ).loc main_arg9) : S256x2048.Idx → EReal) (ix2 l n') := by
  unfold V
  after_results_simp
  refine (concatenate_pair_apply_right _ _ _ concatenates_S256x1024_S256x1024_S256x2048_d1 (ix2 l n) rfl rfl
    (ix2 l (⟨128 * h.val + d.val, by omega⟩ : Fin 1024)) (fun b hb => by
    match b with
    | ⟨0, _⟩ => rfl
    | ⟨1, _⟩ => exact absurd rfl hb) (by show 128 * h.val + d.val + 1024 = n.val; omega)).trans ?_
  after_results_simp
  refine (shapeCast_apply _ _ (ix2 l (⟨128 * h.val + d.val, by omega⟩ : Fin 1024)) (ix3 l h d) (by
    rw [Shape.rowMajor_val_two, Shape.rowMajor_val_three]
    show (l.val * 8 + h.val) * 128 + d.val = l.val * 1024 + (128 * h.val + d.val)
    omega)).trans ?_
  refine (extractStridedSlice_apply _ _ _ _ (ix3 l h (⟨128 + d.val, by omega⟩ : Fin 256)) (fun a => by
    match a with
    | ⟨0, _⟩ => exact (Nat.zero_add _).symm
    | ⟨1, _⟩ => exact (Nat.zero_add _).symm
    | ⟨2, _⟩ => rfl)).trans ?_
  exact shapeCast_apply _ _ (ix3 l h (⟨128 + d.val, by omega⟩ : Fin 256)) (ix2 l n') (by
    rw [Shape.rowMajor_val_two, Shape.rowMajor_val_three]
    show l.val * 2048 + n'.val = (l.val * 8 + h.val) * 256 + (128 + d.val)
    omega)

end Cert.Kernel5Ideal.Proj

end
-- ==== Proof.DecayBody.lean ====
/-
  The decay and the keys of the recurrence: what the projections' body stores for them, element by element on the extended reals.
-/
module

public import proofs.«01_k».proof.Proof.Decay
public import proofs.«01_k».proof.Proof.ProjBody

@[expose] public section

noncomputable section

namespace Cert.Att.Decay

open Idealize.ShloMosaic hiding ix1 ix2 ix4 eq_ix2 eq_ix4 addf_apply mulf_apply divf_apply
open Idealize.ShloMosaic.ValueIdx Cert.Att.Row

/-! ## Reductions of a table of two rows -/

theorem lift_column {a b : ℕ} (h : (⟨2, ![a, b]⟩ : Shape).Reduces [0] ⟨1, ![b]⟩) (j : Fin b) (k : Fin a) : h.lift (ix1 j) k = ix2 k j := by
  funext ax
  apply Fin.ext
  match ax with
  | ⟨0, _⟩ => rfl
  | ⟨1, _⟩ => rfl

theorem word_low : Ideal.ofBits .f32 0xFF800000#32 = ⊥ := by simp [Ideal.ofBits, Ideal.ieee]

theorem fold_two (b : EReal) (hb : b = ⊥) (x : Fin 2 → EReal) : (Finset.univ : Finset (Fin 2)).fold max b x = max (x 0) (x 1) := by
  subst hb
  rw [show (Finset.univ : Finset (Fin 2)) = {0, 1} from rfl, Finset.fold_insert (by decide), Finset.fold_singleton, max_eq_left bot_le]

/-- One bit chooses. -/
theorem choose (p : Prop) [Decidable p] (x y : EReal) : Scalar.select (BitVec.ofBool (decide p)) x y = if p then x else y := by
  by_cases h : p <;> simp [h, Scalar.select]

end Cert.Att.Decay

namespace Cert.Kernel5Ideal.Proj

open Cert.Kernel5Ideal Cert.Kernel5Ideal.Gen
open Idealize.ShloMosaic hiding ix1 ix2 ix3 ix4 eq_ix2 eq_ix4 addf_apply mulf_apply divf_apply
open Idealize.ShloMosaic.TcCoe Idealize.ShloMosaic.ValueIdx
open Cert.Att.Row Cert.Att.Proj Cert.Att.Decay

/-! ## The lower bound -/

/-- The exponentials of the table less its columns' greatest. -/
def tableE (t : FVec Ideal S2x1024 .f32) : FVec Ideal S2x1024 .f32 :=
  exp (subf t (broadcastTo S2x1024 (shapeCast S1x1024 (multiReduction .maximumf [0] S1024 t 0xFF800000#32 reduces_S2x1024_S1024 (.inl rfl) rfl)
    shapeCasts_S1024_S1x1024) broadcasts_S1x1024_S2x1024))

theorem tableE_apply (t : FVec Ideal S2x1024 .f32) (k : Fin 2) (j : Fin 1024) :
    tableE t (ix2 k j) = Ideal.exp (t (ix2 k j) - max (t (ix2 (0 : Fin 2) j)) (t (ix2 (1 : Fin 2) j))) := by
  unfold tableE
  refine congrArg (fun q : EReal => Ideal.exp (t (ix2 k j) - q)) ?_
  refine (broadcastTo_1b_ab_apply _ _ _ _).trans ((cast_row (b := 1024) _ _ 0 j).trans ?_)
  refine (Ideal.multiReduction_maximumf_single _ _ reduces_S2x1024_S1024 _ _ _).trans ((fold_two _ word_low _).trans ?_)
  exact congrArg₂ max (congrArg t (lift_column (a := 2) (b := 1024) _ j 0)) (congrArg t (lift_column (a := 2) (b := 1024) _ j 1))

theorem pay11_apply (t : Vec Ideal S2x1024 .f32) (u : Fin 1) (j : Fin 1024) :
    k0_pay11 t (ix2 u j) = boundAt t j := by
  have e : k0_pay11 t = divf
      (shapeCast S1x1024 (multiReduction .add [0] S1024 (extractStridedSlice S1x1024 ![0, 0] (tableE t) slices_S2x1024_o0_0_S1x1024) 0x00000000#32
        reduces_S1x1024_S1024 (.inl rfl) rfl) shapeCasts_S1024_S1x1024)
      (shapeCast S1x1024 (multiReduction .add [0] S1024 (tableE t) 0x00000000#32 reduces_S2x1024_S1024 (.inl rfl) rfl) shapeCasts_S1024_S1x1024) := by
    rfl
  rw [e]
  unfold boundAt bound
  refine congrArg₂ Ideal.div ((cast_row (b := 1024) _ _ u j).trans ?_) ((cast_row (b := 1024) _ _ u j).trans ?_)
  · refine (Ideal.multiReduction_add_single _ _ reduces_S1x1024_S1024 _ _ _).trans ((Fin.sum_univ_one _).trans ?_)
    refine (congrArg _ (lift_column (a := 1) (b := 1024) _ j 0)).trans ?_
    refine (extractStridedSlice_apply _ _ _ _ (ix2 (0 : Fin 2) j) (fun a => by
      match a with
      | ⟨0, _⟩ => rfl
      | ⟨1, _⟩ => exact (Nat.zero_add _).symm)).trans (tableE_apply t 0 j)
  · refine (Ideal.multiReduction_add_single _ _ reduces_S2x1024_S1024 _ _ _).trans ((Fin.sum_univ_two _).trans ?_)
    exact congrArg₂ (fun p q : EReal => p + q) ((congrArg (tableE t) (lift_column (a := 2) (b := 1024) _ j 0)).trans (tableE_apply t 0 j))
      ((congrArg (tableE t) (lift_column (a := 2) (b := 1024) _ j 1)).trans (tableE_apply t 1 j))

/-! ## The decay and the key -/

theorem pay12_apply (x : Vec Ideal S256x1024 .bf16) (w : Vec Ideal S1024x1024 .bf16) (r : Fin 256) (j : Fin 1024) :
    k0_pay12 x w (ix2 r j) = ∑ k : Fin 1024, x (ix2 r k) * w (ix2 k j) := by
  unfold k0_pay12
  simp only [shapeCast_self]
  exact product_apply x w r j

theorem pay13_apply (x : Vec Ideal S256x1024 .bf16) (w : Vec Ideal S1024x1024 .bf16) (i : S256x1024.Idx) :
    k0_pay13 x w i = fall (k0_pay12 x w i) :=
  congrArg (fun q : EReal => Ideal.exp (q - max (k0_pay12 x w i : EReal) (-(k0_pay12 x w i)))) Ideal.ofBits_zero_f32

theorem pay14_apply (x : Vec Ideal S256x1024 .bf16) (w : Vec Ideal S1024x1024 .bf16) (i : S256x1024.Idx) :
    k0_pay14 x w i = big (k0_pay12 x w i) := by
  have e : k0_pay14 x w i = Ideal.div (Ideal.ofBits .f32 0x3F800000#32) (Ideal.ofBits .f32 0x3F800000#32 + k0_pay13 x w i) := rfl
  rw [e, pay13_apply, Ideal.ofBits_one_f32]
  rfl

theorem pay15_apply (x : Vec Ideal S256x1024 .bf16) (w : Vec Ideal S1024x1024 .bf16) (i : S256x1024.Idx) :
    k0_pay15 x w i = small (k0_pay12 x w i) :=
  congrArg₂ (fun p q : EReal => p * q) (pay13_apply x w i) (pay14_apply x w i)

theorem pay16_apply (x : Vec Ideal S256x1024 .bf16) (w : Vec Ideal S1024x1024 .bf16) (i : S256x1024.Idx) :
    k0_pay16 x w i = BitVec.ofBool (decide ((0 : EReal) ≤ k0_pay12 x w i)) :=
  congrArg (fun q : EReal => BitVec.ofBool (decide (q ≤ k0_pay12 x w i))) Ideal.ofBits_zero_f32

theorem pay18_apply (x : Vec Ideal S256x1024 .bf16) (w : Vec Ideal S1024x1024 .bf16) (i : S256x1024.Idx) :
    k0_pay18 x w i = if (0 : EReal) ≤ k0_pay12 x w i then big (k0_pay12 x w i) else small (k0_pay12 x w i) := by
  have e : k0_pay18 x w i = Scalar.select (k0_pay16 x w i) (k0_pay14 x w i) (k0_pay15 x w i) := rfl
  rw [e, pay16_apply, pay14_apply, pay15_apply]
  exact choose _ _ _

theorem pay19_apply (t : Vec Ideal S2x1024 .f32) (x : Vec Ideal S256x1024 .bf16) (w : Vec Ideal S1024x1024 .bf16) (r : Fin 256) (j : Fin 1024) :
    k0_pay19 (k0_pay11 t) (k0_pay17 t) (k0_pay18 x w) (ix2 r j)
      = Ideal.log (gate (boundAt t j) (∑ k : Fin 1024, x (ix2 r k) * w (ix2 k j)))
        * Ideal.ofBits .f32 0x3FB8AA3B#32 := by
  have e : k0_pay19 (k0_pay11 t) (k0_pay17 t) (k0_pay18 x w) (ix2 r j)
      = Ideal.log (broadcastTo S256x1024 (k0_pay11 t) broadcasts_S1x1024_S256x1024 (ix2 r j)
        + broadcastTo S256x1024 (k0_pay17 t) broadcasts_S1x1024_S256x1024 (ix2 r j) * k0_pay18 x w (ix2 r j))
        * Ideal.ofBits .f32 0x3FB8AA3B#32 := rfl
  have e17 : k0_pay17 t (ix2 (0 : Fin 1) j) = Ideal.ofBits .f32 0x3F800000#32 - k0_pay11 t (ix2 (0 : Fin 1) j) := rfl
  have b1 := broadcastTo_1b_ab_apply (k0_pay11 t) broadcasts_S1x1024_S256x1024 r j
  have b2 := broadcastTo_1b_ab_apply (k0_pay17 t) broadcasts_S1x1024_S256x1024 r j
  rw [e, b1, b2, e17, pay11_apply, pay18_apply, pay12_apply, Ideal.ofBits_one_f32]
  rfl

theorem pay20_apply (t : Vec Ideal S2x1024 .f32) (x : Vec Ideal S256x1024 .bf16) (w : Vec Ideal S1024x1024 .bf16) (r : Fin 256) (j : Fin 1024) :
    k0_pay20 (k0_pay11 t) (k0_pay14 x w) (k0_pay15 x w) (k0_pay16 x w) (ix2 r j)
      = key (boundAt t j) (∑ k : Fin 1024, x (ix2 r k) * w (ix2 k j)) := by
  have e : k0_pay20 (k0_pay11 t) (k0_pay14 x w) (k0_pay15 x w) (k0_pay16 x w) (ix2 r j)
      = broadcastTo S256x1024 (k0_pay17 t) broadcasts_S1x1024_S256x1024 (ix2 r j)
        * Scalar.select (k0_pay16 x w (ix2 r j)) (k0_pay15 x w (ix2 r j)) (k0_pay14 x w (ix2 r j)) := rfl
  have e17 : k0_pay17 t (ix2 (0 : Fin 1) j) = Ideal.ofBits .f32 0x3F800000#32 - k0_pay11 t (ix2 (0 : Fin 1) j) := rfl
  have b2 := broadcastTo_1b_ab_apply (k0_pay17 t) broadcasts_S1x1024_S256x1024 r j
  rw [e, b2, e17, pay11_apply, pay16_apply, pay14_apply, pay15_apply, pay12_apply, Ideal.ofBits_one_f32, choose]
  rfl

end Cert.Kernel5Ideal.Proj

end
-- ==== Proof.Proj.lean ====
/-
  The projections: seven of the call's result arrays, element by element on the extended reals.
-/
module

public import proofs.«01_k».proof.Proof.DecayBody
public import Idealize.ShloMosaic.Lib.Pipeline.ValueKit

@[expose] public section

noncomputable section

namespace Cert.Kernel5Ideal.Proj

open Cert.Kernel5Ideal Cert.Kernel5Ideal.Gen
open Idealize.ShloMosaic hiding ix1 ix2 ix3 ix4 eq_ix2 eq_ix4 addf_apply mulf_apply divf_apply
open Idealize.ShloMosaic.TcCoe Idealize.ShloMosaic.ValueIdx
open Idealize.SL Idealize.SL.Sem
open Cert.Att.Row Cert.Att.Proj Cert.Att.Decay

variable (m : (ℓ : Loc nD τ sig) → Buf (Elt Ideal) ℓ) (ρ : Dev nD → PrngReg)

/-! ## The results named -/

/-- The queries of the recurrence: the unit of the products with the columns from 0 on. -/
abbrev resQ (c : Dev nD) : Vec Ideal S65536x1024 .bf16 := siluArr 0 (by decide) (m ((c.tc : Thread nD τ).loc main_arg0)) (m ((c.tc : Thread nD τ).loc main_arg2))

/-- The logarithms of the decay of the recurrence, to base two. -/
abbrev resL (c : Dev nD) : Vec Ideal S65536x1024 .f32 := decayArr (m ((c.tc : Thread nD τ).loc main_arg0)) (m ((c.tc : Thread nD τ).loc main_arg2)) (m ((c.tc : Thread nD τ).loc main_arg5))

/-- The keys of the recurrence. -/
abbrev resK (c : Dev nD) : Vec Ideal S65536x1024 .bf16 := keyArr (m ((c.tc : Thread nD τ).loc main_arg0)) (m ((c.tc : Thread nD τ).loc main_arg2)) (m ((c.tc : Thread nD τ).loc main_arg5))

/-- The values of the recurrence: the products with the columns from 2048 on. -/
abbrev resV (c : Dev nD) : Vec Ideal S65536x1024 .bf16 := projArr 2048 (by decide) (m ((c.tc : Thread nD τ).loc main_arg0)) (m ((c.tc : Thread nD τ).loc main_arg2))

/-- The output gate of the recurrence: the unit of the products with the columns from 3072 on. -/
abbrev resG (c : Dev nD) : Vec Ideal S65536x1024 .bf16 := siluArr 3072 (by decide) (m ((c.tc : Thread nD τ).loc main_arg0)) (m ((c.tc : Thread nD τ).loc main_arg2))

/-- The gates of the merge. -/
abbrev resM (c : Dev nD) : Vec Ideal S65536x2048 .bf16 := gateArr (m ((c.tc : Thread nD τ).loc main_arg0)) (m ((c.tc : Thread nD τ).loc main_arg3)) (m ((c.tc : Thread nD τ).loc main_arg4))

/-- The values of the attention. -/
abbrev resH (c : Dev nD) : Vec Ideal S8x8x8192x128 .bf16 := valueArr (m ((c.tc : Thread nD τ).loc main_arg0)) (m ((c.tc : Thread nD τ).loc main_arg2)) (m ((c.tc : Thread nD τ).loc main_arg8)) (m ((c.tc : Thread nD τ).loc main_arg9))

/-! ## The blocks read -/

theorem index_0 : ∀ t : Fin cfg0.N, win0_0.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_14 : ∀ t : Fin cfg0.N, win0_14.index t = ![t.val, 0] := (by decide +kernel : ∀ t : Fin grid0.N, _)
theorem index_15 : ∀ t : Fin cfg0.N, win0_15.index t = ![t.val, 0] := (by decide +kernel : ∀ t : Fin grid0.N, _)
theorem index_16 : ∀ t : Fin cfg0.N, win0_16.index t = ![t.val, 0] := (by decide +kernel : ∀ t : Fin grid0.N, _)
theorem index_17 : ∀ t : Fin cfg0.N, win0_17.index t = ![t.val, 0] := (by decide +kernel : ∀ t : Fin grid0.N, _)
theorem index_18 : ∀ t : Fin cfg0.N, win0_18.index t = ![t.val, 0] := (by decide +kernel : ∀ t : Fin grid0.N, _)
theorem index_19 : ∀ t : Fin cfg0.N, win0_19.index t = ![t.val, 0] := (by decide +kernel : ∀ t : Fin grid0.N, _)
theorem index_22 : ∀ t : Fin cfg0.N, win0_22.index t = ![t.val / 32, 0, t.val % 32, 0] := (by decide +kernel : ∀ t : Fin grid0.N, _)

theorem iblk_0 (c : Dev nD) (t : Fin cfg0.N) (i : Fin 65536) (r : Fin 256) (k : Fin 1024) (hi : i.val = t.val * 256 + r.val) :
    iblk m c 0 t (ix2 r k) = (m ((c.tc : Thread nD τ).loc main_arg0) : Vec Ideal S65536x1024 .bf16) (ix2 i k) := by
  blk_simp [iblk]
  refine (congrFun (V_main_arg0 m c) _).trans (congrArg (m ((c.tc : Thread nD τ).loc main_arg0)) ?_)
  blk_ext [index_0]
  exact hi.symm

theorem iblk_2 (c : Dev nD) (t : Fin cfg0.N) (k : Fin 1024) (j : Fin 4864) (j' : Fin 4800) (hj : j'.val = j.val) :
    iblk m c 2 t (ix2 k j) = (m ((c.tc : Thread nD τ).loc main_arg2) : Vec Ideal S1024x4800 .f32) (ix2 k j') := by
  blk_simp [iblk]
  refine (congrArg (V m c main_v6 : S1024x4864.Idx → EReal) ?_).trans (V_in m c k j j' hj)
  blk_ext [index_2]

theorem iblk_3 (c : Dev nD) (t : Fin cfg0.N) (k : Fin 1024) (f : Fin 2048) :
    iblk m c 3 t (ix2 k f) = (m ((c.tc : Thread nD τ).loc main_arg3) : Vec Ideal S1024x2048 .f32) (ix2 k f) := by
  blk_simp [iblk]
  refine (congrFun (V_gate m c) _).trans (congrArg (m ((c.tc : Thread nD τ).loc main_arg3)) ?_)
  blk_ext [index_3]

theorem iblk_4 (c : Dev nD) (t : Fin cfg0.N) (k : Fin 2048) :
    iblk m c 4 t (ix2 (0 : Fin 1) k) = (m ((c.tc : Thread nD τ).loc main_arg4) : Vec Ideal S2048 .f32) (ix1 k) := by
  blk_simp [iblk]
  refine (congrArg (V m c main_v45 : S1x2048.Idx → EReal) ?_).trans (V_bias m c k)
  blk_ext [index_4]

theorem iblk_5 (c : Dev nD) (t : Fin cfg0.N) (r : Fin 2) (k : Fin 1024) :
    iblk m c 5 t (ix2 r k) = (m ((c.tc : Thread nD τ).loc main_arg5) : Vec Ideal S2x1024 .f32) (ix2 r k) := by
  blk_simp [iblk]
  refine (congrFun (V_main_arg5 m c) _).trans (congrArg (m ((c.tc : Thread nD τ).loc main_arg5)) ?_)
  blk_ext [index_5]

theorem iblk_8 (c : Dev nD) (t : Fin cfg0.N) (k : Fin 256) :
    iblk m c 8 t (ix2 (0 : Fin 1) k) = (m ((c.tc : Thread nD τ).loc main_arg8) : Vec Ideal S256 .f32) (ix1 k) := by
  blk_simp [iblk]
  refine (congrArg (V m c main_v47 : S1x256.Idx → EReal) ?_).trans (V_gain m c k)
  blk_ext [index_8]

theorem iblk_9 (c : Dev nD) (t : Fin cfg0.N) (l : Fin 256) (h : Fin 8) (d : Fin 128) (n n' : Fin 2048)
    (hn : n.val = 1024 + 128 * h.val + d.val) (hn' : n'.val = 256 * h.val + 128 + d.val) :
    iblk m c 9 t (ix2 l n) = (m ((c.tc : Thread nD τ).loc main_arg9) : Vec Ideal S256x2048 .f32) (ix2 l n') := by
  blk_simp [iblk]
  refine (congrArg (V m c main_v25 : S256x2048.Idx → EReal) ?_).trans (V_up m c l h d n n' hn hn')
  blk_ext [index_9]

/-! ## The blocks stored -/

section Stored

variable (x0 : Vec Ideal S256x1024 .bf16) (x1 : Vec Ideal S256x1 .i32) (x2 : Vec Ideal S1024x4864 .bf16)
  (x3 : Vec Ideal S1024x2048 .bf16) (x4 : Vec Ideal S1x2048 .f32) (x5 : Vec Ideal S2x1024 .f32) (x6 : Vec Ideal S1x384 .f32)
  (x7 : Vec Ideal S384x2048 .bf16) (x8 : Vec Ideal S1x256 .f32) (x9 : Vec Ideal S256x2048 .bf16) (x10 x11 x12 x13 : Vec Ideal S1x128 .f32)

/-- The products of a block's row with a part of the weights. -/
theorem part_eq (o n : ℕ) (inb : ∀ ax, ![0, o] ax + ![1024, n] ax ≤ S1024x4864.size ax) (r : Fin 256) (j : Fin n) (j' : Fin 4864)
    (hj : j'.val = o + j.val) :
    (∑ k : Fin 1024, (View.ld x0 r0_0 : Vec Ideal S256x1024 .bf16) (ix2 r k)
        * (View.ld x2 (Rect.unit (s := S1024x4864) ![0, o] ![1024, n] inb) : Vec Ideal ⟨2, ![1024, n]⟩ .bf16) (ix2 k j))
      = ∑ k : Fin 1024, x0 (ix2 r k) * x2 (ix2 k j') :=
  Finset.sum_congr rfl fun k _ => congrArg₂ (fun p q : EReal => p * q)
    (ld_cols (a := 256) (b := 1024) (e := .bf16) x0 0 1024 _ r k k (Nat.zero_add _).symm)
    (ld_cols (a := 1024) (b := 4864) (e := .bf16) x2 o n inb k j j' hj)

theorem out14_apply (r : Fin 256) (j : Fin 1024) (j' : Fin 4864) (hj : j'.val = 0 + j.val) :
    out0_14 x0 x1 x2 x3 x4 x5 x6 x7 x8 x9 x10 x11 x12 x13 (ix2 r j) = silu (∑ k : Fin 1024, x0 (ix2 r k) * x2 (ix2 k j')) := by
  unfold out0_14
  refine (congrFun (View.canon_cons_unit_zero (S := S256x1024) (by funext a; match a with | ⟨0, _⟩ => rfl | ⟨1, _⟩ => rfl) _ _ _) _).trans ?_
  exact (pay4_apply _ _ r j).trans (congrArg silu (part_eq x0 x2 0 1024 _ r j j' hj))

theorem bound_eq (j : Fin 1024) : boundAt (View.ld x5 r0_7 : Vec Ideal S2x1024 .f32) j = boundAt x5 j :=
  congrArg₂ bound (ld_cols (a := 2) (b := 1024) (e := .f32) x5 0 1024 _ 0 j j (Nat.zero_add _).symm)
    (ld_cols (a := 2) (b := 1024) (e := .f32) x5 0 1024 _ 1 j j (Nat.zero_add _).symm)

theorem out15_apply (r : Fin 256) (j : Fin 1024) (j' : Fin 4864) (hj : j'.val = 1024 + j.val) :
    out0_15 x0 x1 x2 x3 x4 x5 x6 x7 x8 x9 x10 x11 x12 x13 (ix2 r j)
      = Ideal.log (gate (boundAt x5 j) (∑ k : Fin 1024, x0 (ix2 r k) * x2 (ix2 k j'))) * Ideal.ofBits .f32 0x3FB8AA3B#32 := by
  unfold out0_15
  refine (congrFun (View.canon_cons_unit_zero (S := S256x1024) (by funext a; match a with | ⟨0, _⟩ => rfl | ⟨1, _⟩ => rfl) _ _ _) _).trans ?_
  exact (pay19_apply _ _ _ r j).trans (congrArg₂ (fun p q : EReal => Ideal.log (gate p q) * Ideal.ofBits .f32 0x3FB8AA3B#32) (bound_eq x5 j)
    (part_eq x0 x2 1024 1024 _ r j j' hj))

theorem out16_apply (r : Fin 256) (j : Fin 1024) (j' : Fin 4864) (hj : j'.val = 1024 + j.val) :
    out0_16 x0 x1 x2 x3 x4 x5 x6 x7 x8 x9 x10 x11 x12 x13 (ix2 r j)
      = key (boundAt x5 j) (∑ k : Fin 1024, x0 (ix2 r k) * x2 (ix2 k j')) := by
  unfold out0_16
  refine (congrFun (View.canon_cons_unit_zero (S := S256x1024) (by funext a; match a with | ⟨0, _⟩ => rfl | ⟨1, _⟩ => rfl) _ _ _) _).trans ?_
  exact (pay20_apply _ _ _ r j).trans (congrArg₂ key (bound_eq x5 j) (part_eq x0 x2 1024 1024 _ r j j' hj))

theorem out17_apply (r : Fin 256) (j : Fin 1024) (j' : Fin 4864) (hj : j'.val = 2048 + j.val) :
    out0_17 x0 x1 x2 x3 x4 x5 x6 x7 x8 x9 x10 x11 x12 x13 (ix2 r j) = ∑ k : Fin 1024, x0 (ix2 r k) * x2 (ix2 k j') := by
  unfold out0_17
  refine (congrFun (View.canon_cons_unit_zero (S := S256x1024) (by funext a; match a with | ⟨0, _⟩ => rfl | ⟨1, _⟩ => rfl) _ _ _) _).trans ?_
  exact (pay21_apply _ _ r j).trans (part_eq x0 x2 2048 1024 _ r j j' hj)

theorem out18_apply (r : Fin 256) (j : Fin 1024) (j' : Fin 4864) (hj : j'.val = 3072 + j.val) :
    out0_18 x0 x1 x2 x3 x4 x5 x6 x7 x8 x9 x10 x11 x12 x13 (ix2 r j) = silu (∑ k : Fin 1024, x0 (ix2 r k) * x2 (ix2 k j')) := by
  unfold out0_18
  refine (congrFun (View.canon_cons_unit_zero (S := S256x1024) (by funext a; match a with | ⟨0, _⟩ => rfl | ⟨1, _⟩ => rfl) _ _ _) _).trans ?_
  exact (pay22_apply _ _ r j).trans (congrArg silu (part_eq x0 x2 3072 1024 _ r j j' hj))

/-- The gate's argument in a part of the columns, at an entry. -/
theorem gate_part (o : ℕ) (inb : ∀ ax, ![0, o] ax + ![1024, 1024] ax ≤ S1024x2048.size ax)
    (inb' : ∀ ax, ![0, o] ax + ![1, 1024] ax ≤ S1x2048.size ax) (r : Fin 256) (j : Fin 1024) (j' : Fin 2048) (hj : j'.val = o + j.val) :
    (∑ k : Fin 1024, (View.ld x0 r0_0 : Vec Ideal S256x1024 .bf16) (ix2 r k)
        * (View.ld x3 (Rect.unit (s := S1024x2048) ![0, o] ![1024, 1024] inb) : Vec Ideal S1024x1024 .bf16) (ix2 k j))
      + (View.ld x4 (Rect.unit (s := S1x2048) ![0, o] ![1, 1024] inb') : Vec Ideal S1x1024 .f32) (ix2 (0 : Fin 1) j)
      = (∑ k : Fin 1024, x0 (ix2 r k) * x3 (ix2 k j')) + x4 (ix2 (0 : Fin 1) j') :=
  congrArg₂ (fun p q : EReal => p + q)
    (Finset.sum_congr rfl fun k _ => congrArg₂ (fun p q : EReal => p * q)
      (ld_cols (a := 256) (b := 1024) (e := .bf16) x0 0 1024 _ r k k (Nat.zero_add _).symm)
      (ld_cols (a := 1024) (b := 2048) (e := .bf16) x3 o 1024 inb k j j' hj))
    (ld_cols (a := 1) (b := 2048) (e := .f32) x4 o 1024 inb' 0 j j' hj)

theorem out19_apply (r : Fin 256) (j : Fin 2048) :
    out0_19 x0 x1 x2 x3 x4 x5 x6 x7 x8 x9 x10 x11 x12 x13 (ix2 r j) = Ideal.logistic ((∑ k : Fin 1024, x0 (ix2 r k) * x3 (ix2 k j)) + x4 (ix2 (0 : Fin 1) j)) := by
  unfold out0_19
  refine View.canon_eq_of_allAt _ (ix2 r j) _ (cover0_19 _ _ (ix2 r j)) ?_
  refine View.allAt_cons_unit _ _ _ _ _ (fun z hz => ?_) ?_
  · obtain rfl : r = z 0 := Fin.ext ((hz 0).trans (Nat.zero_add _))
    refine (congrArg _ (eq_ix2 z)).trans ((pay25_apply _ _ _ (z 0) (z 1)).trans (congrArg Ideal.logistic ?_))
    exact gate_part x0 x3 x4 1024 _ _ (z 0) (z 1) j (hz 1)
  refine View.allAt_cons_unit _ _ _ _ _ (fun z hz => ?_) (View.allAt_nil _ _)
  obtain rfl : r = z 0 := Fin.ext ((hz 0).trans (Nat.zero_add _))
  refine (congrArg _ (eq_ix2 z)).trans ((pay24_apply _ _ _ (z 0) (z 1)).trans (congrArg Ideal.logistic ?_))
  exact gate_part x0 x3 x4 0 _ _ (z 0) (z 1) j (hz 1)

/-- The values laid out by head. -/
def headsOf (K : FVec Ideal S256x2048 .f32) : Vec Ideal S1x8x256x128 .bf16 := fun y =>
  K (ix2 (y 2) (⟨1024 + 128 * (y 1).val + (y 3).val, by
    have h1 : (y 1).val < 8 := (y 1).isLt
    have h3 : (y 3).val < 128 := (y 3).isLt
    omega⟩ : Fin 2048))

theorem head_part (K : FVec Ideal S256x2048 .f32) (h o : ℕ) (ho : o = 1024 + 128 * h) (hle : o + 128 ≤ 2048)
    (hs : S256x2048.Slices ![0, o] S256x128) (hc : S256x128.ShapeCasts S1x1x256x128) (y : S1x8x256x128.Idx) (z : S1x1x256x128.Idx)
    (hz : ∀ a, (y a).val = ![0, h, 0, 0] a + (z a).val) :
    shapeCast S1x1x256x128 (extractStridedSlice S256x128 ![0, o] K hs) hc z = headsOf K y := by
  have h1 : (y 1).val = h + (z 1).val := hz 1
  have h1' : (z 1).val < 1 := (z 1).isLt
  have h3 : (y 3).val = 0 + (z 3).val := hz 3
  refine (congrArg _ (eq_ix4 z)).trans ((head_apply K o hle hs hc (z 0) (z 1) (z 2) (z 3)).trans (congrArg K ?_))
  refine congrArg₂ ix2 (Fin.ext ((hz 2).trans (Nat.zero_add _)).symm) (Fin.ext ?_)
  show o + (z 3).val = 1024 + 128 * (y 1).val + (y 3).val
  omega

theorem heads_eq :
    out0_22 x0 x1 x2 x3 x4 x5 x6 x7 x8 x9 x10 x11 x12 x13 = headsOf (k0_pay111 x0 x1 x2 x3 x4 x5 x6 x7 x8 x9 x10 x11 x12 x13) := by
  funext y
  unfold out0_22
  generalize k0_pay111 x0 x1 x2 x3 x4 x5 x6 x7 x8 x9 x10 x11 x12 x13 = K
  refine View.canon_eq_of_allAt _ y _ (cover0_22 _ _ _ _ _ _ _ _ y) ?_
  refine View.allAt_cons_unit _ _ _ _ _ (fun z hz => head_part K 7 1920 rfl (by decide) slices_S256x2048_o0_1920_S256x128 shapeCasts_S256x128_S1x1x256x128 y z hz) ?_
  refine View.allAt_cons_unit _ _ _ _ _ (fun z hz => head_part K 6 1792 rfl (by decide) slices_S256x2048_o0_1792_S256x128 shapeCasts_S256x128_S1x1x256x128 y z hz) ?_
  refine View.allAt_cons_unit _ _ _ _ _ (fun z hz => head_part K 5 1664 rfl (by decide) slices_S256x2048_o0_1664_S256x128 shapeCasts_S256x128_S1x1x256x128 y z hz) ?_
  refine View.allAt_cons_unit _ _ _ _ _ (fun z hz => head_part K 4 1536 rfl (by decide) slices_S256x2048_o0_1536_S256x128 shapeCasts_S256x128_S1x1x256x128 y z hz) ?_
  refine View.allAt_cons_unit _ _ _ _ _ (fun z hz => head_part K 3 1408 rfl (by decide) slices_S256x2048_o0_1408_S256x128 shapeCasts_S256x128_S1x1x256x128 y z hz) ?_
  refine View.allAt_cons_unit _ _ _ _ _ (fun z hz => head_part K 2 1280 rfl (by decide) slices_S256x2048_o0_1280_S256x128 shapeCasts_S256x128_S1x1x256x128 y z hz) ?_
  refine View.allAt_cons_unit _ _ _ _ _ (fun z hz => head_part K 1 1152 rfl (by decide) slices_S256x2048_o0_1152_S256x128 shapeCasts_S256x128_S1x1x256x128 y z hz) ?_
  refine View.allAt_cons_unit _ _ _ _ _ (fun z hz => head_part K 0 1024 rfl (by decide) slices_S256x2048_o0_1024_S256x128 shapeCasts_S256x128_S1x1x256x128 y z hz) ?_
  exact View.allAt_nil _ _

theorem out22_apply (u : Fin 1) (h : Fin 8) (r : Fin 256) (d : Fin 128) :
    out0_22 x0 x1 x2 x3 x4 x5 x6 x7 x8 x9 x10 x11 x12 x13 (ix4 u h r d)
      = up (fun l => ∑ k : Fin 1024, x0 (ix2 r k) * x2 (ix2 k (⟨4480 + l.val, by omega⟩ : Fin 4864)))
        (fun l => x8 (ix2 (0 : Fin 1) l)) (fun l n => x9 (ix2 l n)) (⟨1024 + 128 * h.val + d.val, by omega⟩ : Fin 2048) := by
  refine (congrFun (heads_eq x0 x1 x2 x3 x4 x5 x6 x7 x8 x9 x10 x11 x12 x13) _).trans ?_
  unfold k0_pay111
  refine (pay9_apply _ _ _ _ r (⟨1024 + 128 * h.val + d.val, by omega⟩ : Fin 2048)).trans ?_
  refine up_congr (fun l => ?_) (fun l => ?_) (fun l => ?_)
  · exact (pay6_apply _ _ r l).trans (part_eq x0 x2 4096 768 _ r (⟨384 + l.val, by omega⟩ : Fin 768) _
      (by show 4480 + l.val = 4096 + (384 + l.val); omega))
  · exact ld_cols (a := 1) (b := 256) (e := .f32) x8 0 256 _ 0 l l (Nat.zero_add _).symm
  · exact ld_cols (a := 256) (b := 2048) (e := .bf16) x9 0 2048 _ l _ _ (Nat.zero_add _).symm

end Stored

/-! ## The blocks stored are those of the whole arrays -/

/-- The block of the stream at a step. -/
abbrev stream (c : Dev nD) (t : Fin cfg0.N) : Vec Ideal S256x1024 .bf16 := iblk m c 0 t

/-- The weights at a step. -/
abbrev weights (c : Dev nD) (t : Fin cfg0.N) : Vec Ideal S1024x4864 .bf16 := iblk m c 2 t

/-- The products of a block are the whole array's. -/
theorem product_eq (c : Dev nD) (t : Fin cfg0.N) (i : Fin 65536) (r : Fin 256) (hi : i.val = t.val * 256 + r.val) (j : Fin 4864)
    (j' : Fin 4800) (hj : j'.val = j.val) :
    (∑ k : Fin 1024, stream m c t (ix2 r k) * weights m c t (ix2 k j))
      = proj (m ((c.tc : Thread nD τ).loc main_arg0)) (m ((c.tc : Thread nD τ).loc main_arg2)) i j' :=
  Finset.sum_congr rfl fun k _ => congrArg₂ (fun p q : EReal => p * q) (iblk_0 m c t i r k hi) (iblk_2 m c t k j j' hj)

theorem block_14 (c : Dev nD) (t : Fin cfg0.N) (i : Fin 65536) (r : Fin 256) (j : Fin 1024) (hi : i.val = t.val * 256 + r.val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resQ m c (ix2 i j) :=
  (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j (⟨0 + j.val, by omega⟩ : Fin 4864) rfl).trans (congrArg silu (product_eq m c t i r hi _ _ rfl))

/-- The table at a step. -/
abbrev table (c : Dev nD) (t : Fin cfg0.N) : Vec Ideal S2x1024 .f32 := iblk m c 5 t

theorem table_eq (c : Dev nD) (t : Fin cfg0.N) (j : Fin 1024) : boundAt (table m c t) j = boundAt (m ((c.tc : Thread nD τ).loc main_arg5)) j :=
  congrArg₂ bound (iblk_5 m c t 0 j) (iblk_5 m c t 1 j)

theorem block_15 (c : Dev nD) (t : Fin cfg0.N) (i : Fin 65536) (r : Fin 256) (j : Fin 1024) (hi : i.val = t.val * 256 + r.val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resL m c (ix2 i j) :=
  (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j (⟨1024 + j.val, by omega⟩ : Fin 4864) rfl).trans
    (congrArg₂ (fun p q : EReal => Ideal.log (gate p q) * Ideal.ofBits .f32 0x3FB8AA3B#32) (table_eq m c t j) (product_eq m c t i r hi _ _ rfl))

theorem block_16 (c : Dev nD) (t : Fin cfg0.N) (i : Fin 65536) (r : Fin 256) (j : Fin 1024) (hi : i.val = t.val * 256 + r.val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resK m c (ix2 i j) :=
  (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j (⟨1024 + j.val, by omega⟩ : Fin 4864) rfl).trans
    (congrArg₂ key (table_eq m c t j) (product_eq m c t i r hi _ _ rfl))

theorem block_17 (c : Dev nD) (t : Fin cfg0.N) (i : Fin 65536) (r : Fin 256) (j : Fin 1024) (hi : i.val = t.val * 256 + r.val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resV m c (ix2 i j) :=
  (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j (⟨2048 + j.val, by omega⟩ : Fin 4864) rfl).trans (product_eq m c t i r hi _ _ rfl)

theorem block_18 (c : Dev nD) (t : Fin cfg0.N) (i : Fin 65536) (r : Fin 256) (j : Fin 1024) (hi : i.val = t.val * 256 + r.val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resG m c (ix2 i j) :=
  (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j (⟨3072 + j.val, by omega⟩ : Fin 4864) rfl).trans (congrArg silu (product_eq m c t i r hi _ _ rfl))

theorem block_19 (c : Dev nD) (t : Fin cfg0.N) (i : Fin 65536) (r : Fin 256) (j : Fin 2048) (hi : i.val = t.val * 256 + r.val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resM m c (ix2 i j) :=
  (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j).trans (congrArg Ideal.logistic (congrArg₂ (fun p q : EReal => p + q)
    (Finset.sum_congr rfl fun k _ => congrArg₂ (fun p q : EReal => p * q) (iblk_0 m c t i r k hi) (iblk_3 m c t k j)) (iblk_4 m c t j)))

theorem block_22 (c : Dev nD) (t : Fin cfg0.N) (b h : Fin 8) (s : Fin 8192) (d : Fin 128) (u : Fin 1) (r : Fin 256)
    (hi : b.val * 8192 + s.val = t.val * 256 + r.val) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 u h r d) = resH m c (ix4 b h s d) :=
  (out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) u h r d).trans (up_congr (fun l => product_eq m c t _ r hi _ _ rfl) (fun l => iblk_8 m c t l)
    (fun l => iblk_9 m c t l h d _ _ rfl rfl))

/-! ## The arrays after the run -/

theorem final_14 (c : Dev nD) : (dats m 0 c).arrAt 14 cfg0.N = resQ m c := by
  refine (dats m 0 c).arrAt_eq_of_covers 14 _ (by decide +kernel) fun t hf y => ?_
  have e0 : ((win0_14.blk t).view.emb y 0).val = t.val * 256 + (y 0).val := by blk_simp [index_14]
  have e1 : ((win0_14.blk t).view.emb y 1).val = (y 1).val := by blk_simp [index_14]
  have key := block_14 m c t ((win0_14.blk t).view.emb y 0) (y 0) (y 1) e0
  have hy : (y : S256x1024.Idx) = ix2 (y 0) (y 1) := eq_ix2 y
  have he : ((win0_14.blk t).view.emb y : S65536x1024.Idx) = ix2 ((win0_14.blk t).view.emb y 0) (y 1) := by
    refine (eq_ix2 _).trans (congrArg (ix2 _) (Fin.ext e1))
  blk_simp
  rw [after0_14]
  exact (congrArg _ hy).trans (key.trans (congrArg (resQ m c) he.symm))

theorem final_15 (c : Dev nD) : (dats m 0 c).arrAt 15 cfg0.N = resL m c := by
  refine (dats m 0 c).arrAt_eq_of_covers 15 _ (by decide +kernel) fun t hf y => ?_
  have e0 : ((win0_15.blk t).view.emb y 0).val = t.val * 256 + (y 0).val := by blk_simp [index_15]
  have e1 : ((win0_15.blk t).view.emb y 1).val = (y 1).val := by blk_simp [index_15]
  have key := block_15 m c t ((win0_15.blk t).view.emb y 0) (y 0) (y 1) e0
  have hy : (y : S256x1024.Idx) = ix2 (y 0) (y 1) := eq_ix2 y
  have he : ((win0_15.blk t).view.emb y : S65536x1024.Idx) = ix2 ((win0_15.blk t).view.emb y 0) (y 1) := by
    refine (eq_ix2 _).trans (congrArg (ix2 _) (Fin.ext e1))
  blk_simp
  rw [after0_15]
  exact (congrArg _ hy).trans (key.trans (congrArg (resL m c) he.symm))

theorem final_16 (c : Dev nD) : (dats m 0 c).arrAt 16 cfg0.N = resK m c := by
  refine (dats m 0 c).arrAt_eq_of_covers 16 _ (by decide +kernel) fun t hf y => ?_
  have e0 : ((win0_16.blk t).view.emb y 0).val = t.val * 256 + (y 0).val := by blk_simp [index_16]
  have e1 : ((win0_16.blk t).view.emb y 1).val = (y 1).val := by blk_simp [index_16]
  have key := block_16 m c t ((win0_16.blk t).view.emb y 0) (y 0) (y 1) e0
  have hy : (y : S256x1024.Idx) = ix2 (y 0) (y 1) := eq_ix2 y
  have he : ((win0_16.blk t).view.emb y : S65536x1024.Idx) = ix2 ((win0_16.blk t).view.emb y 0) (y 1) := by
    refine (eq_ix2 _).trans (congrArg (ix2 _) (Fin.ext e1))
  blk_simp
  rw [after0_16]
  exact (congrArg _ hy).trans (key.trans (congrArg (resK m c) he.symm))

theorem final_17 (c : Dev nD) : (dats m 0 c).arrAt 17 cfg0.N = resV m c := by
  refine (dats m 0 c).arrAt_eq_of_covers 17 _ (by decide +kernel) fun t hf y => ?_
  have e0 : ((win0_17.blk t).view.emb y 0).val = t.val * 256 + (y 0).val := by blk_simp [index_17]
  have e1 : ((win0_17.blk t).view.emb y 1).val = (y 1).val := by blk_simp [index_17]
  have key := block_17 m c t ((win0_17.blk t).view.emb y 0) (y 0) (y 1) e0
  have hy : (y : S256x1024.Idx) = ix2 (y 0) (y 1) := eq_ix2 y
  have he : ((win0_17.blk t).view.emb y : S65536x1024.Idx) = ix2 ((win0_17.blk t).view.emb y 0) (y 1) := by
    refine (eq_ix2 _).trans (congrArg (ix2 _) (Fin.ext e1))
  blk_simp
  rw [after0_17]
  exact (congrArg _ hy).trans (key.trans (congrArg (resV m c) he.symm))

theorem final_18 (c : Dev nD) : (dats m 0 c).arrAt 18 cfg0.N = resG m c := by
  refine (dats m 0 c).arrAt_eq_of_covers 18 _ (by decide +kernel) fun t hf y => ?_
  have e0 : ((win0_18.blk t).view.emb y 0).val = t.val * 256 + (y 0).val := by blk_simp [index_18]
  have e1 : ((win0_18.blk t).view.emb y 1).val = (y 1).val := by blk_simp [index_18]
  have key := block_18 m c t ((win0_18.blk t).view.emb y 0) (y 0) (y 1) e0
  have hy : (y : S256x1024.Idx) = ix2 (y 0) (y 1) := eq_ix2 y
  have he : ((win0_18.blk t).view.emb y : S65536x1024.Idx) = ix2 ((win0_18.blk t).view.emb y 0) (y 1) := by
    refine (eq_ix2 _).trans (congrArg (ix2 _) (Fin.ext e1))
  blk_simp
  rw [after0_18]
  exact (congrArg _ hy).trans (key.trans (congrArg (resG m c) he.symm))

theorem final_19 (c : Dev nD) : (dats m 0 c).arrAt 19 cfg0.N = resM m c := by
  refine (dats m 0 c).arrAt_eq_of_covers 19 _ (by decide +kernel) fun t hf y => ?_
  have e0 : ((win0_19.blk t).view.emb y 0).val = t.val * 256 + (y 0).val := by blk_simp [index_19]
  have e1 : ((win0_19.blk t).view.emb y 1).val = (y 1).val := by blk_simp [index_19]
  have key := block_19 m c t ((win0_19.blk t).view.emb y 0) (y 0) (y 1) e0
  have hy : (y : S256x2048.Idx) = ix2 (y 0) (y 1) := eq_ix2 y
  have he : ((win0_19.blk t).view.emb y : S65536x2048.Idx) = ix2 ((win0_19.blk t).view.emb y 0) (y 1) := by
    refine (eq_ix2 _).trans (congrArg (ix2 _) (Fin.ext e1))
  blk_simp
  rw [after0_19]
  exact (congrArg _ hy).trans (key.trans (congrArg (resM m c) he.symm))

theorem final_22 (c : Dev nD) : (dats m 0 c).arrAt 22 cfg0.N = resH m c := by
  refine (dats m 0 c).arrAt_eq_of_covers 22 _ (by decide +kernel) fun t hf y => ?_
  have e0 : ((win0_22.blk t).view.emb y 0).val = t.val / 32 * 1 + (y 0).val := by blk_simp [index_22]
  have e1 : ((win0_22.blk t).view.emb y 1).val = (y 1).val := by blk_simp [index_22]
  have e2 : ((win0_22.blk t).view.emb y 2).val = t.val % 32 * 256 + (y 2).val := by blk_simp [index_22]
  have e3 : ((win0_22.blk t).view.emb y 3).val = (y 3).val := by blk_simp [index_22]
  have z0 : (y 0).val < 1 := (y 0).isLt
  have key := block_22 m c t ((win0_22.blk t).view.emb y 0) (y 1) ((win0_22.blk t).view.emb y 2) (y 3) (y 0) (y 2) (by omega)
  have hy : (y : S1x8x256x128.Idx) = ix4 (y 0) (y 1) (y 2) (y 3) := eq_ix4 y
  have he : ((win0_22.blk t).view.emb y : S8x8x8192x128.Idx)
      = ix4 ((win0_22.blk t).view.emb y 0) (y 1) ((win0_22.blk t).view.emb y 2) (y 3) := by
    refine (eq_ix4 _).trans (congr (congrArg (fun q => ix4 _ q _) (Fin.ext e1)) (Fin.ext e3))
  blk_simp
  rw [after0_22]
  exact (congrArg _ hy).trans (key.trans (congrArg (resH m c) he.symm))

/-! ## The run -/

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 2000000 in
/-- The projections run to their end with seven of their result arrays holding the rows' projections. -/
theorem run :
    θ_run defs (onTc (τ := τ) (main (F := Ideal))) ⟨m, fun _ => 0, ρ⟩ (fun r => ∀ c : Dev nD,
      r.2.mem ((c.tc : Thread nD τ).loc main_v62_0) = resQ m c
      ∧ r.2.mem ((c.tc : Thread nD τ).loc main_v62_1) = resL m c
      ∧ r.2.mem ((c.tc : Thread nD τ).loc main_v62_2) = resK m c
      ∧ r.2.mem ((c.tc : Thread nD τ).loc main_v62_3) = resV m c
      ∧ r.2.mem ((c.tc : Thread nD τ).loc main_v62_4) = resG m c
      ∧ r.2.mem ((c.tc : Thread nD τ).loc main_v62_5) = resM m c
      ∧ r.2.mem ((c.tc : Thread nD τ).loc main_v62_8) = resH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).1 14).trans (final_14 m c), ((h c).1 15).trans (final_15 m c), ((h c).1 16).trans (final_16 m c),
    ((h c).1 17).trans (final_17 m c),
    ((h c).1 18).trans (final_18 m c), ((h c).1 19).trans (final_19 m c), ((h c).1 22).trans (final_22 m c),
    kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c⟩) (run_main m ρ)

end Cert.Kernel5Ideal.Proj

end
-- ==== Proof.ProjReference.lean ====
/-
  The reference of the projections: its five results, element by element on the extended reals.
-/
module

public import proofs.«01_k».proof.Proof.ProjRow
public import proofs.«01_k».proof.Proof.Gen.Reference5Ideal.Run

@[expose] public section

noncomputable section

namespace Cert.Reference5Ideal.Proj

open Idealize.ShloMosaic hiding ix1 ix2 ix4 eq_ix2 eq_ix4 addf_apply mulf_apply divf_apply
open Idealize.ShloMosaic.TcCoe Idealize.ShloMosaic.ValueIdx
open Idealize.SL Idealize.SL.Sem
open Cert.Reference5Ideal Cert.Reference5Ideal.Gen Cert.Att.Row Cert.Att.Proj

/-! ## The pieces -/

/-- The products of the stream with the weights. -/
abbrev full (u : FVec Ideal S65536x1024 .bf16) (w : FVec Ideal S1024x4800 .f32) : FVec Ideal S65536x4800 .f32 :=
  Host.dotGeneral dot_S65536x1024_S1024x4800_S65536x4800_1_0_0_1_n_n none (extf .f32 u bitsLt_bf16_f32) w

theorem full_apply (u : FVec Ideal S65536x1024 .bf16) (w : FVec Ideal S1024x4800 .f32) (i : Fin 65536) (j : Fin 4800) :
    full u w (ix2 i j) = proj u w i j :=
  StackMember.dotGeneral_plain_apply (m := 65536) (k := 1024) (n := 4800) none _ w i j

/-- The unit `s · σ(s)`. -/
abbrev unit (s : FVec Ideal S65536x1024 .f32) : FVec Ideal S65536x1024 .bf16 :=
  truncf .bf16 (mulf s (Host.divf (broadcastInDim S65536x1024 ![] bcast_S_S65536x1024 (constant S_ .f32 0x3F800000#32))
    (addf (broadcastInDim S65536x1024 ![] bcast_S_S65536x1024 (constant S_ .f32 0x3F800000#32)) (Host.exp (Host.negf s))))) bitsLt_bf16_f32

theorem unit_apply (s : FVec Ideal S65536x1024 .f32) (i : S65536x1024.Idx) : unit s i = silu (s i) := by
  show s i * Ideal.div (Ideal.ofBits .f32 0x3F800000#32) (Ideal.ofBits .f32 0x3F800000#32 + Ideal.exp (-(s i))) = _
  rw [Ideal.ofBits_one_f32]
  rfl

/-- The sigmoid of an array. -/
abbrev sigma (s : FVec Ideal S65536x2048 .f32) : FVec Ideal S65536x2048 .bf16 :=
  truncf .bf16 (Host.divf (broadcastInDim S65536x2048 ![] bcast_S_S65536x2048 (constant S_ .f32 0x3F800000#32))
    (addf (broadcastInDim S65536x2048 ![] bcast_S_S65536x2048 (constant S_ .f32 0x3F800000#32)) (Host.exp (Host.negf s)))) bitsLt_bf16_f32

theorem sigma_apply (s : FVec Ideal S65536x2048 .f32) (i : S65536x2048.Idx) : sigma s i = Ideal.logistic (s i) := by
  show Ideal.div (Ideal.ofBits .f32 0x3F800000#32) (Ideal.ofBits .f32 0x3F800000#32 + Ideal.exp (-(s i))) = _
  rw [Ideal.ofBits_one_f32]
  rfl

/-- The norm of the latent's rows. -/
def norm (x : FVec Ideal S65536x256 .f32) (g : FVec Ideal S256 .f32) : FVec Ideal S65536x256 .f32 :=
  mulf (mulf x (broadcastInDim S65536x256 ![0, 1] bcast_S65536x1_S65536x256_0_1 (Host.rsqrt (addf
    (Host.divf (broadcastInDim S65536x1 ![0] bcast_S65536_S65536x1_0
      (Host.reduceAdd (mulf x x) (constant S_ .f32 0x00000000#32) reducesTo_S65536x256_S65536_d1 h_S_))
      (broadcastInDim S65536x1 ![] bcast_S_S65536x1 (constant S_ .f32 0x43800000#32)))
    (broadcastInDim S65536x1 ![] bcast_S_S65536x1 (constant S_ .f32 0x358637BD#32))))))
    (broadcastInDim S65536x256 ![0, 1] bcast_S1x256_S65536x256_0_1 (broadcastInDim S1x256 ![1] bcast_S256_S1x256_1 g))

theorem norm_apply (x : FVec Ideal S65536x256 .f32) (g : FVec Ideal S256 .f32) (r : Fin 65536) (j : Fin 256) :
    norm x g (ix2 r j) = rmsL (fun k => x (ix2 r k)) (fun k => g (ix1 k)) j := by
  unfold norm rmsL scaleL
  refine (mulf_apply _ _ _).trans (congrArg₂ (· * ·) ((mulf_apply _ _ _).trans (congrArg (x (ix2 r j) * ·) ?_)) ?_)
  · refine (broadcastInDim_apply _ _ _ _ (ix2 r (0 : Fin 1)) (fun a => by match a with | ⟨0, _⟩ => rfl | ⟨1, _⟩ => rfl)).trans ?_
    refine congrArg (fun q => Ideal.rsqrt (Ideal.div q (Ideal.ofBits .f32 0x43800000#32) + Ideal.ofBits .f32 0x358637BD#32)) ?_
    refine (broadcastInDim_apply _ _ _ _ (ix1 r) (fun a => by match a with | ⟨0, _⟩ => rfl)).trans ?_
    rw [hostReduceAdd_apply, Ideal.hostReduceAdd_single _ (by decide : S65536x256.Reduces [1] S65536)]
    exact (congrArg₂ (fun p q : EReal => p + q) Ideal.ofBits_zero_f32
      (Finset.sum_congr rfl fun k _ => congrArg (fun p => (x p : EReal) * x p) (lift_row (a := 65536) (b := 256) _ r k))).trans (zero_add _)
  · exact (broadcastInDim_apply _ _ _ _ (ix2 (0 : Fin 1) j) (fun a => by match a with | ⟨0, _⟩ => rfl | ⟨1, _⟩ => rfl)).trans
      (broadcastInDim_apply _ _ _ _ (ix1 j) (fun a => by match a with | ⟨0, _⟩ => rfl))

/-- The heads' values from the second product. -/
abbrev heads (x : FVec Ideal S65536x2048 .f32) : FVec Ideal S8x8x8192x128 .bf16 :=
  truncf .bf16 (transpose S8x8x8192x128 [0, 2, 1, 3] (extractStridedSlice S8x8192x8x128 ![0, 0, 0, 128]
    (shapeCast S8x8192x8x256 x shapeCasts_S65536x2048_S8x8192x8x256) slices_S8x8192x8x256_S8x8192x8x128_0_0_0_128)
    transposes_S8x8192x8x128_S8x8x8192x128_0_2_1_3) bitsLt_bf16_f32

theorem heads_apply (x : FVec Ideal S65536x2048 .f32) (b h : Fin 8) (s : Fin 8192) (d : Fin 128) :
    heads x (ix4 b h s d) = x (ix2 (⟨b.val * 8192 + s.val, by omega⟩ : Fin 65536) (⟨256 * h.val + 128 + d.val, by omega⟩ : Fin 2048)) := by
  show transpose S8x8x8192x128 [0, 2, 1, 3] (extractStridedSlice S8x8192x8x128 ![0, 0, 0, 128]
    (shapeCast S8x8192x8x256 x shapeCasts_S65536x2048_S8x8192x8x256) slices_S8x8192x8x256_S8x8192x8x128_0_0_0_128)
    transposes_S8x8192x8x128_S8x8x8192x128_0_2_1_3 (ix4 b h s d) = _
  refine (transpose_apply (s := S8x8192x8x128) (t := S8x8x8192x128) [0, 2, 1, 3] _ _ (ix4 b h s d) (ix4 b s h d) (fun a => by
    match a with
    | ⟨0, _⟩ => rfl
    | ⟨1, _⟩ => rfl
    | ⟨2, _⟩ => rfl
    | ⟨3, _⟩ => rfl)).trans ?_
  refine (extractStridedSlice_apply _ _ _ _ (ix4 b s h (⟨128 + d.val, by omega⟩ : Fin 256)) (fun a => by
    match a with
    | ⟨0, _⟩ => exact (Nat.zero_add _).symm
    | ⟨1, _⟩ => exact (Nat.zero_add _).symm
    | ⟨2, _⟩ => exact (Nat.zero_add _).symm
    | ⟨3, _⟩ => rfl)).trans ?_
  exact shapeCast_apply _ _ _ _ (by
    rw [Shape.rowMajor_val_two, Shape.rowMajor_val_four]
    show (b.val * 8192 + s.val) * 2048 + (256 * h.val + 128 + d.val) = ((b.val * 8192 + s.val) * 8 + h.val) * 256 + (128 + d.val)
    omega)

/-! ## The results -/

/-- A slice of the products, at an entry. -/
theorem slice_apply (o : ℕ) (ho : o + 1024 ≤ 4800) (u : FVec Ideal S65536x1024 .bf16) (w : FVec Ideal S1024x4800 .f32)
    (hs : S65536x4800.Slices ![0, o] S65536x1024) (i : S65536x1024.Idx) :
    extractStridedSlice S65536x1024 ![0, o] (full u w) hs i = projArr o ho u w i :=
  (extractStridedSlice_apply _ _ _ _ (ix2 (i 0) (⟨o + (i 1).val, by have h : (i 1).val < 1024 := (i 1).isLt; omega⟩ : Fin 4800)) (fun a => by
    match a with
    | ⟨0, _⟩ => exact (Nat.zero_add _).symm
    | ⟨1, _⟩ => rfl)).trans (full_apply u w (i 0) _)

theorem unit_eq (o : ℕ) (ho : o + 1024 ≤ 4800) (u : FVec Ideal S65536x1024 .bf16) (w : FVec Ideal S1024x4800 .f32)
    (hs : S65536x4800.Slices ![0, o] S65536x1024) :
    unit (extractStridedSlice S65536x1024 ![0, o] (full u w) hs) = siluArr o ho u w :=
  funext fun i => (unit_apply _ i).trans (congrArg silu (slice_apply o ho u w hs i))

theorem plain_eq (o : ℕ) (ho : o + 1024 ≤ 4800) (u : FVec Ideal S65536x1024 .bf16) (w : FVec Ideal S1024x4800 .f32)
    (hs : S65536x4800.Slices ![0, o] S65536x1024) :
    (truncf .bf16 (extractStridedSlice S65536x1024 ![0, o] (full u w) hs) bitsLt_bf16_f32 : FVec Ideal S65536x1024 .bf16) = projArr o ho u w :=
  funext fun i => slice_apply o ho u w hs i

theorem gate_eq (u : FVec Ideal S65536x1024 .bf16) (w : FVec Ideal S1024x2048 .f32) (b : FVec Ideal S2048 .f32) :
    sigma (addf (Host.dotGeneral dot_S65536x1024_S1024x2048_S65536x2048_1_0_0_1_n_n none (extf .f32 u bitsLt_bf16_f32) w)
      (broadcastInDim S65536x2048 ![0, 1] bcast_S1x2048_S65536x2048_0_1 (broadcastInDim S1x2048 ![1] bcast_S2048_S1x2048_1 b))) = gateArr u w b :=
  funext fun i => (sigma_apply _ i).trans (congrArg Ideal.logistic ((addf_apply _ _ _).trans (congrArg₂ (fun p q : EReal => p + q)
    ((congrArg _ (eq_ix2 i)).trans (StackMember.dotGeneral_plain_apply (m := 65536) (k := 1024) (n := 2048) none _ w (i 0) (i 1)))
    ((broadcastInDim_apply _ _ _ _ (ix2 (0 : Fin 1) (i 1)) (fun a => by match a with | ⟨0, _⟩ => rfl | ⟨1, _⟩ => rfl)).trans
      (broadcastInDim_apply _ _ _ _ (ix1 (i 1)) (fun a => by match a with | ⟨0, _⟩ => rfl))))))

theorem value_eq (u : FVec Ideal S65536x1024 .bf16) (w : FVec Ideal S1024x4800 .f32) (g : FVec Ideal S256 .f32) (v : FVec Ideal S256x2048 .f32) :
    heads (Host.dotGeneral dot_S65536x256_S256x2048_S65536x2048_1_0_0_1_n_n none
      (norm (extractStridedSlice S65536x256 ![0, 4480] (full u w) slices_S65536x4800_S65536x256_0_4480) g) v) = valueArr u w g v := by
  funext i
  refine (congrArg _ (eq_ix4 i)).trans ((heads_apply _ (i 0) (i 1) (i 2) (i 3)).trans ?_)
  refine (StackMember.dotGeneral_plain_apply (m := 65536) (k := 256) (n := 2048) none _ v _ _).trans
    (Finset.sum_congr rfl fun l _ => congrArg (fun q : EReal => q * v (ix2 l
      ⟨256 * (i 1).val + 128 + (i 3).val, by have h1 : (i 1).val < 8 := (i 1).isLt; have h3 : (i 3).val < 128 := (i 3).isLt; omega⟩)) ?_)
  refine (norm_apply _ g _ l).trans (congrArg (fun q : Fin 256 → EReal => rmsL q (fun k => g (ix1 k)) l) (funext fun k => ?_))
  exact (extractStridedSlice_apply _ _ _ _ (ix2 _ (⟨4480 + k.val, by omega⟩ : Fin 4800)) (fun a => by
    match a with
    | ⟨0, _⟩ => exact (Nat.zero_add _).symm
    | ⟨1, _⟩ => rfl)).trans (full_apply u w _ _)

end Cert.Reference5Ideal.Proj

end
-- ==== Proof.Steps.lean ====
/-
  The attention body as a list of steps: the transposition of one tile of values, the scores of one
  (query tile, key tile) pair, the absorption of one score tile into the running maximum and the
  running sums of one half of the query tile, and the writing of one half of a finished query tile.
-/
module

public import proofs.«01_k».proof.KernelIdeal

@[expose] public section

noncomputable section

namespace Cert.KernelIdeal.Att

open Idealize.ShloMosaic Idealize.SL.Sem

variable {F : FTy → Type} [FloatOps F]

variable [Facts]
open Facts₀ Facts

/-- Value tile of `32 * r` keys, transposed, with its leading axis of extent one. -/
abbrev SV (r : Nat) : Shape := ⟨3, ![1, 144, 32 * r]⟩
/-- The same tile without its leading axis. -/
abbrev SV2 (r : Nat) : Shape := ⟨2, ![144, 32 * r]⟩
/-- Score tile of `32 * r` keys and half a query tile, with its leading axis. -/
abbrev SS (r : Nat) : Shape := ⟨3, ![1, 32 * r, 256]⟩
/-- The same tile without its leading axis. -/
abbrev SS2 (r : Nat) : Shape := ⟨2, ![32 * r, 256]⟩
/-- A tile of `32 * r` rows and `c` columns, its rows in `r` groups of 32. -/
abbrev SG (r c : Nat) : Shape := ⟨3, ![r, 32, c]⟩
/-- One group of 32 rows, with its leading axis. -/
abbrev SG1 (c : Nat) : Shape := ⟨3, ![1, 32, c]⟩
/-- One group of 32 rows. -/
abbrev SG2 (c : Nat) : Shape := ⟨2, ![32, c]⟩

/-- What the operations on a tile of `32 * r` keys ask of the shapes. -/
structure KF (r : Nat) : Prop where
  pos : 0 < r
  le : r ≤ 32
  groups : 8 * (r / 8 - 1 + 1) ≤ r
  inbV : ∀ (j : Fin 8) a, (![j.val, 0, 0] : Fin 3 → Nat) a + (SV r).size a ≤ S8x144x1024.size a
  posV : 0 < (SV r).numel
  castV : (SV r).ShapeCasts (SV2 r)
  inbS : ∀ (b : Fin 3) (u : Fin 2) a, (![b.val, 0, 256 * u.val] : Fin 3 → Nat) a + (SS r).size a ≤ S3x1024x512.size a
  posS : 0 < (SS r).numel
  castS : (SS r).ShapeCasts (SS2 r)
  sliceM : S1024x256.Slices ![0, 0] (SS2 r)
  castG : (SS2 r).ShapeCasts (SG r 256)
  slices : ∀ i < r, (SG r 256).Slices ![i, 0, 0] (SG1 256)
  bc : S1x256.Broadcasts (SS2 r)
  dot : DotDims.WF (SV2 r) (SS2 r) S144x256 [1] [0] [0] [1] [] []

theorem kf (i : Fin 4) : KF (8 * (i.val + 1)) := by
  fin_cases i <;> constructor <;> decide

/-- The product of a transposed value tile with a tile of weights. -/
def dotV {r : Nat} (h : KF r) : DotDims (SV2 r) (SS2 r) S144x256 where
  lhsContracting := [1]
  rhsContracting := [0]
  lhsNonContracting := [0]
  rhsNonContracting := [1]
  lhsBatch := []
  rhsBatch := []
  wf := h.dot

/-- Group `i` of 32 rows. -/
def grp {r c : Nat} (hc : (SG1 c).ShapeCasts (SG2 c)) (x : FVec F (SG r c) .f32) (i : Nat) (h : (SG r c).Slices ![i, 0, 0] (SG1 c)) :
    FVec F (SG2 c) .f32 :=
  shapeCast (SG2 c) (extractStridedSlice (SG1 c) ![i, 0, 0] x h) hc

/-- The maximum of groups `0` to `7`, row by row of a group. -/
def fold8 {r c : Nat} (hc : (SG1 c).ShapeCasts (SG2 c)) (x : FVec F (SG r c) .f32) (h : ∀ i < r, (SG r c).Slices ![i, 0, 0] (SG1 c))
    (hr : 8 ≤ r) : FVec F (SG2 c) .f32 :=
  maximumf (maximumf (maximumf (maximumf (maximumf (maximumf (maximumf (grp hc x 0 (h _ (by omega))) (grp hc x 1 (h _ (by omega))))
    (grp hc x 2 (h _ (by omega)))) (grp hc x 3 (h _ (by omega)))) (grp hc x 4 (h _ (by omega)))) (grp hc x 5 (h _ (by omega))))
    (grp hc x 6 (h _ (by omega)))) (grp hc x 7 (h _ (by omega)))

/-- The maximum of `a` and groups `o` to `o + 7`. -/
def ext8 {r c : Nat} (hc : (SG1 c).ShapeCasts (SG2 c)) (x : FVec F (SG r c) .f32) (h : ∀ i < r, (SG r c).Slices ![i, 0, 0] (SG1 c))
    (o : Nat) (hr : o + 8 ≤ r) (a : FVec F (SG2 c) .f32) : FVec F (SG2 c) .f32 :=
  maximumf (maximumf (maximumf (maximumf (maximumf (maximumf (maximumf (maximumf a (grp hc x o (h _ (by omega))))
    (grp hc x (o + 1) (h _ (by omega)))) (grp hc x (o + 2) (h _ (by omega)))) (grp hc x (o + 3) (h _ (by omega))))
    (grp hc x (o + 4) (h _ (by omega)))) (grp hc x (o + 5) (h _ (by omega)))) (grp hc x (o + 6) (h _ (by omega))))
    (grp hc x (o + 7) (h _ (by omega)))

/-- The maximum of all groups, `8 * (n + 1)` of them, row by row of a group. -/
def foldG {r c : Nat} (hc : (SG1 c).ShapeCasts (SG2 c)) (x : FVec F (SG r c) .f32) (h : ∀ i < r, (SG r c).Slices ![i, 0, 0] (SG1 c)) :
    (n : Nat) → 8 * (n + 1) ≤ r → FVec F (SG2 c) .f32
  | 0, hr => fold8 hc x h hr
  | n + 1, hr => ext8 hc x h (8 * (n + 1)) hr (foldG hc x h n (by omega))

theorem slices512 : ∀ i < 32, (SG 32 512).Slices ![i, 0, 0] (SG1 512) := by decide

/-- The scores of a key tile against a query tile. -/
def scoreV (k : Vec F S1x1x1024x256 .bf16) (q : Vec F S1x1x1x256x512 .bf16) : FVec F S1024x512 .f32 :=
  matmul dot_S1024x256_S256x512_S1024x512_1_0_0_1_n_n none (shapeCast S1024x256 k shapeCasts_S1x1x1024x256_S1024x256)
    (shapeCast S256x512 q shapeCasts_S1x1x1x256x512_S256x512) (constant S1024x512 .f32 0x00000000#32)

/-- The scores as they are stored. -/
def scoreOut (k : Vec F S1x1x1024x256 .bf16) (q : Vec F S1x1x1x256x512 .bf16) : FVec F S1x1024x512 .f32 :=
  shapeCast S1x1024x512 (scoreV k q) shapeCasts_S1024x512_S1x1024x512

/-- Their maximum per query, as it is stored. -/
def maxOut (k : Vec F S1x1x1024x256 .bf16) (q : Vec F S1x1x1x256x512 .bf16) : FVec F S1x1x512 .f32 :=
  shapeCast S1x1x512 (shapeCast S1x512 (multiReduction .maximumf [0] S512
    (foldG shapeCasts_S1x32x512_S32x512 (shapeCast S32x32x512 (scoreV k q) shapeCasts_S1024x512_S32x32x512) slices512 3 (by decide))
    0xFF800000#32 reduces_S32x512_S512 (.inl rfl) rfl) shapeCasts_S512_S1x512) shapeCasts_S1x512_S1x1x512

/-- A score tile of half a query tile, all of it allowed. -/
def scFull {r : Nat} (h : KF r) (s : Vec F (SS r) .f32) : FVec F (SS2 r) .f32 := shapeCast (SS2 r) s h.castS

/-- A score tile of half a query tile, minus infinity where the mask is off. -/
def scPart {r : Nat} (h : KF r) (mk : IVec (SS2 r) 1) (s : Vec F (SS r) .f32) : FVec F (SS2 r) .f32 :=
  select mk (shapeCast (SS2 r) s h.castS)
    (broadcast (SS2 r) (Scalar.ofBits .f32 0xFF800000#32))

/-- The maximum per query of a score tile. -/
def tileMax {r : Nat} (h : KF r) (x : FVec F (SS2 r) .f32) : FVec F S1x256 .f32 :=
  shapeCast S1x256 (multiReduction .maximumf [0] S256
    (foldG shapeCasts_S1x32x256_S32x256 (shapeCast (SG r 256) x h.castG) h.slices (r / 8 - 1) h.groups)
    0xFF800000#32 reduces_S32x256_S256 (.inl rfl) rfl) shapeCasts_S256_S1x256

/-- The stored maximum as a row. -/
def rowV (x : Vec F S1x1x256 .f32) : FVec F S1x256 .f32 := shapeCast S1x256 x shapeCasts_S1x1x256_S1x256

/-- The new running maximum. -/
def newMax (m : Vec F S1x1x256 .f32) (t : FVec F S1x256 .f32) : FVec F S1x256 .f32 := maximumf (rowV m) t

/-- The new running maximum as it is stored. -/
def newMaxOut (m : Vec F S1x1x256 .f32) (t : FVec F S1x256 .f32) : FVec F S1x1x256 .f32 :=
  shapeCast S1x1x256 (newMax m t) shapeCasts_S1x256_S1x1x256

/-- The new running sums: the old ones scaled, plus the products of the values and the weights. -/
def newAcc {r : Nat} (h : KF r) (vt : Vec F (SV r) .bf16) (x : FVec F (SS2 r) .f32) (m : Vec F S1x1x256 .f32) (t : FVec F S1x256 .f32)
    (acc : Vec F S1x144x256 .f32) : FVec F S1x144x256 .f32 :=
  shapeCast S1x144x256 (addf
    (mulf (broadcastTo S144x256 (exp2 (subf (rowV m) (newMax m t))) broadcasts_S1x256_S144x256)
      (shapeCast S144x256 acc shapeCasts_S1x144x256_S144x256))
    (matmul (dotV h) none (shapeCast (SV2 r) vt h.castV)
      (truncf .bf16 (exp2 (subf x (broadcastTo (SS2 r) (newMax m t) h.bc))) bitsLt_bf16_f32) (constant S144x256 .f32 0x00000000#32)))
    shapeCasts_S144x256_S1x144x256

/-- Half a query tile of the result: the sums over the values, each divided by the sum of the weights. -/
def finOut (acc : Vec F S1x144x256 .f32) : FVec F S1x256x128 .bf16 :=
  shapeCast S1x256x128 (truncf .bf16 (transpose S256x128 [1, 0] (divf
    (extractStridedSlice S128x256 ![0, 0] (shapeCast S144x256 acc shapeCasts_S1x144x256_S144x256) slices_S144x256_o0_0_S128x256)
    (broadcastTo S128x256 (extractStridedSlice S1x256 ![128, 0] (shapeCast S144x256 acc shapeCasts_S1x144x256_S144x256)
      slices_S144x256_o128_0_S1x256) broadcasts_S1x256_S128x256)) transposes_S128x256_p1_0_S256x128) bitsLt_bf16_f32)
    shapeCasts_S256x128_S1x256x128

/-- A tile of values, transposed. -/
def vtOut (v : Vec F S1x1x1024x128 .bf16) : FVec F S1x128x1024 .bf16 :=
  shapeCast S1x128x1024 (truncf .bf16 (transpose S128x1024 [1, 0] (extf .f32
    (shapeCast S1024x128 v shapeCasts_S1x1x1024x128_S1024x128) bitsLt_bf16_f32) transposes_S1024x128_p1_0_S128x1024) bitsLt_bf16_f32)
    shapeCasts_S128x1024_S1x128x1024

/-- The rows of ones under it. -/
def onesOut : FVec F S1x16x1024 .bf16 :=
  shapeCast S1x16x1024 (broadcast S16x1024 (Scalar.ofBits .bf16 0x3F80#16)) shapeCasts_S16x1024_S1x16x1024

/-- The running maxima at the start of a query tile. -/
def m0 : FVec F S2x1x256 .f32 :=
  shapeCast S2x1x256 (broadcast S2x1x256 (Scalar.ofBits .f32 0xFF800000#32)) shapeCasts_S2x1x256_S2x1x256

/-- The running sums at the start of a query tile. -/
def acc0 : FVec F S2x144x256 .f32 :=
  shapeCast S2x144x256 (broadcast S2x144x256 (Scalar.ofBits .f32 0x00000000#32)) shapeCasts_S2x144x256_S2x144x256

/-- A position along an axis divided by 64, the way a signed floor division is computed. -/
def chunkOf (v : IVec S1024x256 32) : IVec S1024x256 32 :=
  select (andi
      (cmpi .ne (subi (extui 32 (cmpi .sgt v (broadcast S1024x256 0#32)) natLt_1_32) (extui 32 (cmpi .slt v (broadcast S1024x256 0#32)) natLt_1_32))
        (broadcast S1024x256 (Scalar.subi (Scalar.extui (Scalar.cmpi .sgt 64#32 0#32)) (Scalar.extui (Scalar.cmpi .slt 64#32 0#32)))))
      (cmpi .ne (remsi v (broadcast S1024x256 64#32)) (broadcast S1024x256 0#32)))
    (subi (divsi v (broadcast S1024x256 64#32)) (broadcast S1024x256 1#32))
    (divsi v (broadcast S1024x256 64#32))

/-- Where a key is allowed for a query `64 * d` positions further on. -/
def maskAt (d : BitVec 32) : IVec S1024x256 1 :=
  cmpi .sle (chunkOf (iota .tc S1024x256 32 [0] iota_S1024x256_d0_w32))
    (addi (chunkOf (iota .tc S1024x256 32 [1] iota_S1024x256_d1_w32)) (broadcast S1024x256 d))

/-- The four masks of a last key tile. -/
def mask (i : Fin 4) : IVec S1024x256 1 := maskAt (BitVec.ofNat 32 (4 * i.val))

/-- The mask of the first `256 * (i + 1)` keys, where half `i` of two query tiles has its last key. -/
def maskOf : (i : Fin 4) → IVec (SS2 (8 * (i.val + 1))) 1
  | 0 => extractStridedSlice (SS2 8) ![0, 0] (mask 0) (kf 0).sliceM
  | 1 => extractStridedSlice (SS2 16) ![0, 0] (mask 1) (kf 1).sliceM
  | 2 => extractStridedSlice (SS2 24) ![0, 0] (mask 2) (kf 2).sliceM
  | 3 => mask 3

/-! ## The rectangles -/

/-- Key tile `j`. -/
def rK (j : Fin 8) : Rect S1x1x8192x256 :=
  Rect.unit (s := S1x1x8192x256) ![0, 0, 1024 * j.val, 0] S1x1x1024x256.size (by revert j; decide)
/-- Query tile `i`. -/
def rQ (i : Fin 16) : Rect S1x1x16x256x512 :=
  Rect.unit (s := S1x1x16x256x512) ![0, 0, i.val, 0, 0] S1x1x1x256x512.size (by revert i; decide)
/-- Value tile `j`. -/
def rV (j : Fin 8) : Rect S1x1x8192x128 :=
  Rect.unit (s := S1x1x8192x128) ![0, 0, 1024 * j.val, 0] S1x1x1024x128.size (by revert j; decide)
/-- The transposed values of tile `j`. -/
def rT (j : Fin 8) : Rect S8x144x1024 :=
  Rect.unit (s := S8x144x1024) ![j.val, 0, 0] S1x128x1024.size (by revert j; decide)
/-- The rows of ones of tile `j`. -/
def rE (j : Fin 8) : Rect S8x144x1024 :=
  Rect.unit (s := S8x144x1024) ![j.val, 128, 0] S1x16x1024.size (by revert j; decide)
/-- The first `32 * r` keys of the transposed values of tile `j`, with the ones. -/
def rVt {r : Nat} (h : KF r) (j : Fin 8) : Rect S8x144x1024 :=
  Rect.unit (s := S8x144x1024) ![j.val, 0, 0] (SV r).size (h.inbV j)
/-- Score buffer `b`. -/
def rS (b : Fin 3) : Rect S3x1024x512 :=
  Rect.unit (s := S3x1024x512) ![b.val, 0, 0] S1x1024x512.size (by revert b; decide)
/-- The first `32 * r` keys of score buffer `b`, at half `u` of the queries. -/
def rSs {r : Nat} (h : KF r) (b : Fin 3) (u : Fin 2) : Rect S3x1024x512 :=
  Rect.unit (s := S3x1024x512) ![b.val, 0, 256 * u.val] (SS r).size (h.inbS b u)
/-- The maxima of score buffer `b`. -/
def rX (b : Fin 3) : Rect S3x1x512 :=
  Rect.unit (s := S3x1x512) ![b.val, 0, 0] S1x1x512.size (by revert b; decide)
/-- The maxima of score buffer `b`, at half `u` of the queries. -/
def rXs (b : Fin 3) (u : Fin 2) : Rect S3x1x512 :=
  Rect.unit (s := S3x1x512) ![b.val, 0, 256 * u.val] S1x1x256.size (by revert b u; decide)
/-- The running maxima of half `u`. -/
def rM (u : Fin 2) : Rect S2x1x256 :=
  Rect.unit (s := S2x1x256) ![u.val, 0, 0] S1x1x256.size (by revert u; decide)
/-- All running maxima. -/
def rMw : Rect S2x1x256 := Rect.unit (s := S2x1x256) ![0, 0, 0] S2x1x256.size inb_S2x1x256_S2x1x256_0_0_0
/-- The running sums of half `u`. -/
def rA (u : Fin 2) : Rect S2x144x256 :=
  Rect.unit (s := S2x144x256) ![u.val, 0, 0] S1x144x256.size (by revert u; decide)
/-- All running sums. -/
def rAw : Rect S2x144x256 := Rect.unit (s := S2x144x256) ![0, 0, 0] S2x144x256.size inb_S2x144x256_S2x144x256_0_0_0
/-- Half a query tile of the result. -/
def rO (n : Fin 32) : Rect S1x8192x128 :=
  Rect.unit (s := S1x8192x128) ![0, 256 * n.val, 0] S1x256x128.size (by revert n; decide)

theorem packT : ∀ j : Fin 8, (rT j).PackedRows (EltTy.packing .bf16) := by unfold rT; decide
theorem packE : ∀ j : Fin 8, (rE j).PackedRows (EltTy.packing .bf16) := by unfold rE; decide
theorem packO : ∀ n : Fin 32, (rO n).PackedRows (EltTy.packing .bf16) := by unfold rO; decide

/-! ## The steps -/

/-- The buffers the body works on. -/
structure Bufs where
  q : Memref sig .tc .vmem S1x1x16x256x512 .bf16
  k : Memref sig .tc .vmem S1x1x8192x256 .bf16
  v : Memref sig .tc .vmem S1x1x8192x128 .bf16
  o : Memref sig .tc .vmem S1x8192x128 .bf16
  ho : o.IsWhole
  vt : Memref sig .tc .vmem S8x144x1024 .bf16
  hvt : vt.IsWhole
  s : Memref sig .tc .vmem S3x1024x512 .f32
  mx : Memref sig .tc .vmem S3x1x512 .f32
  m : Memref sig .tc .vmem S2x1x256 .f32
  acc : Memref sig .tc .vmem S2x144x256 .f32

/-- One step of the body. -/
inductive Step where
  /-- transpose value tile `j` and put the ones under it -/
  | vt (j : Fin 8)
  /-- begin a query tile -/
  | start
  /-- the scores of query tile `i` and key tile `j`, into score buffer `b` -/
  | scores (i : Fin 16) (j : Fin 8) (b : Fin 3)
  /-- absorb score buffer `b`, of key tile `j`, into half `u` -/
  | full (j : Fin 8) (b : Fin 3) (u : Fin 2)
  /-- the same under mask `i`, for the last key tile -/
  | part (j : Fin 8) (b : Fin 3) (i : Fin 4)
  /-- write half a query tile -/
  | fin (n : Fin 32)

abbrev PP (F : FTy → Type) [FloatOps F] : Type 1 := Prog (TpuEff nD τ sig (Elt F) Λ₀ .tc) PUnit

/-- Half `i % 2`. -/
def par {n : Nat} (i : Fin n) : Fin 2 := ⟨i.val % 2, Nat.mod_lt _ (by decide)⟩

/-- The two stores that close an absorption. -/
def absorbK (B : Bufs) (u : Fin 2) {r : Nat} (h : KF r) (vt : Vec F (SV r) .bf16) (x : FVec F (SS2 r) .f32) (t : FVec F S1x256 .f32)
    (K : PP F) : PP F :=
  .op (.load B.m (rM u).toLoadRect (View.loadsAt_vmem h_S1x1x256)) fun m =>
  .op (.load B.m (rM u).toLoadRect (View.loadsAt_vmem h_S1x1x256)) fun _ =>
  .op (.store B.m (rM u) (newMaxOut m t) Finset.univ (View.stores_vmem_bits_univ h_S1x1x256 rfl) (.inl rfl)) fun _ =>
  .op (.load B.acc (rA u).toLoadRect (View.loadsAt_vmem h_S1x144x256)) fun acc =>
  .op (.load B.acc (rA u).toLoadRect (View.loadsAt_vmem h_S1x144x256)) fun _ =>
  .op (.store B.acc (rA u) (newAcc h vt x m t acc) Finset.univ (View.stores_vmem_bits_univ h_S1x144x256 rfl) (.inl rfl)) fun _ => K

/-- One step, then `K`. -/
def stepK (B : Bufs) (st : Step) (K : PP F) : PP F :=
  match st with
  | .vt j =>
    .op (.load B.v (rV j).toLoadRect (View.loadsAt_vmem h_S1x1x1024x128)) fun v =>
    .op (.load B.vt (rT j).toLoadRect (View.loadsAt_vmem h_S1x128x1024)) fun _ =>
    .op (.store B.vt (rT j) (vtOut v) Finset.univ
      (View.stores_vmem h_S1x128x1024 (B.hvt.storeExact_slice rfl _ (packT j)) (fun _ => rfl)) (.inl rfl)) fun _ =>
    .op (.load B.vt (rE j).toLoadRect (View.loadsAt_vmem h_S1x16x1024)) fun _ =>
    .op (.store B.vt (rE j) onesOut Finset.univ
      (View.stores_vmem h_S1x16x1024 (B.hvt.storeExact_slice rfl _ (packE j)) (fun _ => rfl)) (.inl rfl)) fun _ => K
  | .start =>
    .op (.load B.m rMw.toLoadRect (View.loadsAt_vmem h_S2x1x256)) fun _ =>
    .op (.store B.m rMw m0 Finset.univ (View.stores_vmem_bits_univ h_S2x1x256 rfl) (.inl rfl)) fun _ =>
    .op (.load B.acc rAw.toLoadRect (View.loadsAt_vmem h_S2x144x256)) fun _ =>
    .op (.store B.acc rAw acc0 Finset.univ (View.stores_vmem_bits_univ h_S2x144x256 rfl) (.inl rfl)) fun _ => K
  | .scores i j b =>
    .op (.load B.k (rK j).toLoadRect (View.loadsAt_vmem h_S1x1x1024x256)) fun k =>
    .op (.load B.q (rQ i).toLoadRect (View.loadsAt_vmem h_S1x1x1x256x512)) fun q =>
    .op (.load B.s (rS b).toLoadRect (View.loadsAt_vmem h_S1x1024x512)) fun _ =>
    .op (.store B.s (rS b) (scoreOut k q) Finset.univ (View.stores_vmem_bits_univ h_S1x1024x512 rfl) (.inl rfl)) fun _ =>
    .op (.load B.mx (rX b).toLoadRect (View.loadsAt_vmem h_S1x1x512)) fun _ =>
    .op (.store B.mx (rX b) (maxOut k q) Finset.univ (View.stores_vmem_bits_univ h_S1x1x512 rfl) (.inl rfl)) fun _ => K
  | .full j b u =>
    .op (.load B.vt (rVt (kf 3) j).toLoadRect (View.loadsAt_vmem (kf 3).posV)) fun vt =>
    .op (.load B.s (rSs (kf 3) b u).toLoadRect (View.loadsAt_vmem (kf 3).posS)) fun s =>
    .op (.load B.mx (rXs b u).toLoadRect (View.loadsAt_vmem h_S1x1x256)) fun mx =>
    absorbK B u (kf 3) vt (scFull (kf 3) s) (rowV mx) K
  | .part j b i =>
    .op (.load B.vt (rVt (kf i) j).toLoadRect (View.loadsAt_vmem (kf i).posV)) fun vt =>
    .op (.load B.s (rSs (kf i) b (par i)).toLoadRect (View.loadsAt_vmem (kf i).posS)) fun s =>
    absorbK B (par i) (kf i) vt (scPart (kf i) (maskOf i) s) (tileMax (kf i) (scPart (kf i) (maskOf i) s)) K
  | .fin n =>
    .op (.load B.acc (rA (par n)).toLoadRect (View.loadsAt_vmem h_S1x144x256)) fun acc =>
    .op (.load B.o (rO n).toLoadRect (View.loadsAt_vmem h_S1x256x128)) fun _ =>
    .op (.store B.o (rO n) (finOut acc) Finset.univ
      (View.stores_vmem h_S1x256x128 (B.ho.storeExact_slice rfl _ (packO n)) (fun _ => rfl)) (.inl rfl)) fun _ => K

/-- Steps in order, then `K`. -/
def runs (B : Bufs) : List Step → PP F → PP F
  | [], K => K
  | st :: l, K => stepK B st (runs B l K)

/-- The score buffer of a query tile's first key tile. -/
def home (i : Nat) : Nat := if i = 0 then 1 else if i = 1 then 0 else 2
/-- The score buffer of key tile `j` of query tile `i`. -/
def bufOf (i j : Nat) : Nat := if j = 0 then home i else j % 2

/-- The steps for key tile `j` of query tile `i`, not the last: the next tile's scores first. -/
def midSteps (i j : Nat) : List Step :=
  [.scores (Fin.ofNat 16 i) (Fin.ofNat 8 (j + 1)) (Fin.ofNat 3 ((j + 1) % 2)),
   .full (Fin.ofNat 8 j) (Fin.ofNat 3 (bufOf i j)) 0, .full (Fin.ofNat 8 j) (Fin.ofNat 3 (bufOf i j)) 1]

/-- The last steps of query tile `i`: the next query tile's first scores, the last key tile, the result. -/
def lastSteps (i : Nat) : List Step :=
  (if i = 15 then [] else [.scores (Fin.ofNat 16 (i + 1)) 0 (Fin.ofNat 3 (home (i + 1)))]) ++
  [.part (Fin.ofNat 8 (i / 2)) (Fin.ofNat 3 (bufOf i (i / 2))) (Fin.ofNat 4 (2 * (i % 2))),
   .part (Fin.ofNat 8 (i / 2)) (Fin.ofNat 3 (bufOf i (i / 2))) (Fin.ofNat 4 (2 * (i % 2) + 1)),
   .fin (Fin.ofNat 32 (2 * i)), .fin (Fin.ofNat 32 (2 * i + 1))]

/-- The steps of the key tiles before the last, from tile `j` on, `n` of them. -/
def midFrom (i : Nat) : (n j : Nat) → List Step
  | 0, _ => []
  | n + 1, j => midSteps i j ++ midFrom i n (j + 1)

/-- The steps of query tile `i`. -/
def tileSteps (i : Nat) : List Step := .start :: (midFrom i (i / 2) 0 ++ lastSteps i)

/-- The steps of `n` query tiles from tile `i` on. -/
def tilesFrom : (n i : Nat) → List Step
  | 0, _ => []
  | n + 1, i => tileSteps i ++ tilesFrom n (i + 1)

/-- The steps before the loop. -/
def preSteps : List Step := [.vt 0, .vt 1, .vt 2, .vt 3, .vt 4, .vt 5, .vt 6, .vt 7, .scores 0 0 1]

end Cert.KernelIdeal.Att

end
-- ==== Proof.Body.lean ====
/-
  The attention body, with its loop, as steps.
-/
module

public import proofs.«01_k».proof.Proof.Steps
public import Idealize.ShloMosaic.Lib.Tactic

@[expose] public section

noncomputable section

namespace Cert.KernelIdeal.Att

open Idealize.ShloMosaic Idealize.SL.Sem Idealize.ShloMosaic.Tactic

variable {F : FTy → Type} [FloatOps F]

variable [Facts]
open Facts₀ Facts

section
variable (i : grid0.Coords) (arg2 : Memref sig .tc .vmem S1x1x16x256x512 .bf16) (harg2 : arg2.IsWhole) (arg3 : Memref sig .tc .vmem S1x1x8192x256 .bf16) (harg3 : arg3.IsWhole) (arg4 : Memref sig .tc .vmem S1x1x8192x128 .bf16) (harg4 : arg4.IsWhole) (arg5 : Memref sig .tc .vmem S1x8192x128 .bf16) (harg5 : arg5.IsWhole) (arg6 : Memref sig .tc .vmem S8x144x1024 .bf16) (harg6 : arg6.IsWhole) (arg7 : Memref sig .tc .vmem S3x1024x512 .f32) (harg7 : arg7.IsWhole) (arg8 : Memref sig .tc .vmem S3x1x512 .f32) (harg8 : arg8.IsWhole) (arg9 : Memref sig .tc .vmem S2x1x256 .f32) (harg9 : arg9.IsWhole) (arg10 : Memref sig .tc .vmem S2x144x256 .f32) (harg10 : arg10.IsWhole)

/-- Two blocks of query tiles, one to a trip of the loop. -/
def trip (B : Bufs) (t : Fin k0_t1_loop.trips) : PP F :=
  let next : PP F := if _h : k0_cond2 t = 1#1 then runs B (tilesFrom 5 11) (.ret ⟨⟩) else .ret ⟨⟩
  if _h : k0_cond1 t = 1#1 then runs B (tilesFrom 11 0) next else next

/-- The body: the steps before the loop, and the loop. -/
def body (B : Bufs) : PP F :=
  runs B preSteps (Prog.bind (Scf.Loop.for k0_t1_loop k0_t1_ok ⟨⟩ fun t _ => trip B t) fun _ => .ret ⟨⟩)

/-- The printed body is this list of steps. -/
theorem cc0_attn_eq : cc0_attn (F := F) i arg2 harg2 arg3 harg3 arg4 harg4 arg5 harg5 arg6 harg6 arg7 harg7 arg8 harg8 arg9 harg9 arg10 harg10
    = body ⟨arg2, arg3, arg4, arg5, harg5, arg6, harg6, arg7, arg8, arg9, arg10⟩ := by
  sl_kernel_rfl
end
end Cert.KernelIdeal.Att
end
-- ==== Proof.Wp.lean ====
/-
  What each step of the attention body does to the contents of its buffers, and that the body, run
  from buffers at any contents, ends with them at what its steps leave.
-/
module

public import proofs.«01_k».proof.Proof.Body
public import proofs.«01_k».proof.Proof.Gen.KernelIdeal
public import Idealize.ShloMosaic.Lib.Memref
public import Idealize.ShloMosaic.Lib.Pipeline.Frame

@[expose] public section

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable [Facts]
open Facts₀ Facts

local notation "𝕄" => MT nD τ sig Unit (Elt F) ℕ (UR sig nD τ) ℕ

/-- The program logic's triple of a body at core `c`. -/
abbrev wpB (c : Dev nD) (K : PP F) (Q : PUnit → sProp 𝕄) : sProp 𝕄 :=
  wp frame (wpE (defs₀ (F := F)) Variants.none (c.tc : Thread nD τ) none) Set.univ K Q

/-- A load through a rectangle goes on with the contents there. -/
theorem wp_ld (c : Dev nD) {s : Shape} {e : EltTy} (M : Memref sig .tc .vmem s e) (r : Rect s) (hl : M.view.LoadsAt r.toLoadRect)
    (k : (r.shape.Idx → Elt F e) → PP F) (X : s.Idx → Elt F e) (Q : PUnit → sProp 𝕄) :
    (owns (c.tc : Thread nD τ) M fullShare X : sProp 𝕄)
      ⊢ iprop((owns (c.tc : Thread nD τ) M fullShare X -∗ wpB c (k fun i => X (r.emb i)) Q) -∗ wpB c (.op (.load M r.toLoadRect hl) k) Q) := by
  unfold owns
  iintro ⟨%f, %hf, H⟩ HK
  subst hf
  iapply (wp_load_rect Variants.none (c.tc : Thread nD τ) none Set.univ (M.view.set_slice_subset r)) $$ H
  iintro H
  iapply HK
  iexists f
  isplitr; · ipureintro; rfl
  iexact H

/-- A store of a whole rectangle puts its values there. -/
theorem wp_st (c : Dev nD) {s : Shape} {e : EltTy} (M : Memref sig .tc .vmem s e) (r : Rect s) (w : r.shape.Idx → Elt F e)
    (hx : (M.access r).Stores Finset.univ) (hm : (Finset.univ : Finset r.shape.Idx) = Finset.univ ∨ ∀ a, r.stride a = 1)
    (k : PUnit → PP F) (X : s.Idx → Elt F e) (Q : PUnit → sProp 𝕄) :
    (owns (c.tc : Thread nD τ) M fullShare X : sProp 𝕄)
      ⊢ iprop((owns (c.tc : Thread nD τ) M fullShare (r.overlay X w) -∗ wpB c (k ⟨⟩) Q)
        -∗ wpB c (.op (.store M r w Finset.univ hx hm) k) Q) := by
  unfold owns
  iintro ⟨%f, %hf, H⟩ HK
  subst hf
  iapply (wp_store Variants.none (c.tc : Thread nD τ) none Set.univ (M.view.set_slice_subset r)) $$ H
  iintro H
  iapply HK
  iexists _
  isplitr; swap; · iexact H
  ipureintro
  funext j
  by_cases hj : j ∈ r.set
  · obtain ⟨i, rfl⟩ := r.exists_idx_of_mem hj
    exact (View.read_slice_write_emb r _ w (Finset.mem_univ i)).trans (Rect.overlay_emb r _ w i).symm
  · rw [Rect.overlay_of_not_mem _ _ _ hj]
    exact View.read_slice_write_of_not_mem r _ _ _ (by rw [Rect.map_emb_univ]; exact hj)

/-! ## The contents -/

/-- What the body only reads: the queries, the keys, the values. -/
structure Ins (F : FTy → Type) [FloatOps F] where
  q : Vec F S1x1x16x256x512 .bf16
  k : Vec F S1x1x8192x256 .bf16
  v : Vec F S1x1x8192x128 .bf16

/-- The contents of the buffers the body writes. -/
structure St (F : FTy → Type) [FloatOps F] where
  o : Vec F S1x8192x128 .bf16
  vt : Vec F S8x144x1024 .bf16
  s : Vec F S3x1024x512 .f32
  mx : Vec F S3x1x512 .f32
  m : Vec F S2x1x256 .f32
  acc : Vec F S2x144x256 .f32

/-- The contents at a rectangle. -/
def at_ {s : Shape} {e : EltTy} (X : Vec F s e) (r : Rect s) : Vec F r.shape e := fun i => X (r.emb i)

/-- An absorption. -/
def absorbS (u : Fin 2) {r : Nat} (h : KF r) (vt : Vec F (SV r) .bf16) (x : FVec F (SS2 r) .f32) (t : FVec F S1x256 .f32)
    (σ : St F) : St F :=
  { σ with
    m := (rM u).overlay σ.m (newMaxOut (at_ σ.m (rM u)) t)
    acc := (rA u).overlay σ.acc (newAcc h vt x (at_ σ.m (rM u)) t (at_ σ.acc (rA u))) }

/-- What a step does to the contents. -/
def stepS (I : Ins F) (st : Step) (σ : St F) : St F :=
  match st with
  | .vt j => { σ with vt := (rE j).overlay ((rT j).overlay σ.vt (vtOut (at_ I.v (rV j)))) onesOut }
  | .start => { σ with m := rMw.overlay σ.m m0, acc := rAw.overlay σ.acc acc0 }
  | .scores i j b =>
    { σ with
      s := (rS b).overlay σ.s (scoreOut (at_ I.k (rK j)) (at_ I.q (rQ i)))
      mx := (rX b).overlay σ.mx (maxOut (at_ I.k (rK j)) (at_ I.q (rQ i))) }
  | .full j b u =>
    absorbS u (kf 3) (at_ σ.vt (rVt (kf 3) j)) (scFull (kf 3) (at_ σ.s (rSs (kf 3) b u))) (rowV (at_ σ.mx (rXs b u))) σ
  | .part j b i =>
    absorbS (par i) (kf i) (at_ σ.vt (rVt (kf i) j)) (scPart (kf i) (maskOf i) (at_ σ.s (rSs (kf i) b (par i))))
      (tileMax (kf i) (scPart (kf i) (maskOf i) (at_ σ.s (rSs (kf i) b (par i))))) σ
  | .fin n => { σ with o := (rO n).overlay σ.o (finOut (at_ σ.acc (rA (par n)))) }

/-- What steps in order do to the contents. -/
def runS (I : Ins F) (l : List Step) (σ : St F) : St F := l.foldl (fun σ st => stepS I st σ) σ

/-! ## The triples -/

/-- The buffers owned at given contents. -/
def own (c : Dev nD) (B : Bufs) (I : Ins F) (σ : St F) : sProp 𝕄 :=
  iprop(owns (c.tc : Thread nD τ) B.q fullShare I.q ∗ owns (c.tc : Thread nD τ) B.k fullShare I.k ∗ owns (c.tc : Thread nD τ) B.v fullShare I.v
    ∗ owns (c.tc : Thread nD τ) B.o fullShare σ.o ∗ owns (c.tc : Thread nD τ) B.vt fullShare σ.vt ∗ owns (c.tc : Thread nD τ) B.s fullShare σ.s
    ∗ owns (c.tc : Thread nD τ) B.mx fullShare σ.mx ∗ owns (c.tc : Thread nD τ) B.m fullShare σ.m ∗ owns (c.tc : Thread nD τ) B.acc fullShare σ.acc)

theorem wp_absorb (c : Dev nD) (B : Bufs) (u : Fin 2) {r : Nat} (h : KF r) (vt : Vec F (SV r) .bf16) (x : FVec F (SS2 r) .f32)
    (t : FVec F S1x256 .f32) (K : PP F) (I : Ins F) (σ : St F) (Q : PUnit → sProp 𝕄) :
    own c B I σ ⊢ iprop((own c B I (absorbS u h vt x t σ) -∗ wpB c K Q) -∗ wpB c (absorbK B u h vt x t K) Q) := by
  unfold own absorbK
  iintro ⟨Hq, Hk, Hv, Ho, Hvt, Hs, Hx, Hm, Ha⟩ HK
  iapply (wp_ld c B.m (rM u) _ _ σ.m Q) $$ Hm
  iintro Hm
  iapply (wp_ld c B.m (rM u) _ _ σ.m Q) $$ Hm
  iintro Hm
  iapply (wp_st c B.m (rM u) _ _ _ _ σ.m Q) $$ Hm
  iintro Hm
  iapply (wp_ld c B.acc (rA u) _ _ σ.acc Q) $$ Ha
  iintro Ha
  iapply (wp_ld c B.acc (rA u) _ _ σ.acc Q) $$ Ha
  iintro Ha
  iapply (wp_st c B.acc (rA u) _ _ _ _ σ.acc Q) $$ Ha
  iintro Ha
  iapply HK
  unfold absorbS at_
  dsimp only
  isplitl [Hq]; · iexact Hq
  isplitl [Hk]; · iexact Hk
  isplitl [Hv]; · iexact Hv
  isplitl [Ho]; · iexact Ho
  isplitl [Hvt]; · iexact Hvt
  isplitl [Hs]; · iexact Hs
  isplitl [Hx]; · iexact Hx
  isplitl [Hm]; · iexact Hm
  iexact Ha

/-- A step's triple. -/
theorem wp_step (c : Dev nD) (B : Bufs) (st : Step) (K : PP F) (I : Ins F) (σ : St F) (Q : PUnit → sProp 𝕄) :
    own c B I σ ⊢ iprop((own c B I (stepS I st σ) -∗ wpB c K Q) -∗ wpB c (stepK B st K) Q) := by
  cases st with
  | vt j =>
    unfold own stepK stepS at_
    dsimp only
    iintro ⟨Hq, Hk, Hv, Ho, Hvt, Hs, Hx, Hm, Ha⟩ HK
    iapply (wp_ld c B.v (rV j) _ _ I.v Q) $$ Hv
    iintro Hv
    iapply (wp_ld c B.vt (rT j) _ _ σ.vt Q) $$ Hvt
    iintro Hvt
    iapply (wp_st c B.vt (rT j) _ _ _ _ σ.vt Q) $$ Hvt
    iintro Hvt
    iapply (wp_ld c B.vt (rE j) _ _ _ Q) $$ Hvt
    iintro Hvt
    iapply (wp_st c B.vt (rE j) _ _ _ _ _ Q) $$ Hvt
    iintro Hvt
    iapply HK
    isplitl [Hq]; · iexact Hq
    isplitl [Hk]; · iexact Hk
    isplitl [Hv]; · iexact Hv
    isplitl [Ho]; · iexact Ho
    isplitl [Hvt]; · iexact Hvt
    isplitl [Hs]; · iexact Hs
    isplitl [Hx]; · iexact Hx
    isplitl [Hm]; · iexact Hm
    iexact Ha
  | start =>
    unfold own stepK stepS
    dsimp only
    iintro ⟨Hq, Hk, Hv, Ho, Hvt, Hs, Hx, Hm, Ha⟩ HK
    iapply (wp_ld c B.m rMw _ _ σ.m Q) $$ Hm
    iintro Hm
    iapply (wp_st c B.m rMw _ _ _ _ σ.m Q) $$ Hm
    iintro Hm
    iapply (wp_ld c B.acc rAw _ _ σ.acc Q) $$ Ha
    iintro Ha
    iapply (wp_st c B.acc rAw _ _ _ _ σ.acc Q) $$ Ha
    iintro Ha
    iapply HK
    isplitl [Hq]; · iexact Hq
    isplitl [Hk]; · iexact Hk
    isplitl [Hv]; · iexact Hv
    isplitl [Ho]; · iexact Ho
    isplitl [Hvt]; · iexact Hvt
    isplitl [Hs]; · iexact Hs
    isplitl [Hx]; · iexact Hx
    isplitl [Hm]; · iexact Hm
    iexact Ha
  | scores i j b =>
    unfold own stepK stepS at_
    dsimp only
    iintro ⟨Hq, Hk, Hv, Ho, Hvt, Hs, Hx, Hm, Ha⟩ HK
    iapply (wp_ld c B.k (rK j) _ _ I.k Q) $$ Hk
    iintro Hk
    iapply (wp_ld c B.q (rQ i) _ _ I.q Q) $$ Hq
    iintro Hq
    iapply (wp_ld c B.s (rS b) _ _ σ.s Q) $$ Hs
    iintro Hs
    iapply (wp_st c B.s (rS b) _ _ _ _ σ.s Q) $$ Hs
    iintro Hs
    iapply (wp_ld c B.mx (rX b) _ _ σ.mx Q) $$ Hx
    iintro Hx
    iapply (wp_st c B.mx (rX b) _ _ _ _ σ.mx Q) $$ Hx
    iintro Hx
    iapply HK
    isplitl [Hq]; · iexact Hq
    isplitl [Hk]; · iexact Hk
    isplitl [Hv]; · iexact Hv
    isplitl [Ho]; · iexact Ho
    isplitl [Hvt]; · iexact Hvt
    isplitl [Hs]; · iexact Hs
    isplitl [Hx]; · iexact Hx
    isplitl [Hm]; · iexact Hm
    iexact Ha
  | full j b u =>
    iintro H HK
    unfold own stepK
    dsimp only
    icases H with ⟨Hq, Hk, Hv, Ho, Hvt, Hs, Hx, Hm, Ha⟩
    iapply (wp_ld c B.vt (rVt (kf 3) j) _ _ σ.vt Q) $$ Hvt
    iintro Hvt
    iapply (wp_ld c B.s (rSs (kf 3) b u) _ _ σ.s Q) $$ Hs
    iintro Hs
    iapply (wp_ld c B.mx (rXs b u) _ _ σ.mx Q) $$ Hx
    iintro Hx
    ihave H := (show _ ⊢ own c B I σ from .rfl) $$ [Hq Hk Hv Ho Hvt Hs Hx Hm Ha]
    · unfold own
      isplitl [Hq]; · iexact Hq
      isplitl [Hk]; · iexact Hk
      isplitl [Hv]; · iexact Hv
      isplitl [Ho]; · iexact Ho
      isplitl [Hvt]; · iexact Hvt
      isplitl [Hs]; · iexact Hs
      isplitl [Hx]; · iexact Hx
      isplitl [Hm]; · iexact Hm
      iexact Ha
    iapply (wp_absorb c B u (kf 3) _ _ _ K I σ Q) $$ H
    iexact HK
  | part j b i =>
    iintro H HK
    unfold own stepK
    dsimp only
    icases H with ⟨Hq, Hk, Hv, Ho, Hvt, Hs, Hx, Hm, Ha⟩
    iapply (wp_ld c B.vt (rVt (kf i) j) _ _ σ.vt Q) $$ Hvt
    iintro Hvt
    iapply (wp_ld c B.s (rSs (kf i) b (par i)) _ _ σ.s Q) $$ Hs
    iintro Hs
    ihave H := (show _ ⊢ own c B I σ from .rfl) $$ [Hq Hk Hv Ho Hvt Hs Hx Hm Ha]
    · unfold own
      isplitl [Hq]; · iexact Hq
      isplitl [Hk]; · iexact Hk
      isplitl [Hv]; · iexact Hv
      isplitl [Ho]; · iexact Ho
      isplitl [Hvt]; · iexact Hvt
      isplitl [Hs]; · iexact Hs
      isplitl [Hx]; · iexact Hx
      isplitl [Hm]; · iexact Hm
      iexact Ha
    iapply (wp_absorb c B (par i) (kf i) _ _ _ K I σ Q) $$ H
    iexact HK
  | fin n =>
    unfold own stepK stepS at_
    dsimp only
    iintro ⟨Hq, Hk, Hv, Ho, Hvt, Hs, Hx, Hm, Ha⟩ HK
    iapply (wp_ld c B.acc (rA (par n)) _ _ σ.acc Q) $$ Ha
    iintro Ha
    iapply (wp_ld c B.o (rO n) _ _ σ.o Q) $$ Ho
    iintro Ho
    iapply (wp_st c B.o (rO n) _ _ _ _ σ.o Q) $$ Ho
    iintro Ho
    iapply HK
    isplitl [Hq]; · iexact Hq
    isplitl [Hk]; · iexact Hk
    isplitl [Hv]; · iexact Hv
    isplitl [Ho]; · iexact Ho
    isplitl [Hvt]; · iexact Hvt
    isplitl [Hs]; · iexact Hs
    isplitl [Hx]; · iexact Hx
    isplitl [Hm]; · iexact Hm
    iexact Ha

/-- The triple of steps in order. -/
theorem wp_runs (c : Dev nD) (B : Bufs) (I : Ins F) (Q : PUnit → sProp 𝕄) (l : List Step) : ∀ (K : PP F) (σ : St F),
    own c B I σ ⊢ iprop((own c B I (runS I l σ) -∗ wpB c K Q) -∗ wpB c (runs B l K) Q) := by
  induction l with
  | nil =>
    intro K σ
    iintro H HK
    iapply HK
    iexact H
  | cons st l ih =>
    intro K σ
    iintro H HK
    iapply (wp_step c B st (runs B l K) I σ Q) $$ H
    iintro H
    iapply (ih K (stepS I st σ)) $$ H
    iexact HK

/-- All steps of the body. -/
def allSteps : List Step := preSteps ++ (tilesFrom 11 0 ++ tilesFrom 5 11)

/-- What a trip of the loop does to the contents. -/
def tripS (I : Ins F) (n : Nat) (σ : St F) : St F :=
  if n = 0 then σ else if n = 1 then runS I (tilesFrom 11 0) σ else runS I (tilesFrom 5 11) (runS I (tilesFrom 11 0) σ)

theorem cond_1 : ∀ t : Fin k0_t1_loop.trips, k0_cond1 t = 1#1 ↔ t.val = 0 := by decide
theorem cond_2 : ∀ t : Fin k0_t1_loop.trips, k0_cond2 t = 1#1 ↔ t.val = 1 := by decide
theorem trips_eq : k0_t1_loop.trips = 2 := by decide

theorem wp_trip (c : Dev nD) (B : Bufs) (I : Ins F) (σ : St F) (t : Fin k0_t1_loop.trips) :
    own c B I (tripS I t.val σ) ⊢ wpB c (trip B t) (fun _ => own c B I (tripS I (t.val + 1) σ)) := by
  have ht : t.val < 2 := lt_of_lt_of_eq t.isLt trips_eq
  unfold trip tripS
  rcases (show t.val = 0 ∨ t.val = 1 by omega) with h | h
  · rw [dif_pos ((cond_1 t).2 h), dif_neg (fun e => by have := (cond_2 t).1 e; omega), h]
    rw [if_pos rfl, if_neg (by decide), if_pos rfl]
    iintro H
    iapply (wp_runs c B I _ (tilesFrom 11 0) (.ret ⟨⟩) σ) $$ H
    iintro H
    rw [wpB, wp_ret]
    imodintro
    iexact H
  · rw [dif_neg (fun e => by have := (cond_1 t).1 e; omega), dif_pos ((cond_2 t).2 h), h]
    rw [if_neg (by decide), if_pos rfl, if_neg (by decide), if_neg (by decide)]
    iintro H
    iapply (wp_runs c B I _ (tilesFrom 5 11) (.ret ⟨⟩) _) $$ H
    iintro H
    rw [wpB, wp_ret]
    imodintro
    iexact H

/-- The body's triple: the buffers end at what all its steps leave. -/
theorem wp_body (c : Dev nD) (B : Bufs) (I : Ins F) (σ : St F) (Q : PUnit → sProp 𝕄) :
    own c B I σ ⊢ iprop((own c B I (runS I allSteps σ) -∗ Q ⟨⟩) -∗ wpB c (body B) Q) := by
  unfold body
  iintro H HK
  iapply (wp_runs c B I Q preSteps _ σ) $$ H
  iintro H
  iapply (Scf.wp_for_bind frame _ Set.univ _ _ _ k0_t1_ok ⟨⟩ (fun t _ => trip B t)
    (fun n _ => own c B I (tripS I n (runS I preSteps σ))) (fun t _ => wp_trip c B I _ t)) $$ [H]
  · iexact H
  iintro %acc H
  rw [wp_ret]
  imodintro
  iapply HK
  have e : tripS I 2 (runS I preSteps σ) = runS I allSteps σ := by
    unfold tripS allSteps runS
    rw [if_neg (by decide), if_neg (by decide), List.foldl_append, List.foldl_append]
  rw [← e]
  iexact H

end Cert.KernelIdeal.Att

end
-- ==== Proof.Launch.lean ====
/-
  The launch of the attention: the body's triple at every point of the grid, and the runs it gives —
  one that says nothing of the result, and one that says what it holds when the body's steps are known
  to leave given contents whatever the buffers held before.
-/
module

public import proofs.«01_k».proof.Proof.Wp
public import proofs.«01_k».proof.Proof.Gen.KernelIdeal.Frame

@[expose] public section

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's block, point by point. -/
abbrev Out (F : FTy → Type) [FloatOps F] : Type := Dev nD → Fin cfg0.N → Vec F S1x8192x128 .bf16

/-- The proof data: every input block left in place, the result's block at `out`. -/
def dats (out : Out F) (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => out c t
    | ⟨_ + 4, h⟩ => absurd h (Nat.not_lt.2 (Nat.le_add_left _ _))
  Φ _ := Pipeline.ΦA spec0 c
  q _ := fullShare
  owed _ := 0

/-- The inputs of a point. -/
def ins (c : Dev nD) (t : Fin cfg0.N) : Ins F := ⟨iblk m c 0 t, iblk m c 1 t, iblk m c 2 t⟩

/-- The buffers of a point. -/
def bufs (t : Fin cfg0.N) : Bufs :=
  ⟨st0_0 t, st0_1 t, st0_2 t, st0_3 t, hstage0_3 ((cfg0.slots t 3).cast nbuf0_3), Memref.whole cc0_scratch0, Memref.isWhole_whole _,
    Memref.whole cc0_scratch1, Memref.whole cc0_scratch2, Memref.whole cc0_scratch3, Memref.whole cc0_scratch4⟩

theorem bodyAt_eq (t : Fin cfg0.N) : bodyAt0 (F := F) t = body (bufs t) := cc0_attn_eq _ _ _ _ _ _ _ _ _ _ _ _ _ _ _ _ _ _ _

/-- The body at a point, from any contents of the buffers it writes. -/
theorem sound (c : Dev nD) (t : Fin cfg0.N) (K : PUnit → sProp 𝕄) :
    iprop(Pipeline.ΦA spec0 c ∗ owns (c.tc : Thread nD τ) (st0_0 t) fullShare (iblk m c 0 t)
        ∗ owns (c.tc : Thread nD τ) (st0_1 t) fullShare (iblk m c 1 t) ∗ owns (c.tc : Thread nD τ) (st0_2 t) fullShare (iblk m c 2 t)
        ∗ (∃ X, owns (c.tc : Thread nD τ) (st0_3 t) fullShare X))
      ⊢ iprop((iprop(Pipeline.ΦA spec0 c ∗ owns (c.tc : Thread nD τ) (st0_0 t) fullShare (iblk m c 0 t)
        ∗ owns (c.tc : Thread nD τ) (st0_1 t) fullShare (iblk m c 1 t) ∗ owns (c.tc : Thread nD τ) (st0_2 t) fullShare (iblk m c 2 t)
        ∗ (∃ σ : St F, owns (c.tc : Thread nD τ) (st0_3 t) fullShare (runS (ins m c t) allSteps σ).o)) -∗ K ⟨⟩)
        -∗ wpB c (bodyAt0 (F := F) t) K) := by
  rw [bodyAt_eq]
  unfold Pipeline.ΦA
  rw [scopedRest0_eq]
  simp only [← owns_whole]
  iintro ⟨⟨⟨⟨%f0, H0⟩, ⟨%f1, H1⟩, ⟨%f2, H2⟩, ⟨%f3, H3⟩, ⟨%f4, H4⟩⟩, Hg⟩, Hq, Hk, Hv, ⟨%X, Ho⟩⟩ HK
  ihave H := (show _ ⊢ own c (bufs t) (ins m c t) ⟨X, f0, f1, f2, f3, f4⟩ from .rfl) $$ [Hq Hk Hv Ho H0 H1 H2 H3 H4]
  · unfold own bufs ins
    dsimp only
    isplitl [Hq]; · iexact Hq
    isplitl [Hk]; · iexact Hk
    isplitl [Hv]; · iexact Hv
    isplitl [Ho]; · iexact Ho
    isplitl [H0]; · iexact H0
    isplitl [H1]; · iexact H1
    isplitl [H2]; · iexact H2
    isplitl [H3]; · iexact H3
    iexact H4
  iapply (wp_body c (bufs t) (ins m c t) _ K) $$ H
  unfold own
  iintro ⟨Hq, Hk, Hv, Ho, H0, H1, H2, H3, H4⟩
  iapply HK
  isplitl [H0 H1 H2 H3 H4 Hg]
  · isplitr [Hg]
    · isplitl [H0]; · iexists _; iexact H0
      isplitl [H1]; · iexists _; iexact H1
      isplitl [H2]; · iexists _; iexact H2
      isplitl [H3]; · iexists _; iexact H3
      iexists _; iexact H4
    · iexact Hg
  isplitl [Hq]; · iexact Hq
  isplitl [Hk]; · iexact Hk
  isplitl [Hv]; · iexact Hv
  iexists _; iexact Ho

theorem defs₀_row (t : Fin cfg0.N) : defs₀ (F := F) .tc cfg0.body (cfg0.bodyArgs t (cfg0.slots t)) = bodyAt0 t := by
  unfold defs₀; rw [Defs.onTc_tc]

/-- The result's window is the one nothing is said of. -/
def forgets : Fin 4 → Bool := fun w => w == 3

theorem before_0 (out : Out F) (c : Dev nD) (t : Fin cfg0.N) (d) : (dats m out 0 c).before 0 t d = iblk m c 0 t :=
  before0_0_of m (dats m out 0 c) rfl (fun _ => rfl) t d
theorem before_1 (out : Out F) (c : Dev nD) (t : Fin cfg0.N) (d) : (dats m out 0 c).before 1 t d = iblk m c 1 t :=
  before0_1_of m (dats m out 0 c) rfl (fun _ => rfl) t d
theorem before_2 (out : Out F) (c : Dev nD) (t : Fin cfg0.N) (d) : (dats m out 0 c).before 2 t d = iblk m c 2 t :=
  before0_2_of m (dats m out 0 c) rfl (fun _ => rfl) t d

/-- The body's obligation, nothing said of the result. -/
theorem obligation_forget (out : Out F) (c : Dev nD) :
    BodyObligation (dats m out 0 c) (defs₀ (F := F)) Variants.none () Set.univ forgets := fun t => by
  rw [bigSep_W0, bigSep_W0, defs₀_row]
  simp only [before_0, before_1, before_2]
  show iprop(Pipeline.ΦA spec0 c ∗ (dats m out 0 c).owesAt () t.castSucc
      ∗ (∃ d, owns (c.tc : Thread nD τ) (st0_0 t) fullShare (iblk m c 0 t)) ∗ (∃ d, owns (c.tc : Thread nD τ) (st0_1 t) fullShare (iblk m c 1 t))
      ∗ (∃ d, owns (c.tc : Thread nD τ) (st0_2 t) fullShare (iblk m c 2 t)) ∗ (∃ X, owns (c.tc : Thread nD τ) (st0_3 t) fullShare X))
    ⊢ wpB c (bodyAt0 (F := F) t) fun _ => iprop(Pipeline.ΦA spec0 c ∗ (dats m out 0 c).owesAt () t.castSucc
      ∗ owns (c.tc : Thread nD τ) (st0_0 t) fullShare (iblk m c 0 t) ∗ owns (c.tc : Thread nD τ) (st0_1 t) fullShare (iblk m c 1 t)
      ∗ owns (c.tc : Thread nD τ) (st0_2 t) fullShare (iblk m c 2 t) ∗ (∃ X, owns (c.tc : Thread nD τ) (st0_3 t) fullShare X))
  iintro ⟨HΦ, HO, ⟨%d0, H0⟩, ⟨%d1, H1⟩, ⟨%d2, H2⟩, H3⟩
  iapply (sound m c t _) $$ [HΦ H0 H1 H2 H3]
  · isplitl [HΦ]; · iexact HΦ
    isplitl [H0]; · iexact H0
    isplitl [H1]; · iexact H1
    isplitl [H2]; · iexact H2
    iexact H3
  iintro ⟨HΦ, H0, H1, H2, ⟨%σ, H3⟩⟩
  isplitl [HΦ]; · iexact HΦ
  isplitl [HO]; · iexact HO
  isplitl [H0]; · iexact H0
  isplitl [H1]; · iexact H1
  isplitl [H2]; · iexact H2
  iexists _; iexact H3

/-- The body's obligation, the result's block named. -/
theorem obligation (out : Out F) (hout : ∀ c t σ, (runS (ins m c t) allSteps σ).o = out c t) (c : Dev nD) :
    BodyObligation (dats m out 0 c) (defs₀ (F := F)) Variants.none () Set.univ := fun t => by
  rw [bigSep_W0, bigSep_W0, defs₀_row]
  simp only [before_0, before_1, before_2]
  show iprop(Pipeline.ΦA spec0 c ∗ (dats m out 0 c).owesAt () t.castSucc
      ∗ (∃ d, owns (c.tc : Thread nD τ) (st0_0 t) fullShare (iblk m c 0 t)) ∗ (∃ d, owns (c.tc : Thread nD τ) (st0_1 t) fullShare (iblk m c 1 t))
      ∗ (∃ d, owns (c.tc : Thread nD τ) (st0_2 t) fullShare (iblk m c 2 t)) ∗ (∃ X, owns (c.tc : Thread nD τ) (st0_3 t) fullShare ((dats m out 0 c).before 3 t X)))
    ⊢ wpB c (bodyAt0 (F := F) t) fun _ => iprop(Pipeline.ΦA spec0 c ∗ (dats m out 0 c).owesAt () t.castSucc
      ∗ owns (c.tc : Thread nD τ) (st0_0 t) fullShare (iblk m c 0 t) ∗ owns (c.tc : Thread nD τ) (st0_1 t) fullShare (iblk m c 1 t)
      ∗ owns (c.tc : Thread nD τ) (st0_2 t) fullShare (iblk m c 2 t) ∗ owns (c.tc : Thread nD τ) (st0_3 t) fullShare (out c t))
  iintro ⟨HΦ, HO, ⟨%d0, H0⟩, ⟨%d1, H1⟩, ⟨%d2, H2⟩, ⟨%d3, H3⟩⟩
  iapply (sound m c t _) $$ [HΦ H0 H1 H2 H3]
  · isplitl [HΦ]; · iexact HΦ
    isplitl [H0]; · iexact H0
    isplitl [H1]; · iexact H1
    isplitl [H2]; · iexact H2
    iexists _; iexact H3
  iintro ⟨HΦ, H0, H1, H2, ⟨%σ, H3⟩⟩
  rw [hout c t σ]
  isplitl [HΦ]; · iexact HΦ
  isplitl [HO]; · iexact HO
  isplitl [H0]; · iexact H0
  isplitl [H1]; · iexact H1
  isplitl [H2]; · iexact H2
  iexact H3

-- the launch theorem's implicit arguments are found by unifying its conclusion with the statement
set_option backward.isDefEq.respectTransparency.types false in
/-- The run, nothing said of the result. -/
theorem run_forget (out : Out F) :
    θ_run defs (onTc (τ := τ) (main (F := F))) (s₀ m ρ)
      (fun r => Pipeline.RDat.FramePost (cfgs 0) (fun c => (dats m out 0 c).toRForget forgets) (V m) r ∧ r.2.sem = fun _ => 0) :=
  Pipeline.θ_run_frame_forget (Q' := _) cfgs (dats m out) (0 : Fin 1) launch0 defs₀ Variants.none forgets m ρ main
    (hbody := fun c => (obligation_forget m out c).loose) (hshare := fun c => (dats m out 0 c).share_full fun _ => rfl)
    (howed := fun _ _ => rfl) (V := V m) (hmain := hmain m Variants.none) (hA := fun _ _ => rfl) (hΦ := fun _ _ => rfl)

set_option backward.isDefEq.respectTransparency.types false in
/-- The run, the result's blocks named. -/
theorem run_exact (out : Out F) (hout : ∀ c t σ, (runS (ins m c t) allSteps σ).o = out c t) :
    θ_run defs (onTc (τ := τ) (main (F := F))) (s₀ m ρ)
      (fun r => Pipeline.FramePost cfgs (dats m out) 0 (V m) r ∧ r.2.sem = fun _ => 0) :=
  Pipeline.θ_run_frame (Q' := _) cfgs (dats m out) (0 : Fin 1) launch0 defs₀ Variants.none m ρ main
    (hbody := fun c => (obligation m out hout c).loose) (hshare := fun c => (dats m out 0 c).share_full fun _ => rfl)
    (howed := fun _ _ => rfl) (V := V m) (hmain := hmain m Variants.none) (hA := fun _ _ => rfl) (hΦ := fun _ _ => rfl)

/-- The attention runs to its end, its arguments unchanged and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ (h : _ ∧ _) => ⟨fun c => ⟨h.1.arr_in c 0 rfl, h.1.arr_in c 1 rfl, h.1.arr_in c 2 rfl⟩, h.2⟩)
    (run_forget m ρ (fun _ _ _ => FloatOps.ofBits _ 0))

end Cert.KernelIdeal.Att

end
-- ==== Proof.Softmax.lean ====
/-
  Weighted sums with base-two exponential weights, on the extended reals: what the sum over the first
  positions becomes when more positions are taken in, and the quotient of two such sums.
-/
module

public import Idealize.ShloMosaic.PureOps.Ideal
public import Idealize.ShloMosaic.Lib.ValueIdx

@[expose] public section

noncomputable section

namespace Cert.Att

open Idealize.ShloMosaic

/-- The greatest of the first `n` scores, minus infinity for none. -/
def mx (s : ℕ → EReal) (n : ℕ) : EReal := (Finset.range n).sup s

/-- The sum of the first `n` values, each weighted by two to its score less the greatest one. -/
def ac (s x : ℕ → EReal) (n : ℕ) : EReal := ∑ j ∈ Finset.range n, x j * Ideal.exp2 (s j - mx s n)

theorem le_mx {s : ℕ → EReal} {n j : ℕ} (h : j < n) : s j ≤ mx s n := Finset.le_sup (f := s) (Finset.mem_range.2 h)

theorem sub_bot_left (x : EReal) : (⊥ : EReal) - x = ⊥ := by rw [sub_eq_add_neg, EReal.bot_add]

theorem sub_top_right (x : EReal) : x - (⊤ : EReal) = ⊥ := by rw [sub_eq_add_neg, EReal.neg_top, EReal.add_bot]

/-- Two to a difference that is not positive is a real that is not negative. -/
theorem exp2_sub_real {m M : EReal} (h : m ≤ M) : ∃ a : ℝ, 0 ≤ a ∧ Ideal.exp2 (m - M) = (a : EReal) := by
  induction M using EReal.rec with
  | bot => rw [le_bot_iff.1 h, sub_bot_left]; exact ⟨0, le_rfl, rfl⟩
  | top => rw [sub_top_right]; exact ⟨0, le_rfl, rfl⟩
  | coe M =>
    induction m using EReal.rec with
    | bot => rw [sub_bot_left]; exact ⟨0, le_rfl, rfl⟩
    | top => exact absurd (top_le_iff.1 h) (EReal.coe_ne_top _)
    | coe m =>
      rw [← EReal.coe_sub, Ideal.exp2_coe]
      exact ⟨_, Real.rpow_nonneg (by norm_num) _, rfl⟩

/-- Two steps of a difference are one. -/
theorem exp2_sub_mul {s m M : EReal} (h : s ≤ m) (h' : m ≤ M) :
    Ideal.exp2 (m - M) * Ideal.exp2 (s - m) = Ideal.exp2 (s - M) := by
  induction M using EReal.rec with
  | bot => obtain rfl := le_bot_iff.1 h'; obtain rfl := le_bot_iff.1 h; rw [sub_bot_left, Ideal.exp2_bot, zero_mul]
  | top => rw [sub_top_right, sub_top_right, Ideal.exp2_bot, zero_mul]
  | coe M =>
    induction m using EReal.rec with
    | bot => rw [le_bot_iff.1 h]; simp only [sub_bot_left, Ideal.exp2_bot, zero_mul]
    | top => exact absurd (top_le_iff.1 h') (EReal.coe_ne_top _)
    | coe m =>
      induction s using EReal.rec with
      | bot => simp only [sub_bot_left, Ideal.exp2_bot, mul_zero]
      | top => exact absurd (top_le_iff.1 h) (EReal.coe_ne_top _)
      | coe s =>
        rw [← EReal.coe_sub, ← EReal.coe_sub, ← EReal.coe_sub, Ideal.exp2_coe, Ideal.exp2_coe, Ideal.exp2_coe, ← EReal.coe_mul]
        refine congrArg _ ?_
        show (2 : ℝ) ^ (m - M) * (2 : ℝ) ^ (s - m) = (2 : ℝ) ^ (s - M)
        rw [← Real.rpow_add (by norm_num)]
        congr 1; ring

/-- A real factor that is not negative goes into a sum. -/
theorem coe_mul_sum {ι : Type*} (a : ℝ) (ha : 0 ≤ a) (S : Finset ι) (f : ι → EReal) : (a : EReal) * ∑ i ∈ S, f i = ∑ i ∈ S, (a : EReal) * f i := by
  classical
  induction S using Finset.induction_on with
  | empty => simp
  | insert i S hi ih =>
    rw [Finset.sum_insert hi, Finset.sum_insert hi, EReal.left_distrib_of_nonneg_of_ne_top (EReal.coe_nonneg.2 ha) (EReal.coe_ne_top _), ih]

theorem mx_add (s : ℕ → EReal) (n L : ℕ) : mx s (n + L) = max (mx s n) ((Finset.range L).sup fun k => s (n + k)) := by
  apply le_antisymm
  · refine Finset.sup_le fun j hj => ?_
    by_cases h : j < n
    · exact (le_mx h).trans (le_max_left _ _)
    · have e : n + (j - n) = j := by omega
      have := Finset.le_sup (f := fun k => s (n + k)) (Finset.mem_range.2 (show j - n < L by rw [Finset.mem_range] at hj; omega))
      rw [e] at this
      exact this.trans (le_max_right _ _)
  · refine max_le (Finset.sup_le fun j hj => le_mx ?_) (Finset.sup_le fun j hj => le_mx ?_) <;> rw [Finset.mem_range] at hj <;> omega

/-- `L` more positions taken in. -/
theorem ac_add (s x : ℕ → EReal) (n L : ℕ) :
    ac s x (n + L) = Ideal.exp2 (mx s n - mx s (n + L)) * ac s x n
      + ∑ k ∈ Finset.range L, x (n + k) * Ideal.exp2 (s (n + k) - mx s (n + L)) := by
  have hle : mx s n ≤ mx s (n + L) := by rw [mx_add]; exact le_max_left _ _
  unfold ac
  rw [Finset.sum_range_add]
  congr 1
  obtain ⟨a, ha, e⟩ := exp2_sub_real hle
  rw [e, coe_mul_sum a ha]
  refine Finset.sum_congr rfl fun j hj => ?_
  rw [← exp2_sub_mul (le_mx (Finset.mem_range.1 hj)) hle, e, mul_left_comm]

theorem mx_congr {s s' : ℕ → EReal} {n : ℕ} (h : ∀ j < n, s j = s' j) : mx s n = mx s' n :=
  Finset.sup_congr rfl fun j hj => h j (Finset.mem_range.1 hj)

theorem ac_congr {s s' x x' : ℕ → EReal} {n : ℕ} (h : ∀ j < n, s j = s' j) (hx : ∀ j < n, x j = x' j) : ac s x n = ac s' x' n := by
  unfold ac
  rw [mx_congr h]
  exact Finset.sum_congr rfl fun j hj => by rw [h j (Finset.mem_range.1 hj), hx j (Finset.mem_range.1 hj)]

/-- Positions at minus infinity add nothing to the maximum. -/
theorem mx_pad {s : ℕ → EReal} {n N : ℕ} (h : n ≤ N) (hb : ∀ j, n ≤ j → s j = ⊥) : mx s N = mx s n := by
  obtain ⟨L, rfl⟩ := Nat.exists_eq_add_of_le h
  rw [mx_add, max_eq_left]
  exact Finset.sup_le fun k _ => by rw [hb _ (Nat.le_add_right _ _)]; exact bot_le

/-- Nor to the weighted sum. -/
theorem ac_pad {s : ℕ → EReal} (x : ℕ → EReal) {n N : ℕ} (h : n ≤ N) (hb : ∀ j, n ≤ j → s j = ⊥) : ac s x N = ac s x n := by
  have e := mx_pad h hb
  obtain ⟨L, rfl⟩ := Nat.exists_eq_add_of_le h
  unfold ac
  rw [e, Finset.sum_range_add]
  refine (congrArg _ (Finset.sum_eq_zero fun k _ => ?_)).trans (add_zero _)
  rw [hb _ (Nat.le_add_right _ _), sub_bot_left, Ideal.exp2_bot, mul_zero]

/-- The maximum of reals and minus infinities is not plus infinity. -/
theorem mx_ne_top {s : ℕ → EReal} {n : ℕ} (h : ∀ j < n, s j ≠ ⊤) : mx s n ≠ ⊤ := by
  induction n with
  | zero => exact bot_ne_top
  | succ n ih =>
    rw [mx_add]
    have h1 := ih fun j hj => h j (by omega)
    have h2 := h n (by omega)
    simp only [Finset.range_one, Finset.sup_singleton, add_zero]
    rcases le_total (mx s n) (s n) with h | h
    · rwa [max_eq_right h]
    · rwa [max_eq_left h]

theorem mx_ne_bot {s : ℕ → EReal} {n j : ℕ} (hj : j < n) (h : s j ≠ ⊥) : mx s n ≠ ⊥ := fun e => h (le_bot_iff.1 (e ▸ le_mx hj))

/-- The sum of the weights is a positive real. -/
theorem ac_one_real {s : ℕ → EReal} {n : ℕ} (ht : ∀ j < n, s j ≠ ⊤) {i : ℕ} (hi : i < n) (hb : s i ≠ ⊥) :
    ∃ a : ℝ, 0 < a ∧ ac s (fun _ => 1) n = (a : EReal) := by
  have hM := mx_ne_top ht
  have hM' := mx_ne_bot hi hb
  have hw : ∀ j, ∃ a : ℝ, j < n → 0 ≤ a ∧ Ideal.exp2 (s j - mx s n) = (a : EReal) := fun j => by
    by_cases h : j < n
    · obtain ⟨a, h⟩ := exp2_sub_real (le_mx h); exact ⟨a, fun _ => h⟩
    · exact ⟨0, fun h' => absurd h' h⟩
  choose w hw using hw
  have e : ac s (fun _ => 1) n = ((∑ j ∈ Finset.range n, w j : ℝ) : EReal) := by
    unfold ac
    have hc : ((∑ j ∈ Finset.range n, w j : ℝ) : EReal) = ∑ j ∈ Finset.range n, (w j : EReal) :=
      map_sum (⟨⟨fun r : ℝ => (r : EReal), EReal.coe_zero⟩, EReal.coe_add⟩ : ℝ →+ EReal) _ _
    rw [hc]
    exact Finset.sum_congr rfl fun j hj => by rw [one_mul, (hw j (Finset.mem_range.1 hj)).2]
  refine ⟨_, ?_, e⟩
  refine Finset.sum_pos' (fun j hj => (hw j (Finset.mem_range.1 hj)).1) ⟨i, Finset.mem_range.2 hi, ?_⟩
  refine lt_of_le_of_ne (hw i hi).1 fun h0 => ?_
  have e2 := (hw i hi).2
  rw [← h0] at e2
  revert e2
  generalize mx s n = M at hM hM'
  have hs := ht i hi
  generalize s i = t at hb hs
  induction M using EReal.rec with
  | bot => exact absurd rfl hM'
  | top => exact absurd rfl hM
  | coe M =>
    induction t using EReal.rec with
    | bot => exact absurd rfl hb
    | top => exact absurd rfl hs
    | coe t =>
      rw [← EReal.coe_sub, Ideal.exp2_coe]
      intro e2
      exact absurd (EReal.coe_eq_coe_iff.1 e2) (Real.rpow_pos_of_pos (by norm_num) _).ne'

/-- The quotient of the weighted sum by the sum of the weights is the sum with each weight divided. -/
theorem div_ac {s : ℕ → EReal} (x : ℕ → EReal) {n : ℕ} (ht : ∀ j < n, s j ≠ ⊤) {i : ℕ} (hi : i < n) (hb : s i ≠ ⊥) :
    Ideal.div (ac s x n) (ac s (fun _ => 1) n)
      = ∑ j ∈ Finset.range n, x j * Ideal.div (Ideal.exp2 (s j - mx s n)) (∑ j ∈ Finset.range n, Ideal.exp2 (s j - mx s n)) := by
  have e1 : (∑ j ∈ Finset.range n, Ideal.exp2 (s j - mx s n)) = ac s (fun _ => 1) n := by
    unfold ac; exact Finset.sum_congr rfl fun j _ => (one_mul _).symm
  obtain ⟨a, ha, e⟩ := ac_one_real ht hi hb
  rw [e1, e]
  have ha' : (a : EReal) ≠ 0 := by exact_mod_cast ha.ne'
  unfold Ideal.div
  simp only [if_neg ha']
  unfold ac
  rw [← EReal.coe_inv, mul_comm, coe_mul_sum _ (inv_nonneg.2 ha.le)]
  exact Finset.sum_congr rfl fun j _ => by rw [mul_comm, mul_assoc]

end Cert.Att

end
-- ==== Proof.Readings.lean ====
/-
  What each operation of the attention body computes, entry by entry, on the extended reals.
-/
module

public import proofs.«01_k».proof.Proof.Steps
public import proofs.«01_k».proof.Proof.Gen.KernelIdeal
public import Idealize.ShloMosaic.PureOps.Ideal.Laws
public import Idealize.ShloMosaic.Lib.ValueIdx
public import Idealize.ShloMosaic.Lib.ValueLayout
public import Idealize.ShloMosaic.Lib.Pipeline.Value
public import Idealize.ShloMosaic.Lib.MatmulPlain
public import Idealize.ShloMosaic.Lib.IdealHost

@[expose] public section

noncomputable section

namespace Cert.KernelIdeal.Att

open Idealize.ShloMosaic Idealize.ShloMosaic.ValueIdx

variable [Facts]
open Facts₀ Facts

/-- The word of minus infinity. -/
theorem word_bot : Ideal.ofBits .f32 0xFF800000#32 = ⊥ := by simp [Ideal.ofBits, Ideal.ieee]

section Casts

variable {α : Type}

theorem cast_11ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem cast_111ab {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp)

theorem cast_group {r c : ℕ} (x : (⟨2, ![32 * r, c]⟩ : Shape).Idx → α) (h : (⟨2, ![32 * r, c]⟩ : Shape).ShapeCasts (SG r c))
    (i : Fin r) (a : Fin 32) (j : Fin c) (k : Fin (32 * r)) (hk : k.val = i.val * 32 + a.val) :
    shapeCast (SG r c) x h (ix3 i a j) = x (ix2 k j) :=
  shapeCast_apply x h _ _ (by
    rw [Shape.rowMajor_val_three, Shape.rowMajor_val_two]
    show k.val * c + j.val = (i.val * 32 + a.val) * c + j.val
    rw [hk])

theorem cast_same {s : Shape} (x : s.Idx → α) (h : s.ShapeCasts s) (i : s.Idx) : shapeCast s x h i = x i :=
  shapeCast_apply x h _ _ rfl

end Casts

/-! ## Maxima -/

theorem grp_apply {r c : ℕ} (hc : (SG1 c).ShapeCasts (SG2 c)) (x : FVec Ideal (SG r c) .f32) (i : ℕ)
    (h : (SG r c).Slices ![i, 0, 0] (SG1 c)) (hi : i < r) (a : Fin 32) (j : Fin c) :
    grp hc x i h (ix2 a j) = x (ix3 ⟨i, hi⟩ a j) := by
  unfold grp
  rw [shapeCast_1ab_ab_apply]
  exact extractStridedSlice_apply _ _ _ _ _ fun d => match d with
    | ⟨0, _⟩ => by show i = i + 0; omega
    | ⟨1, _⟩ => by show a.val = 0 + a.val; omega
    | ⟨2, _⟩ => by show j.val = 0 + j.val; omega

theorem foldG_le {r c : ℕ} (hc : (SG1 c).ShapeCasts (SG2 c)) (x : FVec Ideal (SG r c) .f32)
    (h : ∀ i < r, (SG r c).Slices ![i, 0, 0] (SG1 c)) (n : ℕ) (hr : 8 * (n + 1) ≤ r) (a : Fin 32) (j : Fin c) (B : EReal) :
    foldG hc x h n hr (ix2 a j) ≤ B ↔ ∀ (i : ℕ) (hi : i < r), i < 8 * (n + 1) → x (ix3 ⟨i, hi⟩ a j) ≤ B := by
  induction n with
  | zero =>
    unfold foldG fold8
    simp only [maximumf_apply, max_le_iff]
    rw [grp_apply hc x 0 _ (by omega), grp_apply hc x 1 _ (by omega), grp_apply hc x 2 _ (by omega), grp_apply hc x 3 _ (by omega),
      grp_apply hc x 4 _ (by omega), grp_apply hc x 5 _ (by omega), grp_apply hc x 6 _ (by omega), grp_apply hc x 7 _ (by omega)]
    refine ⟨fun H i hi hn => ?_, fun H => ⟨⟨⟨⟨⟨⟨⟨?_, ?_⟩, ?_⟩, ?_⟩, ?_⟩, ?_⟩, ?_⟩, ?_⟩⟩
    · obtain ⟨⟨⟨⟨⟨⟨⟨h0, h1⟩, h2⟩, h3⟩, h4⟩, h5⟩, h6⟩, h7⟩ := H
      have : i = 0 ∨ i = 1 ∨ i = 2 ∨ i = 3 ∨ i = 4 ∨ i = 5 ∨ i = 6 ∨ i = 7 := by omega
      rcases this with rfl | rfl | rfl | rfl | rfl | rfl | rfl | rfl <;> assumption
    all_goals exact H _ _ (by omega)
  | succ n ih =>
    unfold foldG ext8
    simp only [maximumf_apply, max_le_iff]
    rw [ih, grp_apply hc x (8 * (n + 1)) _ (by omega), grp_apply hc x (8 * (n + 1) + 1) _ (by omega), grp_apply hc x (8 * (n + 1) + 2) _ (by omega),
      grp_apply hc x (8 * (n + 1) + 3) _ (by omega), grp_apply hc x (8 * (n + 1) + 4) _ (by omega), grp_apply hc x (8 * (n + 1) + 5) _ (by omega),
      grp_apply hc x (8 * (n + 1) + 6) _ (by omega), grp_apply hc x (8 * (n + 1) + 7) _ (by omega)]
    refine ⟨fun H i hi hn => ?_, fun H => ⟨⟨⟨⟨⟨⟨⟨⟨fun i hi hn => ?_, ?_⟩, ?_⟩, ?_⟩, ?_⟩, ?_⟩, ?_⟩, ?_⟩, ?_⟩⟩
    · obtain ⟨⟨⟨⟨⟨⟨⟨⟨hp, h0⟩, h1⟩, h2⟩, h3⟩, h4⟩, h5⟩, h6⟩, h7⟩ := H
      by_cases hlt : i < 8 * (n + 1)
      · exact hp i hi hlt
      have : i = 8 * (n + 1) ∨ i = 8 * (n + 1) + 1 ∨ i = 8 * (n + 1) + 2 ∨ i = 8 * (n + 1) + 3 ∨ i = 8 * (n + 1) + 4 ∨ i = 8 * (n + 1) + 5
        ∨ i = 8 * (n + 1) + 6 ∨ i = 8 * (n + 1) + 7 := by omega
      rcases this with rfl | rfl | rfl | rfl | rfl | rfl | rfl | rfl <;> assumption
    · exact H i hi (by omega)
    all_goals exact H _ _ (by omega)

/-- The maximum of a column. -/
theorem colMax_le {r c n : ℕ} (hc : (SG1 c).ShapeCasts (SG2 c)) (x : FVec Ideal ⟨2, ![32 * r, c]⟩ .f32)
    (hg : (⟨2, ![32 * r, c]⟩ : Shape).ShapeCasts (SG r c)) (h : ∀ i < r, (SG r c).Slices ![i, 0, 0] (SG1 c)) (hn : 8 * (n + 1) = r)
    (hr : (SG2 c).Reduces [0] ⟨1, ![c]⟩) (h1 h2) (hk : (⟨1, ![c]⟩ : Shape).ShapeCasts ⟨2, ![1, c]⟩) (j : Fin c) (B : EReal) :
    shapeCast ⟨2, ![1, c]⟩ (multiReduction .maximumf [0] ⟨1, ![c]⟩ (foldG hc (shapeCast (SG r c) x hg) h n hn.le) 0xFF800000#32 hr h1 h2) hk
      (ix2 (0 : Fin 1) j) ≤ B ↔ ∀ k : Fin (32 * r), x (ix2 k j) ≤ B := by
  rw [shapeCast_a_1a_apply, Ideal.multiReduction_maximumf_single, Finset.fold_max_le]
  have e0 : (FloatOps.ofBits (F := Ideal) .f32 0xFF800000#32 : EReal) = ⊥ := word_bot
  have el : ∀ a : Fin 32, hr.lift (ix1 j) a = ix2 a j := fun a => by
    funext d
    match d with
    | ⟨0, _⟩ => rfl
    | ⟨1, _⟩ => rfl
  rw [e0]
  have key : ∀ a : Fin 32, (foldG hc (shapeCast (SG r c) x hg) h n hn.le (hr.lift (ix1 j) a) ≤ B)
      ↔ ∀ (i : ℕ) (hi : i < r), i < 8 * (n + 1) → shapeCast (SG r c) x hg (ix3 ⟨i, hi⟩ a j) ≤ B := fun a =>
    (congrArg (fun y => (foldG hc (shapeCast (SG r c) x hg) h n hn.le y : EReal) ≤ B) (el a)).to_iff.trans (foldG_le hc _ h n hn.le a j B)
  constructor
  · intro H k
    have h32 : k.val % 32 < 32 := Nat.mod_lt _ (by omega)
    have h3 := H.2 (⟨k.val % 32, h32⟩ : Fin 32) (Finset.mem_univ _)
    have h3 := (key _).1 h3
    have hkr : k.val / 32 < r := by have := k.isLt; omega
    have h4 := h3 (k.val / 32) hkr (by omega)
    rwa [cast_group x hg _ _ _ k (by show k.val = k.val / 32 * 32 + k.val % 32; omega)] at h4
  · refine fun H => ⟨bot_le, fun a _ => ?_⟩
    refine (key a).2 fun i hi _ => ?_
    have ha : a.val < 32 := a.isLt
    exact le_of_eq_of_le (cast_group x hg ⟨i, hi⟩ (⟨a.val, ha⟩ : Fin 32) j ⟨i * 32 + a.val, by omega⟩ rfl) (H _)

/-! ## The payloads -/

theorem scoreV_apply (k : Vec Ideal S1x1x1024x256 .bf16) (q : Vec Ideal S1x1x1x256x512 .bf16) (r : Fin 1024) (c : Fin 512) :
    scoreV k q (ix2 r c) = ∑ d : Fin 256, (k (ix4 0 0 r d) : EReal) * q (ix5 0 0 0 d c) := by
  unfold scoreV
  simp only [matmul]
  rw [show dot_S1024x256_S256x512_S1024x512_1_0_0_1_n_n = DotDims.plain 1024 256 512 from rfl, Ideal.matmul_plain_apply, constant_apply,
    Ideal.ofBits_zero_f32, zero_add]
  exact Finset.sum_congr rfl fun d _ => by rw [cast_11ab, cast_111ab]

theorem scoreOut_apply (k : Vec Ideal S1x1x1024x256 .bf16) (q : Vec Ideal S1x1x1x256x512 .bf16) (r : Fin 1024) (c : Fin 512) :
    scoreOut k q (ix3 0 r c) = ∑ d : Fin 256, (k (ix4 0 0 r d) : EReal) * q (ix5 0 0 0 d c) := by
  unfold scoreOut
  rw [shapeCast_ab_1ab_apply, scoreV_apply]

theorem maxOut_le (k : Vec Ideal S1x1x1024x256 .bf16) (q : Vec Ideal S1x1x1x256x512 .bf16) (c : Fin 512) (B : EReal) :
    maxOut k q (ix3 0 0 c) ≤ B ↔ ∀ r : Fin 1024, scoreV k q (ix2 r c) ≤ B := by
  unfold maxOut
  rw [shapeCast_ab_1ab_apply]
  exact colMax_le (r := 32) (c := 512) (n := 3) _ (scoreV k q) _ _ (by decide) _ _ _ _ c B

theorem scFull_apply {r : ℕ} (h : KF r) (s : Vec Ideal (SS r) .f32) (a : Fin (32 * r)) (c : Fin 256) :
    scFull h s (ix2 a c) = s (ix3 0 a c) := shapeCast_1ab_ab_apply _ _ _ _

theorem scPart_apply {r : ℕ} (h : KF r) (mk : IVec (SS2 r) 1) (s : Vec Ideal (SS r) .f32) (a : Fin (32 * r)) (c : Fin 256) :
    scPart h mk s (ix2 a c) = if mk (ix2 a c) = 1#1 then (s (ix3 0 a c) : EReal) else ⊥ := by
  unfold scPart
  show (if mk (ix2 a c) = 1#1 then shapeCast (SS2 r) s h.castS (ix2 a c) else Ideal.ofBits .f32 0xFF800000#32) = _
  rw [word_bot, shapeCast_1ab_ab_apply]

theorem tileMax_le {r : ℕ} (h : KF r) (hr : 8 * (r / 8 - 1 + 1) = r) (x : FVec Ideal (SS2 r) .f32) (c : Fin 256) (B : EReal) :
    tileMax h x (ix2 0 c) ≤ B ↔ ∀ a : Fin (32 * r), x (ix2 a c) ≤ B :=
  colMax_le (r := r) (c := 256) (n := r / 8 - 1) _ x _ _ hr _ _ _ _ c B

theorem rowV_apply (x : Vec Ideal S1x1x256 .f32) (c : Fin 256) : rowV x (ix2 0 c) = x (ix3 0 0 c) := shapeCast_1ab_ab_apply _ _ _ _

theorem newMax_apply (m : Vec Ideal S1x1x256 .f32) (t : FVec Ideal S1x256 .f32) (c : Fin 256) :
    newMax m t (ix2 0 c) = max (m (ix3 0 0 c) : EReal) (t (ix2 0 c)) := by
  unfold newMax
  rw [maximumf_apply, rowV_apply]

theorem newMaxOut_apply (m : Vec Ideal S1x1x256 .f32) (t : FVec Ideal S1x256 .f32) (c : Fin 256) :
    newMaxOut m t (ix3 0 0 c) = max (m (ix3 0 0 c) : EReal) (t (ix2 0 c)) := by
  unfold newMaxOut
  rw [shapeCast_ab_1ab_apply, newMax_apply]

theorem newAcc_apply {r : ℕ} (h : KF r) (vt : Vec Ideal (SV r) .bf16) (x : FVec Ideal (SS2 r) .f32) (m : Vec Ideal S1x1x256 .f32)
    (t : FVec Ideal S1x256 .f32) (acc : Vec Ideal S1x144x256 .f32) (d : Fin 144) (c : Fin 256) :
    newAcc h vt x m t acc (ix3 0 d c)
      = Ideal.exp2 ((m (ix3 0 0 c) : EReal) - max (m (ix3 0 0 c) : EReal) (t (ix2 0 c))) * (acc (ix3 0 d c) : EReal)
        + ∑ k : Fin (32 * r), (vt (ix3 0 d k) : EReal) * Ideal.exp2 (x (ix2 k c) - max (m (ix3 0 0 c) : EReal) (t (ix2 0 c))) := by
  unfold newAcc
  rw [shapeCast_ab_1ab_apply, addf_apply, mulf_apply, broadcastTo_1b_ab_apply, shapeCast_1ab_ab_apply]
  simp only [matmul]
  rw [show dotV h = DotDims.plain 144 (32 * r) 256 from rfl, Ideal.matmul_plain_apply, constant_apply, Ideal.ofBits_zero_f32, zero_add]
  refine congrArg₂ (· + ·) ?_ (Finset.sum_congr rfl fun k _ => ?_)
  · show Ideal.exp2 (rowV m (ix2 0 c) - newMax m t (ix2 0 c)) * _ = _
    rw [rowV_apply, newMax_apply]
  · show shapeCast (SV2 r) vt h.castV (ix2 d k) * Ideal.exp2 (x (ix2 k c) - broadcastTo (SS2 r) (newMax m t) h.bc (ix2 k c)) = _
    rw [shapeCast_1ab_ab_apply, broadcastTo_1b_ab_apply, newMax_apply]

theorem finOut_apply (acc : Vec Ideal S1x144x256 .f32) (r : Fin 256) (d : Fin 128) :
    finOut acc (ix3 0 r d) = Ideal.div (acc (ix3 0 ⟨d.val, by omega⟩ r)) (acc (ix3 0 ⟨128, by omega⟩ r)) := by
  unfold finOut
  rw [shapeCast_ab_1ab_apply, truncf_apply, transpose_ix2_apply, divf_apply, broadcastTo_1b_ab_apply,
    slice2_axis0_apply 0 _ _ d r ⟨d.val, by omega⟩ (by simp), slice2_axis0_apply 128 _ _ 0 r ⟨128, by omega⟩ rfl, shapeCast_1ab_ab_apply,
    shapeCast_1ab_ab_apply]

theorem vtOut_apply (v : Vec Ideal S1x1x1024x128 .bf16) (d : Fin 128) (k : Fin 1024) : vtOut v (ix3 0 d k) = v (ix4 0 0 k d) := by
  unfold vtOut
  rw [shapeCast_ab_1ab_apply, truncf_apply, transpose_ix2_apply, extf_apply, cast_11ab]

theorem onesOut_apply (i : S1x16x1024.Idx) : onesOut (F := Ideal) i = (1 : EReal) := Ideal.ofBits_one_bf16

theorem m0_apply (i : S2x1x256.Idx) : m0 (F := Ideal) i = (⊥ : EReal) := word_bot

theorem acc0_apply (i : S2x144x256.Idx) : acc0 (F := Ideal) i = (0 : EReal) := Ideal.ofBits_zero_f32

/-! ## The mask -/

/-- A position divided by 64, as a word. -/
def chunkW (v : BitVec 32) : BitVec 32 :=
  if (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi .vector v 64#32) 0#32)) = 1#1 then IntOp.subi (IntOp.divsi .vector v 64#32) 1#32 else IntOp.divsi .vector v 64#32

theorem chunkW_nat : ∀ r : Fin 1024, chunkW (BitVec.ofNat 32 r.val) = BitVec.ofNat 32 (r.val / 64) := by decide +kernel

theorem chunkOf_apply (v : IVec S1024x256 32) (i : S1024x256.Idx) : chunkOf v i = chunkW (v i) := rfl

theorem cmp_nat : ∀ (a b : Fin 16) (i : Fin 4), (IntOp.cmpi .sle (BitVec.ofNat 32 a.val) (IntOp.addi (BitVec.ofNat 32 b.val) (BitVec.ofNat 32 (4 * i.val)))) = 1#1
    ↔ a.val ≤ b.val + 4 * i.val := by decide +kernel

theorem mask_apply (i : Fin 4) (r : Fin 1024) (c : Fin 256) : mask i (ix2 r c) = 1#1 ↔ r.val / 64 ≤ c.val / 64 + 4 * i.val := by
  unfold mask maskAt
  have e1 := chunkW_nat r
  have e2 := chunkW_nat ⟨c.val, by omega⟩
  show IntOp.cmpi .sle (chunkOf (iota .tc S1024x256 32 [0] iota_S1024x256_d0_w32) (ix2 r c))
    (IntOp.addi (chunkOf (iota .tc S1024x256 32 [1] iota_S1024x256_d1_w32) (ix2 r c)) (BitVec.ofNat 32 (4 * i.val))) = 1#1 ↔ _
  rw [chunkOf_apply, chunkOf_apply, iota_single_apply, iota_single_apply]
  show IntOp.cmpi .sle (chunkW (BitVec.ofNat 32 r.val)) (IntOp.addi (chunkW (BitVec.ofNat 32 c.val)) (BitVec.ofNat 32 (4 * i.val))) = 1#1 ↔ _
  rw [e1, e2]
  exact cmp_nat ⟨r.val / 64, by omega⟩ ⟨c.val / 64, by omega⟩ i

theorem maskOf_apply (i : Fin 4) (r : Fin (32 * (8 * (i.val + 1)))) (c : Fin 256) :
    maskOf i (ix2 r c) = 1#1 ↔ r.val / 64 ≤ c.val / 64 + 4 * i.val := by
  match i, r with
  | ⟨0, _⟩, r => exact (congrArg (· = 1#1) (slice2_axis0_apply 0 (mask 0) (kf 0).sliceM r c ⟨r.val, by have := r.isLt; omega⟩ (by simp))).to_iff.trans (mask_apply 0 _ c)
  | ⟨1, _⟩, r => exact (congrArg (· = 1#1) (slice2_axis0_apply 0 (mask 1) (kf 1).sliceM r c ⟨r.val, by have := r.isLt; omega⟩ (by simp))).to_iff.trans (mask_apply 1 _ c)
  | ⟨2, _⟩, r => exact (congrArg (· = 1#1) (slice2_axis0_apply 0 (mask 2) (kf 2).sliceM r c ⟨r.val, by have := r.isLt; omega⟩ (by simp))).to_iff.trans (mask_apply 2 _ c)
  | ⟨3, _⟩, r => exact mask_apply 3 r c

end Cert.KernelIdeal.Att

end
-- ==== Proof.Rects.lean ====
/-
  Reading the rectangles of the attention body's buffers, and what is laid over them, by coordinates.
-/
module

public import proofs.«01_k».proof.Proof.Wp
public import Idealize.ShloMosaic.PureOps.Ideal
public import Idealize.ShloMosaic.Lib.ValueIdx

@[expose] public section

noncomputable section

namespace Cert.KernelIdeal.Att

open Idealize.ShloMosaic Idealize.ShloMosaic.ValueIdx

variable [Facts]
open Facts₀ Facts

/-! ## Reading a rectangle and what is laid over it -/

theorem at_eq {s : Shape} {e : EltTy} (X : Vec Ideal s e) (r : Rect s) (i : r.shape.Idx) (y : s.Idx)
    (h : ∀ a, (y a).val = r.off a + r.stride a * (i a).val) : at_ X r i = X y :=
  congrArg X (funext fun a => Fin.ext (h a).symm)

theorem overlay_in {s : Shape} {α : Type} (r : Rect s) (X : s.Idx → α) (w : r.shape.Idx → α) (i : r.shape.Idx) (y : s.Idx)
    (h : ∀ a, (y a).val = r.off a + r.stride a * (i a).val) : r.overlay X w y = w i := by
  have e : y = r.emb i := funext fun a => Fin.ext (h a)
  rw [e]; exact Rect.overlay_emb r X w i

theorem overlay_out {s : Shape} {α : Type} (r : Rect s) (X : s.Idx → α) (w : r.shape.Idx → α) (y : s.Idx) (a : Fin s.rank)
    (h : ∀ j, j < r.size a → (y a).val ≠ r.off a + r.stride a * j) : r.overlay X w y = X y :=
  Rect.overlay_of_not_mem r X w fun hm => by
    obtain ⟨j, hj, e⟩ := (LoadRect.mem_set _).1 hm a
    exact h j hj e

/-! ## Laid over -/

theorem ovT (j : Fin 8) (d : Fin 128) (c : Fin 1024) (X : S8x144x1024.Idx → EReal) (w : S1x128x1024.Idx → EReal) :
    (rT j).overlay X w (ix3 j (⟨d.val, by omega⟩ : Fin 144) c) = w (ix3 (0 : Fin 1) d c) :=
  overlay_in (rT j) X w (ix3 (0 : Fin 1) d c) (ix3 j (⟨d.val, by omega⟩ : Fin 144) c) fun a => match a with
    | ⟨0, _⟩ => by show j.val = j.val + 1 * 0; omega
    | ⟨1, _⟩ => by show d.val = 0 + 1 * d.val; omega
    | ⟨2, _⟩ => by show c.val = 0 + 1 * c.val; omega

theorem ovT' (j j' : Fin 8) (d : Fin 144) (c : Fin 1024) (h : j'.val ≠ j.val) (X : S8x144x1024.Idx → EReal) (w : S1x128x1024.Idx → EReal) :
    (rT j).overlay X w (ix3 j' d c) = X (ix3 j' d c) :=
  overlay_out (rT j) X w (ix3 j' d c) 0 fun t ht => by
    have ht' : t < 1 := ht
    show j'.val ≠ j.val + 1 * t; omega

theorem ovE (j : Fin 8) (d : Fin 16) (c : Fin 1024) (X : S8x144x1024.Idx → EReal) (w : S1x16x1024.Idx → EReal) :
    (rE j).overlay X w (ix3 j (⟨128 + d.val, by omega⟩ : Fin 144) c) = w (ix3 (0 : Fin 1) d c) :=
  overlay_in (rE j) X w (ix3 (0 : Fin 1) d c) (ix3 j (⟨128 + d.val, by omega⟩ : Fin 144) c) fun a => match a with
    | ⟨0, _⟩ => by show j.val = j.val + 1 * 0; omega
    | ⟨1, _⟩ => by show 128 + d.val = 128 + 1 * d.val; omega
    | ⟨2, _⟩ => by show c.val = 0 + 1 * c.val; omega

theorem ovE' (j j' : Fin 8) (d : Fin 144) (c : Fin 1024) (h : j'.val ≠ j.val) (X : S8x144x1024.Idx → EReal) (w : S1x16x1024.Idx → EReal) :
    (rE j).overlay X w (ix3 j' d c) = X (ix3 j' d c) :=
  overlay_out (rE j) X w (ix3 j' d c) 0 fun t ht => by
    have ht' : t < 1 := ht
    show j'.val ≠ j.val + 1 * t; omega

theorem ovE'' (j : Fin 8) (d : Fin 128) (c : Fin 1024) (X : S8x144x1024.Idx → EReal) (w : S1x16x1024.Idx → EReal) :
    (rE j).overlay X w (ix3 j (⟨d.val, by omega⟩ : Fin 144) c) = X (ix3 j (⟨d.val, by omega⟩ : Fin 144) c) :=
  overlay_out (rE j) X w (ix3 j (⟨d.val, by omega⟩ : Fin 144) c) 1 fun t ht => by
    have ht' : t < 16 := ht
    show d.val ≠ 128 + 1 * t; omega

theorem ovS (b : Fin 3) (r : Fin 1024) (c : Fin 512) (X : S3x1024x512.Idx → EReal) (w : S1x1024x512.Idx → EReal) :
    (rS b).overlay X w (ix3 b r c) = w (ix3 (0 : Fin 1) r c) :=
  overlay_in (rS b) X w (ix3 (0 : Fin 1) r c) (ix3 b r c) fun a => match a with
    | ⟨0, _⟩ => by show b.val = b.val + 1 * 0; omega
    | ⟨1, _⟩ => by show r.val = 0 + 1 * r.val; omega
    | ⟨2, _⟩ => by show c.val = 0 + 1 * c.val; omega

theorem ovS' (b b' : Fin 3) (r : Fin 1024) (c : Fin 512) (h : b'.val ≠ b.val) (X : S3x1024x512.Idx → EReal) (w : S1x1024x512.Idx → EReal) :
    (rS b).overlay X w (ix3 b' r c) = X (ix3 b' r c) :=
  overlay_out (rS b) X w (ix3 b' r c) 0 fun t ht => by
    have ht' : t < 1 := ht
    show b'.val ≠ b.val + 1 * t; omega

theorem ovX (b : Fin 3) (c : Fin 512) (X : S3x1x512.Idx → EReal) (w : S1x1x512.Idx → EReal) :
    (rX b).overlay X w (ix3 b (0 : Fin 1) c) = w (ix3 (0 : Fin 1) (0 : Fin 1) c) :=
  overlay_in (rX b) X w (ix3 (0 : Fin 1) (0 : Fin 1) c) (ix3 b (0 : Fin 1) c) fun a => match a with
    | ⟨0, _⟩ => by show b.val = b.val + 1 * 0; omega
    | ⟨1, _⟩ => rfl
    | ⟨2, _⟩ => by show c.val = 0 + 1 * c.val; omega

theorem ovX' (b b' : Fin 3) (c : Fin 512) (h : b'.val ≠ b.val) (X : S3x1x512.Idx → EReal) (w : S1x1x512.Idx → EReal) :
    (rX b).overlay X w (ix3 b' (0 : Fin 1) c) = X (ix3 b' (0 : Fin 1) c) :=
  overlay_out (rX b) X w (ix3 b' (0 : Fin 1) c) 0 fun t ht => by
    have ht' : t < 1 := ht
    show b'.val ≠ b.val + 1 * t; omega

theorem ovM (u : Fin 2) (c : Fin 256) (X : S2x1x256.Idx → EReal) (w : S1x1x256.Idx → EReal) :
    (rM u).overlay X w (ix3 u (0 : Fin 1) c) = w (ix3 (0 : Fin 1) (0 : Fin 1) c) :=
  overlay_in (rM u) X w (ix3 (0 : Fin 1) (0 : Fin 1) c) (ix3 u (0 : Fin 1) c) fun a => match a with
    | ⟨0, _⟩ => by show u.val = u.val + 1 * 0; omega
    | ⟨1, _⟩ => rfl
    | ⟨2, _⟩ => by show c.val = 0 + 1 * c.val; omega

theorem ovM' (u u' : Fin 2) (c : Fin 256) (h : u'.val ≠ u.val) (X : S2x1x256.Idx → EReal) (w : S1x1x256.Idx → EReal) :
    (rM u).overlay X w (ix3 u' (0 : Fin 1) c) = X (ix3 u' (0 : Fin 1) c) :=
  overlay_out (rM u) X w (ix3 u' (0 : Fin 1) c) 0 fun t ht => by
    have ht' : t < 1 := ht
    show u'.val ≠ u.val + 1 * t; omega

theorem ovMw (u : Fin 2) (c : Fin 256) (X : S2x1x256.Idx → EReal) (w : S2x1x256.Idx → EReal) :
    (rMw).overlay X w (ix3 u (0 : Fin 1) c) = w (ix3 u (0 : Fin 1) c) :=
  overlay_in (rMw) X w (ix3 u (0 : Fin 1) c) (ix3 u (0 : Fin 1) c) fun a => match a with
    | ⟨0, _⟩ => by show u.val = 0 + 1 * u.val; omega
    | ⟨1, _⟩ => rfl
    | ⟨2, _⟩ => by show c.val = 0 + 1 * c.val; omega

theorem ovA (u : Fin 2) (d : Fin 144) (c : Fin 256) (X : S2x144x256.Idx → EReal) (w : S1x144x256.Idx → EReal) :
    (rA u).overlay X w (ix3 u d c) = w (ix3 (0 : Fin 1) d c) :=
  overlay_in (rA u) X w (ix3 (0 : Fin 1) d c) (ix3 u d c) fun a => match a with
    | ⟨0, _⟩ => by show u.val = u.val + 1 * 0; omega
    | ⟨1, _⟩ => by show d.val = 0 + 1 * d.val; omega
    | ⟨2, _⟩ => by show c.val = 0 + 1 * c.val; omega

theorem ovA' (u u' : Fin 2) (d : Fin 144) (c : Fin 256) (h : u'.val ≠ u.val) (X : S2x144x256.Idx → EReal) (w : S1x144x256.Idx → EReal) :
    (rA u).overlay X w (ix3 u' d c) = X (ix3 u' d c) :=
  overlay_out (rA u) X w (ix3 u' d c) 0 fun t ht => by
    have ht' : t < 1 := ht
    show u'.val ≠ u.val + 1 * t; omega

theorem ovAw (u : Fin 2) (d : Fin 144) (c : Fin 256) (X : S2x144x256.Idx → EReal) (w : S2x144x256.Idx → EReal) :
    (rAw).overlay X w (ix3 u d c) = w (ix3 u d c) :=
  overlay_in (rAw) X w (ix3 u d c) (ix3 u d c) fun a => match a with
    | ⟨0, _⟩ => by show u.val = 0 + 1 * u.val; omega
    | ⟨1, _⟩ => by show d.val = 0 + 1 * d.val; omega
    | ⟨2, _⟩ => by show c.val = 0 + 1 * c.val; omega

theorem ovO (n : Fin 32) (r : Fin 256) (d : Fin 128) (X : S1x8192x128.Idx → EReal) (w : S1x256x128.Idx → EReal) :
    (rO n).overlay X w (ix3 (0 : Fin 1) (⟨256 * n.val + r.val, by omega⟩ : Fin 8192) d) = w (ix3 (0 : Fin 1) r d) :=
  overlay_in (rO n) X w (ix3 (0 : Fin 1) r d) (ix3 (0 : Fin 1) (⟨256 * n.val + r.val, by omega⟩ : Fin 8192) d) fun a => match a with
    | ⟨0, _⟩ => rfl
    | ⟨1, _⟩ => by show 256 * n.val + r.val = 256 * n.val + 1 * r.val; omega
    | ⟨2, _⟩ => by show d.val = 0 + 1 * d.val; omega

theorem ovO' (n : Fin 32) (q : Fin 8192) (d : Fin 128) (h : q.val < 256 * n.val) (X : S1x8192x128.Idx → EReal) (w : S1x256x128.Idx → EReal) :
    (rO n).overlay X w (ix3 (0 : Fin 1) q d) = X (ix3 (0 : Fin 1) q d) :=
  overlay_out (rO n) X w (ix3 (0 : Fin 1) q d) 1 fun t ht => by
    have ht' : t < 256 := ht
    show q.val ≠ 256 * n.val + 1 * t; omega

/-! ## Read -/

theorem atK (j : Fin 8) (r : Fin 1024) (d : Fin 256) (X : Vec Ideal S1x1x8192x256 .bf16) : at_ X (rK j) (ix4 (0 : Fin 1) (0 : Fin 1) r d) = X (ix4 (0 : Fin 1) (0 : Fin 1) (⟨1024 * j.val + r.val, by omega⟩ : Fin 8192) d) :=
  at_eq X (rK j) (ix4 (0 : Fin 1) (0 : Fin 1) r d) (ix4 (0 : Fin 1) (0 : Fin 1) (⟨1024 * j.val + r.val, by omega⟩ : Fin 8192) d) fun a => match a with
    | ⟨0, _⟩ => rfl
    | ⟨1, _⟩ => rfl
    | ⟨2, _⟩ => by show 1024 * j.val + r.val = 1024 * j.val + 1 * r.val; omega
    | ⟨3, _⟩ => by show d.val = 0 + 1 * d.val; omega

theorem atQ (i : Fin 16) (d : Fin 256) (c : Fin 512) (X : Vec Ideal S1x1x16x256x512 .bf16) : at_ X (rQ i) (ix5 (0 : Fin 1) (0 : Fin 1) (0 : Fin 1) d c) = X (ix5 (0 : Fin 1) (0 : Fin 1) i d c) :=
  at_eq X (rQ i) (ix5 (0 : Fin 1) (0 : Fin 1) (0 : Fin 1) d c) (ix5 (0 : Fin 1) (0 : Fin 1) i d c) fun a => match a with
    | ⟨0, _⟩ => rfl
    | ⟨1, _⟩ => rfl
    | ⟨2, _⟩ => by show i.val = i.val + 1 * 0; omega
    | ⟨3, _⟩ => by show d.val = 0 + 1 * d.val; omega
    | ⟨4, _⟩ => by show c.val = 0 + 1 * c.val; omega

theorem atV (j : Fin 8) (r : Fin 1024) (d : Fin 128) (X : Vec Ideal S1x1x8192x128 .bf16) : at_ X (rV j) (ix4 (0 : Fin 1) (0 : Fin 1) r d) = X (ix4 (0 : Fin 1) (0 : Fin 1) (⟨1024 * j.val + r.val, by omega⟩ : Fin 8192) d) :=
  at_eq X (rV j) (ix4 (0 : Fin 1) (0 : Fin 1) r d) (ix4 (0 : Fin 1) (0 : Fin 1) (⟨1024 * j.val + r.val, by omega⟩ : Fin 8192) d) fun a => match a with
    | ⟨0, _⟩ => rfl
    | ⟨1, _⟩ => rfl
    | ⟨2, _⟩ => by show 1024 * j.val + r.val = 1024 * j.val + 1 * r.val; omega
    | ⟨3, _⟩ => by show d.val = 0 + 1 * d.val; omega

theorem atVt {r : ℕ} (h : KF r) (j : Fin 8) (d : Fin 144) (k : Fin (32 * r)) (hk : k.val < 1024) (X : Vec Ideal S8x144x1024 .bf16) : at_ X (rVt h j) (ix3 (0 : Fin 1) d k) = X (ix3 j d (⟨k.val, hk⟩ : Fin 1024)) :=
  at_eq X (rVt h j) (ix3 (0 : Fin 1) d k) (ix3 j d (⟨k.val, hk⟩ : Fin 1024)) fun a => match a with
    | ⟨0, _⟩ => by show j.val = j.val + 1 * 0; omega
    | ⟨1, _⟩ => by show d.val = 0 + 1 * d.val; omega
    | ⟨2, _⟩ => by show k.val = 0 + 1 * k.val; omega

theorem atS {r : ℕ} (h : KF r) (b : Fin 3) (u : Fin 2) (c : Fin 256) (k : Fin (32 * r)) (hk : k.val < 1024) (X : Vec Ideal S3x1024x512 .f32) : at_ X (rSs h b u) (ix3 (0 : Fin 1) k c) = X (ix3 b (⟨k.val, hk⟩ : Fin 1024) (⟨256 * u.val + c.val, by omega⟩ : Fin 512)) :=
  at_eq X (rSs h b u) (ix3 (0 : Fin 1) k c) (ix3 b (⟨k.val, hk⟩ : Fin 1024) (⟨256 * u.val + c.val, by omega⟩ : Fin 512)) fun a => match a with
    | ⟨0, _⟩ => by show b.val = b.val + 1 * 0; omega
    | ⟨1, _⟩ => by show k.val = 0 + 1 * k.val; omega
    | ⟨2, _⟩ => by show 256 * u.val + c.val = 256 * u.val + 1 * c.val; omega

theorem atX (b : Fin 3) (u : Fin 2) (c : Fin 256) (X : Vec Ideal S3x1x512 .f32) : at_ X (rXs b u) (ix3 (0 : Fin 1) (0 : Fin 1) c) = X (ix3 b (0 : Fin 1) (⟨256 * u.val + c.val, by omega⟩ : Fin 512)) :=
  at_eq X (rXs b u) (ix3 (0 : Fin 1) (0 : Fin 1) c) (ix3 b (0 : Fin 1) (⟨256 * u.val + c.val, by omega⟩ : Fin 512)) fun a => match a with
    | ⟨0, _⟩ => by show b.val = b.val + 1 * 0; omega
    | ⟨1, _⟩ => rfl
    | ⟨2, _⟩ => by show 256 * u.val + c.val = 256 * u.val + 1 * c.val; omega

theorem atM (u : Fin 2) (c : Fin 256) (X : Vec Ideal S2x1x256 .f32) : at_ X (rM u) (ix3 (0 : Fin 1) (0 : Fin 1) c) = X (ix3 u (0 : Fin 1) c) :=
  at_eq X (rM u) (ix3 (0 : Fin 1) (0 : Fin 1) c) (ix3 u (0 : Fin 1) c) fun a => match a with
    | ⟨0, _⟩ => by show u.val = u.val + 1 * 0; omega
    | ⟨1, _⟩ => rfl
    | ⟨2, _⟩ => by show c.val = 0 + 1 * c.val; omega

theorem atA (u : Fin 2) (d : Fin 144) (c : Fin 256) (X : Vec Ideal S2x144x256 .f32) : at_ X (rA u) (ix3 (0 : Fin 1) d c) = X (ix3 u d c) :=
  at_eq X (rA u) (ix3 (0 : Fin 1) d c) (ix3 u d c) fun a => match a with
    | ⟨0, _⟩ => by show u.val = u.val + 1 * 0; omega
    | ⟨1, _⟩ => by show d.val = 0 + 1 * d.val; omega
    | ⟨2, _⟩ => by show c.val = 0 + 1 * c.val; omega

end Cert.KernelIdeal.Att

end
-- ==== Proof.Invariant.lean ====
/-
  What the buffers of the attention body hold after each of its steps, on the extended reals, and so
  what the body leaves as its result.
-/
module

public import proofs.«01_k».proof.Proof.Wp
public import proofs.«01_k».proof.Proof.Softmax
public import proofs.«01_k».proof.Proof.Readings
public import proofs.«01_k».proof.Proof.Rects

@[expose] public section

noncomputable section

namespace Cert.KernelIdeal.Att

open Idealize.ShloMosaic Idealize.ShloMosaic.ValueIdx Cert.Att

variable [Facts]
open Facts₀ Facts

/-! ## The mathematics -/

/-- The score of key `j` at query `q`. -/
def sc (I : Ins Ideal) (q j : ℕ) : EReal :=
  ∑ d : Fin 256, (I.k (ix4 0 0 (Fin.ofNat 8192 j) d) : EReal) * I.q (ix5 0 0 (Fin.ofNat 16 (q / 512)) d (Fin.ofNat 512 (q % 512)))

/-- The score where the key's chunk is not after the query's, minus infinity elsewhere. -/
def ms (I : Ins Ideal) (q j : ℕ) : EReal := if j / 64 ≤ q / 64 then sc I q j else ⊥

/-- Column `d` of the values, ones beyond column 127. -/
def xv (I : Ins Ideal) (d j : ℕ) : EReal := if h : d < 128 then I.v (ix4 0 0 (Fin.ofNat 8192 j) ⟨d, h⟩) else 1

/-- The result at query `q` and column `d`. -/
def spec (I : Ins Ideal) (q d : ℕ) : EReal := Ideal.div (ac (ms I q) (xv I d) 8192) (ac (ms I q) (xv I 128) 8192)

/-! ## What the buffers hold -/

/-- The first `n` tiles of values are transposed. -/
def VTn (I : Ins Ideal) (σ : St Ideal) (n : ℕ) : Prop :=
  ∀ (j : Fin 8) (d : Fin 144) (c : Fin 1024), j.val < n → σ.vt (ix3 j d c) = xv I d.val (1024 * j.val + c.val)

/-- Score buffer `b` holds the scores of query tile `i` and key tile `j`. -/
def SB (I : Ins Ideal) (σ : St Ideal) (b : Fin 3) (i j : ℕ) : Prop :=
  ∀ c : Fin 512, (∀ r : Fin 1024, σ.s (ix3 b r c) = sc I (512 * i + c.val) (1024 * j + r.val))
    ∧ ∀ B : EReal, (σ.mx (ix3 b 0 c) : EReal) ≤ B ↔ ∀ r : Fin 1024, sc I (512 * i + c.val) (1024 * j + r.val) ≤ B

/-- Half `u` of query tile `i` has absorbed the first `n` keys. -/
def RUN (I : Ins Ideal) (σ : St Ideal) (u : Fin 2) (i n : ℕ) : Prop :=
  ∀ c : Fin 256, σ.m (ix3 u 0 c) = mx (ms I (512 * i + 256 * u.val + c.val)) n
    ∧ ∀ d : Fin 144, σ.acc (ix3 u d c) = ac (ms I (512 * i + 256 * u.val + c.val)) (xv I d.val) n

/-- The first `n` queries of the result are written. -/
def OUT (I : Ins Ideal) (σ : St Ideal) (n : ℕ) : Prop :=
  ∀ (q : Fin 8192) (d : Fin 128), q.val < n → σ.o (ix3 0 q d) = spec I q.val d.val

/-! ## The buffers a step leaves alone -/

theorem VTn.of {I : Ins Ideal} {σ τ : St Ideal} {n : ℕ} (h : VTn I σ n) (e : τ.vt = σ.vt) : VTn I τ n := by
  intro j d c hj; rw [e]; exact h j d c hj

theorem SB.of {I : Ins Ideal} {σ τ : St Ideal} {b : Fin 3} {i j : ℕ} (h : SB I σ b i j) (e : τ.s = σ.s) (e' : τ.mx = σ.mx) : SB I τ b i j := by
  intro c; rw [e, e']; exact h c

theorem RUN.of {I : Ins Ideal} {σ τ : St Ideal} {u : Fin 2} {i n : ℕ} (h : RUN I σ u i n) (e : τ.m = σ.m) (e' : τ.acc = σ.acc) : RUN I τ u i n := by
  intro c; rw [e, e']; exact h c

theorem OUT.of {I : Ins Ideal} {σ τ : St Ideal} {n : ℕ} (h : OUT I σ n) (e : τ.o = σ.o) : OUT I τ n := by
  intro q d hq; rw [e]; exact h q d hq

section Keeps

variable (I : Ins Ideal) (σ : St Ideal) (i : Fin 16) (j : Fin 8) (b : Fin 3) (u : Fin 2) (p : Fin 4) (n : Fin 32)

theorem vt_vt : (stepS I (.vt j) σ).vt = (rE j).overlay ((rT j).overlay σ.vt (vtOut (at_ I.v (rV j)))) (onesOut (F := Ideal)) := by dsimp only [stepS]
theorem scores_s : (stepS I (.scores i j b) σ).s = (rS b).overlay σ.s (scoreOut (at_ I.k (rK j)) (at_ I.q (rQ i))) := by dsimp only [stepS]
theorem scores_mx : (stepS I (.scores i j b) σ).mx = (rX b).overlay σ.mx (maxOut (at_ I.k (rK j)) (at_ I.q (rQ i))) := by dsimp only [stepS]
theorem scores_vt : (stepS I (.scores i j b) σ).vt = σ.vt := by dsimp only [stepS]
theorem scores_m : (stepS I (.scores i j b) σ).m = σ.m := by dsimp only [stepS]
theorem scores_acc : (stepS I (.scores i j b) σ).acc = σ.acc := by dsimp only [stepS]
theorem scores_o : (stepS I (.scores i j b) σ).o = σ.o := by dsimp only [stepS]
theorem start_m : (stepS I .start σ).m = rMw.overlay σ.m (m0 (F := Ideal)) := by dsimp only [stepS]
theorem start_acc : (stepS I .start σ).acc = rAw.overlay σ.acc (acc0 (F := Ideal)) := by dsimp only [stepS]
theorem start_vt : (stepS I .start σ).vt = σ.vt := by dsimp only [stepS]
theorem start_s : (stepS I .start σ).s = σ.s := by dsimp only [stepS]
theorem start_mx : (stepS I .start σ).mx = σ.mx := by dsimp only [stepS]
theorem start_o : (stepS I .start σ).o = σ.o := by dsimp only [stepS]
theorem fin_o : (stepS I (.fin n) σ).o = (rO n).overlay σ.o (finOut (at_ σ.acc (rA (par n)))) := by dsimp only [stepS]
theorem fin_vt : (stepS I (.fin n) σ).vt = σ.vt := by dsimp only [stepS]
theorem fin_s : (stepS I (.fin n) σ).s = σ.s := by dsimp only [stepS]
theorem fin_mx : (stepS I (.fin n) σ).mx = σ.mx := by dsimp only [stepS]
theorem fin_m : (stepS I (.fin n) σ).m = σ.m := by dsimp only [stepS]
theorem fin_acc : (stepS I (.fin n) σ).acc = σ.acc := by dsimp only [stepS]
theorem full_vt : (stepS I (.full j b u) σ).vt = σ.vt := by dsimp only [stepS, absorbS]
theorem full_s : (stepS I (.full j b u) σ).s = σ.s := by dsimp only [stepS, absorbS]
theorem full_mx : (stepS I (.full j b u) σ).mx = σ.mx := by dsimp only [stepS, absorbS]
theorem full_o : (stepS I (.full j b u) σ).o = σ.o := by dsimp only [stepS, absorbS]
theorem part_vt : (stepS I (.part j b p) σ).vt = σ.vt := by dsimp only [stepS, absorbS]
theorem part_s : (stepS I (.part j b p) σ).s = σ.s := by dsimp only [stepS, absorbS]
theorem part_mx : (stepS I (.part j b p) σ).mx = σ.mx := by dsimp only [stepS, absorbS]
theorem part_o : (stepS I (.part j b p) σ).o = σ.o := by dsimp only [stepS, absorbS]

theorem full_eq : stepS I (.full j b u) σ
    = absorbS u (kf 3) (at_ σ.vt (rVt (kf 3) j)) (scFull (kf 3) (at_ σ.s (rSs (kf 3) b u))) (rowV (at_ σ.mx (rXs b u))) σ := by dsimp only [stepS]
theorem part_eq : stepS I (.part j b p) σ
    = absorbS (par p) (kf p) (at_ σ.vt (rVt (kf p) j)) (scPart (kf p) (maskOf p) (at_ σ.s (rSs (kf p) b (par p))))
      (tileMax (kf p) (scPart (kf p) (maskOf p) (at_ σ.s (rSs (kf p) b (par p))))) σ := by dsimp only [stepS]

variable {r : ℕ} (h : KF r) (vt : Vec Ideal (SV r) .bf16) (x : FVec Ideal (SS2 r) .f32) (t : FVec Ideal S1x256 .f32)

theorem absorbS_m : (absorbS u h vt x t σ).m = (rM u).overlay σ.m (newMaxOut (at_ σ.m (rM u)) t) := by dsimp only [absorbS]
theorem absorbS_acc : (absorbS u h vt x t σ).acc = (rA u).overlay σ.acc (newAcc h vt x (at_ σ.m (rM u)) t (at_ σ.acc (rA u))) := by
  dsimp only [absorbS]

end Keeps

/-! ## The steps -/

theorem step_vt (I : Ins Ideal) (σ : St Ideal) (j : Fin 8) (h : VTn I σ j.val) : VTn I (stepS I (.vt j) σ) (j.val + 1) := by
  intro j' d c hj
  rw [vt_vt]
  by_cases e : j' = j
  · subst e
    by_cases hd : d.val < 128
    · unfold xv
      rw [dif_pos hd]
      refine (ovE'' j' ⟨d.val, hd⟩ c _ _).trans ((ovT j' ⟨d.val, hd⟩ c _ _).trans ((vtOut_apply _ _ _).trans ((atV j' c ⟨d.val, hd⟩ _).trans ?_)))
      exact congrArg (fun y => I.v (ix4 (0 : Fin 1) (0 : Fin 1) y (⟨d.val, hd⟩ : Fin 128)))
        (Fin.ext (show 1024 * j'.val + c.val = (1024 * j'.val + c.val) % 8192 by omega))
    · unfold xv
      rw [dif_neg hd]
      have ed : d = (⟨128 + (d.val - 128), by omega⟩ : Fin 144) := Fin.ext (show d.val = 128 + (d.val - 128) by omega)
      refine (congrArg (fun y => (rE j').overlay _ _ (ix3 j' y c)) ed).trans ((ovE j' ⟨d.val - 128, by omega⟩ c _ _).trans (onesOut_apply _))
  · have hne : j'.val ≠ j.val := fun h => e (Fin.ext h)
    exact (ovE' j j' d c hne _ _).trans ((ovT' j j' d c hne _ _).trans (h j' d c (by omega)))

/-- A score at a tile's own coordinates. -/
theorem sc_tile (I : Ins Ideal) (i : Fin 16) (j : Fin 8) (r : Fin 1024) (c : Fin 512) :
    (∑ d : Fin 256, (at_ I.k (rK j) (ix4 (0 : Fin 1) (0 : Fin 1) r d) : EReal) * at_ I.q (rQ i) (ix5 (0 : Fin 1) (0 : Fin 1) (0 : Fin 1) d c))
      = sc I (512 * i.val + c.val) (1024 * j.val + r.val) := by
  unfold sc
  have e1 : (⟨1024 * j.val + r.val, by omega⟩ : Fin 8192) = Fin.ofNat 8192 (1024 * j.val + r.val) :=
    Fin.ext (show 1024 * j.val + r.val = (1024 * j.val + r.val) % 8192 by omega)
  have e2 : i = Fin.ofNat 16 ((512 * i.val + c.val) / 512) := Fin.ext (show i.val = ((512 * i.val + c.val) / 512) % 16 by omega)
  have e3 : c = Fin.ofNat 512 ((512 * i.val + c.val) % 512) := Fin.ext (show c.val = ((512 * i.val + c.val) % 512) % 512 by omega)
  rw [← e1, ← e2, ← e3]
  exact Finset.sum_congr rfl fun d _ => congrArg₂ (fun a b : EReal => a * b) (atK j r d _) (atQ i d c _)

theorem step_scores (I : Ins Ideal) (σ : St Ideal) (i : Fin 16) (j : Fin 8) (b : Fin 3) : SB I (stepS I (.scores i j b) σ) b i.val j.val := by
  intro c
  rw [scores_s, scores_mx]
  refine ⟨fun r => (ovS b r c _ _).trans ((scoreOut_apply _ _ _ _).trans (sc_tile I i j r c)), fun B => ?_⟩
  refine (congrArg (fun y : EReal => y ≤ B) (ovX b c _ _)).to_iff.trans ((maxOut_le _ _ c B).trans (forall_congr' fun r => ?_))
  exact (congrArg (fun y : EReal => y ≤ B) ((scoreV_apply _ _ r c).trans (sc_tile I i j r c))).to_iff

theorem scores_other (I : Ins Ideal) (σ : St Ideal) (i : Fin 16) (j : Fin 8) (b b' : Fin 3) (i' j' : ℕ) (hb : b'.val ≠ b.val)
    (h : SB I σ b' i' j') : SB I (stepS I (.scores i j b) σ) b' i' j' := by
  intro c
  rw [scores_s, scores_mx]
  exact ⟨fun r => (ovS' b b' r c hb _ _).trans ((h c).1 r), fun B => (congrArg (fun y : EReal => y ≤ B) (ovX' b b' c hb _ _)).to_iff.trans ((h c).2 B)⟩

theorem step_start (I : Ins Ideal) (σ : St Ideal) (u : Fin 2) (i : ℕ) : RUN I (stepS I .start σ) u i 0 := by
  intro c
  rw [start_m, start_acc]
  exact ⟨(ovMw u c _ _).trans (m0_apply _), fun d => (ovAw u d c _ _).trans (acc0_apply _)⟩

theorem absorb_m (u : Fin 2) {r : ℕ} (h : KF r) (vt : Vec Ideal (SV r) .bf16) (x : FVec Ideal (SS2 r) .f32) (t : FVec Ideal S1x256 .f32)
    (σ : St Ideal) (c : Fin 256) : (absorbS u h vt x t σ).m (ix3 u 0 c) = max (σ.m (ix3 u 0 c) : EReal) (t (ix2 0 c)) := by
  rw [absorbS_m]
  exact (ovM u c _ _).trans ((newMaxOut_apply _ _ _).trans (congrArg (fun y : EReal => max y (t (ix2 0 c))) (atM u c _)))

theorem absorb_acc (u : Fin 2) {r : ℕ} (h : KF r) (vt : Vec Ideal (SV r) .bf16) (x : FVec Ideal (SS2 r) .f32) (t : FVec Ideal S1x256 .f32)
    (σ : St Ideal) (d : Fin 144) (c : Fin 256) :
    (absorbS u h vt x t σ).acc (ix3 u d c)
      = Ideal.exp2 ((σ.m (ix3 u 0 c) : EReal) - max (σ.m (ix3 u 0 c) : EReal) (t (ix2 0 c))) * (σ.acc (ix3 u d c) : EReal)
        + ∑ k : Fin (32 * r), (vt (ix3 0 d k) : EReal) * Ideal.exp2 (x (ix2 k c) - max (σ.m (ix3 u 0 c) : EReal) (t (ix2 0 c))) := by
  rw [absorbS_acc]
  refine (ovA u d c _ _).trans ((newAcc_apply h vt x _ t _ d c).trans ?_)
  rw [← atM u c σ.m, ← atA u d c σ.acc]

/-- An absorption takes the next keys in. -/
theorem absorb_run (I : Ins Ideal) (u : Fin 2) {r : ℕ} (h : KF r) (vt : Vec Ideal (SV r) .bf16) (x : FVec Ideal (SS2 r) .f32)
    (t : FVec Ideal S1x256 .f32) (σ : St Ideal) (i n : ℕ) (hR : RUN I σ u i n)
    (hv : ∀ (d : Fin 144) (k : Fin (32 * r)), vt (ix3 0 d k) = xv I d.val (n + k.val))
    (hx : ∀ (c : Fin 256) (k : Fin (32 * r)), x (ix2 k c) = ms I (512 * i + 256 * u.val + c.val) (n + k.val))
    (ht : ∀ (c : Fin 256) (B : EReal), (t (ix2 0 c) : EReal) ≤ B ↔ ∀ k : Fin (32 * r), ms I (512 * i + 256 * u.val + c.val) (n + k.val) ≤ B) :
    RUN I (absorbS u h vt x t σ) u i (n + 32 * r) := by
  intro c
  have em := absorb_m u h vt x t σ c
  have ea := fun d => absorb_acc u h vt x t σ d c
  generalize absorbS u h vt x t σ = τ at em ea
  rw [em]
  have hx := hx c
  have ht := ht c
  have hm := (hR c).1
  have ha := (hR c).2
  generalize 512 * i + 256 * u.val + c.val = q at hm ha hx ht ⊢
  have eM : max (mx (ms I q) n) (t (ix2 0 c)) = mx (ms I q) (n + 32 * r) := by
    rw [mx_add]
    refine congrArg _ (eq_of_forall_ge_iff fun B => (ht B).trans ?_)
    rw [Finset.sup_le_iff]
    exact ⟨fun H k hk => H ⟨k, Finset.mem_range.1 hk⟩, fun H k => H k.val (Finset.mem_range.2 k.isLt)⟩
  refine ⟨by rw [hm, eM], fun d => ?_⟩
  rw [ea, hm, ha, eM, ac_add, Finset.sum_range]
  refine congrArg _ (Finset.sum_congr rfl fun k _ => ?_)
  rw [hv, hx]

theorem absorb_other (I : Ins Ideal) (u u' : Fin 2) {r : ℕ} (h : KF r) (vt : Vec Ideal (SV r) .bf16) (x : FVec Ideal (SS2 r) .f32)
    (t : FVec Ideal S1x256 .f32) (σ : St Ideal) (i n : ℕ) (hu : u'.val ≠ u.val) (hR : RUN I σ u' i n) :
    RUN I (absorbS u h vt x t σ) u' i n := by
  intro c
  rw [absorbS_m, absorbS_acc]
  exact ⟨(ovM' u u' c hu _ _).trans (hR c).1, fun d => (ovA' u u' d c hu _ _).trans ((hR c).2 d)⟩

theorem full_other (I : Ins Ideal) (σ : St Ideal) (j : Fin 8) (b : Fin 3) (u u' : Fin 2) (i n : ℕ) (hu : u'.val ≠ u.val) (hR : RUN I σ u' i n) :
    RUN I (stepS I (.full j b u) σ) u' i n := by
  rw [full_eq]; exact absorb_other I u u' _ _ _ _ σ i n hu hR

theorem part_other (I : Ins Ideal) (σ : St Ideal) (j : Fin 8) (b : Fin 3) (p : Fin 4) (u' : Fin 2) (i n : ℕ) (hu : u'.val ≠ (par p).val)
    (hR : RUN I σ u' i n) : RUN I (stepS I (.part j b p) σ) u' i n := by
  rw [part_eq]; exact absorb_other I (par p) u' _ _ _ _ σ i n hu hR

theorem at_vt {r : ℕ} (h : KF r) (I : Ins Ideal) (σ : St Ideal) (j : Fin 8) (hV : VTn I σ 8) (d : Fin 144) (k : Fin (32 * r)) :
    at_ σ.vt (rVt h j) (ix3 (0 : Fin 1) d k) = xv I d.val (1024 * j.val + k.val) := by
  have hk : k.val < 1024 := by have := k.isLt; have := h.le; omega
  exact (atVt h j d k hk _).trans (hV j d ⟨k.val, hk⟩ j.isLt)

theorem at_s {r : ℕ} (h : KF r) (I : Ins Ideal) (σ : St Ideal) (b : Fin 3) (u : Fin 2) (i j : ℕ) (hS : SB I σ b i j) (c : Fin 256) (k : Fin (32 * r)) :
    at_ σ.s (rSs h b u) (ix3 (0 : Fin 1) k c) = sc I (512 * i + 256 * u.val + c.val) (1024 * j + k.val) := by
  have hk : k.val < 1024 := by have := k.isLt; have := h.le; omega
  have hc : 256 * u.val + c.val < 512 := by omega
  refine (atS h b u c k hk _).trans (((hS ⟨256 * u.val + c.val, hc⟩).1 ⟨k.val, hk⟩).trans ?_)
  show sc I (512 * i + (256 * u.val + c.val)) _ = _
  rw [Nat.add_assoc]

/-- A key tile before the last is allowed whole. -/
theorem step_full (I : Ins Ideal) (σ : St Ideal) (j : Fin 8) (b : Fin 3) (u : Fin 2) (i : ℕ) (hV : VTn I σ 8) (hS : SB I σ b i j.val)
    (hR : RUN I σ u i (1024 * j.val)) (hi : 2 * (j.val + 1) ≤ i) : RUN I (stepS I (.full j b u) σ) u i (1024 * (j.val + 1)) := by
  have hms : ∀ (c : Fin 256) (k : ℕ), k < 1024 → ms I (512 * i + 256 * u.val + c.val) (1024 * j.val + k)
      = sc I (512 * i + 256 * u.val + c.val) (1024 * j.val + k) := fun c k hk => by
    unfold ms; rw [if_pos (by omega)]
  rw [full_eq, show 1024 * (j.val + 1) = 1024 * j.val + 32 * (8 * ((3 : Fin 4).val + 1)) from rfl]
  refine absorb_run I u (kf 3) _ _ _ σ i (1024 * j.val) hR (at_vt (kf 3) I σ j hV) (fun c k => ?_) fun c B => ?_
  · exact (scFull_apply (kf 3) (at_ σ.s (rSs (kf 3) b u)) k c).trans ((at_s (kf 3) I σ b u i j.val hS c k).trans (hms c k.val k.isLt).symm)
  · have hc : 256 * u.val + c.val < 512 := by omega
    refine (congrArg (fun y : EReal => y ≤ B) ((rowV_apply (at_ σ.mx (rXs b u)) c).trans (atX b u c σ.mx))).to_iff.trans
      (((hS ⟨256 * u.val + c.val, hc⟩).2 B).trans (forall_congr' fun k => ?_))
    have e : sc I (512 * i + (256 * u.val + c.val)) (1024 * j.val + k.val) = ms I (512 * i + 256 * u.val + c.val) (1024 * j.val + k.val) := by
      rw [hms c k.val k.isLt, Nat.add_assoc]
    exact (congrArg (fun y : EReal => y ≤ B) e).to_iff

/-- The last key tile, under its mask. -/
theorem step_part (I : Ins Ideal) (σ : St Ideal) (j : Fin 8) (b : Fin 3) (p : Fin 4) (i : ℕ) (hV : VTn I σ 8) (hS : SB I σ b i j.val)
    (hR : RUN I σ (par p) i (1024 * j.val)) (hj : j.val = i / 2) (hp : p.val / 2 = i % 2) :
    RUN I (stepS I (.part j b p) σ) (par p) i (1024 * j.val + 32 * (8 * (p.val + 1))) := by
  have hu : (par p).val = p.val % 2 := rfl
  have hx : ∀ (c : Fin 256) (k : Fin (32 * (8 * (p.val + 1)))), scPart (kf p) (maskOf p) (at_ σ.s (rSs (kf p) b (par p))) (ix2 k c)
      = ms I (512 * i + 256 * (par p).val + c.val) (1024 * j.val + k.val) := fun c k => by
    refine (scPart_apply (kf p) (maskOf p) (at_ σ.s (rSs (kf p) b (par p))) k c).trans ?_
    unfold ms
    have e := at_s (kf p) I σ b (par p) i j.val hS c k
    have hiff : maskOf p (ix2 k c) = 1#1 ↔ (1024 * j.val + k.val) / 64 ≤ (512 * i + 256 * (par p).val + c.val) / 64 := by
      rw [maskOf_apply, hu, hj]
      have := k.isLt
      omega
    by_cases hm : maskOf p (ix2 k c) = 1#1
    · rw [if_pos hm, if_pos (hiff.1 hm)]; exact e
    · rw [if_neg hm, if_neg (fun h => hm (hiff.2 h))]
  rw [part_eq]
  refine absorb_run I (par p) (kf p) _ _ _ σ i (1024 * j.val) hR (at_vt (kf p) I σ j hV) hx fun c B => ?_
  refine (tileMax_le (kf p) (by omega) _ c B).trans (forall_congr' fun k => ?_)
  exact (congrArg (fun y : EReal => y ≤ B) (hx c k)).to_iff

/-- Once all its allowed keys are in, half a query tile is written. -/
theorem step_fin (I : Ins Ideal) (σ : St Ideal) (n : Fin 32) (hR : RUN I σ (par n) (n.val / 2) (256 * (n.val + 1))) (hO : OUT I σ (256 * n.val)) :
    OUT I (stepS I (.fin n) σ) (256 * (n.val + 1)) := by
  intro q d hq
  rw [fin_o]
  by_cases h : q.val < 256 * n.val
  · exact (ovO' n q d h _ _).trans (hO q d h)
  · have hr : q.val - 256 * n.val < 256 := by omega
    have hu : (par n).val = n.val % 2 := rfl
    have eq : 512 * (n.val / 2) + 256 * (par n).val + (q.val - 256 * n.val) = q.val := by omega
    have key : ∀ d' : Fin 144, at_ σ.acc (rA (par n)) (ix3 (0 : Fin 1) d' (⟨q.val - 256 * n.val, hr⟩ : Fin 256))
        = ac (ms I q.val) (xv I d'.val) 8192 := fun d' => by
      have e1 := (hR ⟨q.val - 256 * n.val, hr⟩).2 d'
      have e2 : ac (ms I q.val) (xv I d'.val) 8192 = ac (ms I q.val) (xv I d'.val) (256 * (n.val + 1)) := ac_pad _ (by omega) fun j hj => by
        unfold ms
        rw [if_neg (by omega)]
      rw [e2]
      refine (atA (par n) d' ⟨q.val - 256 * n.val, hr⟩ _).trans (e1.trans ?_)
      show ac (ms I (512 * (n.val / 2) + 256 * (par n).val + (q.val - 256 * n.val))) _ _ = _
      rw [eq]
    have eq' : q = (⟨256 * n.val + (q.val - 256 * n.val), by omega⟩ : Fin 8192) := Fin.ext (show q.val = 256 * n.val + (q.val - 256 * n.val) by omega)
    refine (congrArg (fun y => (rO n).overlay _ _ (ix3 (0 : Fin 1) y d)) eq').trans ((ovO n ⟨q.val - 256 * n.val, hr⟩ d _ _).trans ((finOut_apply _ _ _).trans ?_))
    unfold spec
    exact congrArg₂ Ideal.div (key _) (key _)

/-! ## The walk -/

theorem runS_append (I : Ins Ideal) (l₁ l₂ : List Step) (σ : St Ideal) : runS I (l₁ ++ l₂) σ = runS I l₂ (runS I l₁ σ) := List.foldl_append

theorem runS_cons (I : Ins Ideal) (st : Step) (l : List Step) (σ : St Ideal) : runS I (st :: l) σ = runS I l (stepS I st σ) := rfl

theorem runS_nil (I : Ins Ideal) (σ : St Ideal) : runS I [] σ = σ := rfl

/-- The buffers before key tile `j` of query tile `i`. -/
structure Mid (I : Ins Ideal) (σ : St Ideal) (i j : ℕ) : Prop where
  v : VTn I σ 8
  s : SB I σ (Fin.ofNat 3 (bufOf i j)) i j
  r0 : RUN I σ 0 i (1024 * j)
  r1 : RUN I σ 1 i (1024 * j)
  o : OUT I σ (512 * i)

/-- The buffers before query tile `i`. -/
structure Top (I : Ins Ideal) (σ : St Ideal) (i : ℕ) : Prop where
  v : VTn I σ 8
  s : i < 16 → SB I σ (Fin.ofNat 3 (home i)) i 0
  o : OUT I σ (512 * i)

theorem ofNat_val {n k : ℕ} [NeZero n] (h : k < n) : (Fin.ofNat n k).val = k := Nat.mod_eq_of_lt h

theorem walk_mid (I : Ins Ideal) (σ : St Ideal) (i j : ℕ) (hi : i < 16) (hj : j < i / 2) (h : Mid I σ i j) :
    Mid I (runS I (midSteps i j) σ) i (j + 1) := by
  have ei := ofNat_val (n := 16) hi
  have ej := ofNat_val (n := 8) (show j < 8 by omega)
  have ej1 := ofNat_val (n := 8) (show j + 1 < 8 by omega)
  have hb : (Fin.ofNat 3 (bufOf i j)).val ≠ (Fin.ofNat 3 ((j + 1) % 2)).val := by
    rw [ofNat_val (show (j + 1) % 2 < 3 by omega)]
    unfold bufOf home
    rw [if_neg (show i ≠ 0 by omega), if_neg (show i ≠ 1 by omega)]
    split
    · rw [ofNat_val (by omega)]; omega
    · rw [ofNat_val (by omega)]; omega
  have hbe : bufOf i (j + 1) = (j + 1) % 2 := by unfold bufOf; rw [if_neg (by omega)]
  have s1 := step_scores I σ (Fin.ofNat 16 i) (Fin.ofNat 8 (j + 1)) (Fin.ofNat 3 ((j + 1) % 2))
  have s0 := scores_other I σ (Fin.ofNat 16 i) (Fin.ofNat 8 (j + 1)) (Fin.ofNat 3 ((j + 1) % 2)) _ _ _ hb h.s
  rw [ei, ej1] at s1
  unfold midSteps
  rw [runS_cons, runS_cons, runS_cons, runS_nil]
  generalize hσ : stepS I (.scores (Fin.ofNat 16 i) (Fin.ofNat 8 (j + 1)) (Fin.ofNat 3 ((j + 1) % 2))) σ = σ₁ at s1 s0
  have v1 : VTn I σ₁ 8 := h.v.of (by rw [← hσ]; exact scores_vt ..)
  have r0 : RUN I σ₁ 0 i (1024 * (Fin.ofNat 8 j).val) := by rw [ej]; exact h.r0.of (by rw [← hσ]; exact scores_m ..) (by rw [← hσ]; exact scores_acc ..)
  have r1 : RUN I σ₁ 1 i (1024 * (Fin.ofNat 8 j).val) := by rw [ej]; exact h.r1.of (by rw [← hσ]; exact scores_m ..) (by rw [← hσ]; exact scores_acc ..)
  have o1 : OUT I σ₁ (512 * i) := h.o.of (by rw [← hσ]; exact scores_o ..)
  have s0' : SB I σ₁ (Fin.ofNat 3 (bufOf i j)) i (Fin.ofNat 8 j).val := by rw [ej]; exact s0
  have a0 := step_full I σ₁ (Fin.ofNat 8 j) (Fin.ofNat 3 (bufOf i j)) 0 i v1 s0' r0 (by omega)
  have a1 := full_other I σ₁ (Fin.ofNat 8 j) (Fin.ofNat 3 (bufOf i j)) 0 1 i _ (by decide) r1
  have v2 := v1.of (full_vt I σ₁ (Fin.ofNat 8 j) (Fin.ofNat 3 (bufOf i j)) 0)
  have s2 := s0'.of (full_s I σ₁ (Fin.ofNat 8 j) (Fin.ofNat 3 (bufOf i j)) 0) (full_mx I σ₁ (Fin.ofNat 8 j) (Fin.ofNat 3 (bufOf i j)) 0)
  have s2' := s1.of (full_s I σ₁ (Fin.ofNat 8 j) (Fin.ofNat 3 (bufOf i j)) 0) (full_mx I σ₁ (Fin.ofNat 8 j) (Fin.ofNat 3 (bufOf i j)) 0)
  have o2 := o1.of (full_o I σ₁ (Fin.ofNat 8 j) (Fin.ofNat 3 (bufOf i j)) 0)
  generalize stepS I (.full (Fin.ofNat 8 j) (Fin.ofNat 3 (bufOf i j)) 0) σ₁ = σ₂ at a0 a1 v2 s2 s2' o2 ⊢
  have b1 := step_full I σ₂ (Fin.ofNat 8 j) (Fin.ofNat 3 (bufOf i j)) 1 i v2 s2 a1 (by omega)
  have b0 := full_other I σ₂ (Fin.ofNat 8 j) (Fin.ofNat 3 (bufOf i j)) 1 0 i _ (by decide) a0
  have v3 := v2.of (full_vt I σ₂ (Fin.ofNat 8 j) (Fin.ofNat 3 (bufOf i j)) 1)
  have s3 := s2'.of (full_s I σ₂ (Fin.ofNat 8 j) (Fin.ofNat 3 (bufOf i j)) 1) (full_mx I σ₂ (Fin.ofNat 8 j) (Fin.ofNat 3 (bufOf i j)) 1)
  have o3 := o2.of (full_o I σ₂ (Fin.ofNat 8 j) (Fin.ofNat 3 (bufOf i j)) 1)
  rw [ej] at b0 b1
  exact ⟨v3, by rw [hbe]; exact s3, b0, b1, o3⟩

theorem walk_mids (I : Ins Ideal) (i n : ℕ) (hi : i < 16) : ∀ (j : ℕ) (σ : St Ideal), j + n = i / 2 → Mid I σ i j → Mid I (runS I (midFrom i n j) σ) i (i / 2) := by
  induction n with
  | zero => intro j σ e h; obtain rfl : j = i / 2 := by omega
            exact h
  | succ n ih =>
    intro j σ e h
    show Mid I (runS I (midSteps i j ++ midFrom i n (j + 1)) σ) i (i / 2)
    rw [runS_append]
    exact ih (j + 1) _ (by omega) (walk_mid I σ i j hi (by omega) h)

theorem walk_end (I : Ins Ideal) (σ : St Ideal) (i : ℕ) (hi : i < 16) (v1 : VTn I σ 8) (s0 : SB I σ (Fin.ofNat 3 (bufOf i (i / 2))) i (i / 2))
    (r0 : RUN I σ 0 i (1024 * (i / 2))) (r1 : RUN I σ 1 i (1024 * (i / 2))) (o : OUT I σ (512 * i))
    (hs : i + 1 < 16 → SB I σ (Fin.ofNat 3 (home (i + 1))) (i + 1) 0) :
    Top I (runS I [.part (Fin.ofNat 8 (i / 2)) (Fin.ofNat 3 (bufOf i (i / 2))) (Fin.ofNat 4 (2 * (i % 2))),
      .part (Fin.ofNat 8 (i / 2)) (Fin.ofNat 3 (bufOf i (i / 2))) (Fin.ofNat 4 (2 * (i % 2) + 1)),
      .fin (Fin.ofNat 32 (2 * i)), .fin (Fin.ofNat 32 (2 * i + 1))] σ) (i + 1) := by
  have ej := ofNat_val (n := 8) (show i / 2 < 8 by omega)
  have ep0 := ofNat_val (n := 4) (show 2 * (i % 2) < 4 by omega)
  have ep1 := ofNat_val (n := 4) (show 2 * (i % 2) + 1 < 4 by omega)
  have en0 := ofNat_val (n := 32) (show 2 * i < 32 by omega)
  have en1 := ofNat_val (n := 32) (show 2 * i + 1 < 32 by omega)
  generalize Fin.ofNat 8 (i / 2) = j at ej ⊢
  generalize Fin.ofNat 3 (bufOf i (i / 2)) = b at s0 ⊢
  generalize Fin.ofNat 4 (2 * (i % 2)) = p0 at ep0 ⊢
  generalize Fin.ofNat 4 (2 * (i % 2) + 1) = p1 at ep1 ⊢
  generalize Fin.ofNat 32 (2 * i) = n0 at en0 ⊢
  generalize Fin.ofNat 32 (2 * i + 1) = n1 at en1 ⊢
  have u0 : par p0 = 0 := Fin.ext (by show p0.val % 2 = 0; omega)
  have u1 : par p1 = 1 := Fin.ext (by show p1.val % 2 = 1; omega)
  have w0 : par n0 = 0 := Fin.ext (by show n0.val % 2 = 0; omega)
  have w1 : par n1 = 1 := Fin.ext (by show n1.val % 2 = 1; omega)
  rw [runS_cons, runS_cons, runS_cons, runS_cons, runS_nil]
  rw [← ej] at s0 r0 r1
  have a0 := step_part I σ j b p0 i v1 s0 (by rw [u0]; exact r0) ej (by omega)
  have a1 := part_other I σ j b p0 1 i _ (by rw [u0]; decide) r1
  have v2 := v1.of (part_vt I σ j b p0)
  have s2 := s0.of (part_s I σ j b p0) (part_mx I σ j b p0)
  have h2 := fun h => (hs h).of (part_s I σ j b p0) (part_mx I σ j b p0)
  have o2 := o.of (part_o I σ j b p0)
  generalize stepS I (.part j b p0) σ = σ₁ at a0 a1 v2 s2 h2 o2 ⊢
  have b1 := step_part I σ₁ j b p1 i v2 s2 (by rw [u1]; exact a1) ej (by omega)
  have b0 := part_other I σ₁ j b p1 (par p0) i _ (by rw [u0, u1]; decide) a0
  have v3 := v2.of (part_vt I σ₁ j b p1)
  have h3 := fun h => (h2 h).of (part_s I σ₁ j b p1) (part_mx I σ₁ j b p1)
  have o3 := o2.of (part_o I σ₁ j b p1)
  generalize stepS I (.part j b p1) σ₁ = σ₂ at b0 b1 v3 h3 o3 ⊢
  rw [u0] at b0
  rw [u1] at b1
  have c0 := step_fin I σ₂ n0 (by
    rw [w0, show n0.val / 2 = i by omega, show 256 * (n0.val + 1) = 1024 * j.val + 32 * (8 * (p0.val + 1)) by omega]; exact b0)
    (by rw [show 256 * n0.val = 512 * i by omega]; exact o3)
  have v4 := v3.of (fin_vt I σ₂ n0)
  have h4 := fun h => (h3 h).of (fin_s I σ₂ n0) (fin_mx I σ₂ n0)
  have b4 := b1.of (fin_m I σ₂ n0) (fin_acc I σ₂ n0)
  generalize stepS I (.fin n0) σ₂ = σ₃ at c0 v4 h4 b4 ⊢
  have c1 := step_fin I σ₃ n1 (by
    rw [w1, show n1.val / 2 = i by omega, show 256 * (n1.val + 1) = 1024 * j.val + 32 * (8 * (p1.val + 1)) by omega]; exact b4)
    (by rw [show 256 * n1.val = 256 * (n0.val + 1) by omega]; exact c0)
  rw [show 256 * (n1.val + 1) = 512 * (i + 1) by omega] at c1
  exact ⟨v4.of (fin_vt I σ₃ n1), fun h => (h4 h).of (fin_s I σ₃ n1) (fin_mx I σ₃ n1), c1⟩

theorem walk_last (I : Ins Ideal) (σ : St Ideal) (i : ℕ) (hi : i < 16) (h : Mid I σ i (i / 2)) : Top I (runS I (lastSteps i) σ) (i + 1) := by
  unfold lastSteps
  rw [runS_append]
  by_cases h15 : i = 15
  · rw [if_pos h15]
    exact walk_end I σ i hi h.v h.s h.r0 h.r1 h.o fun h' => absurd h' (by omega)
  · rw [if_neg h15]
    have hb : (Fin.ofNat 3 (bufOf i (i / 2))).val ≠ (Fin.ofNat 3 (home (i + 1))).val := by
      interval_cases i <;> decide
    have s1 := step_scores I σ (Fin.ofNat 16 (i + 1)) 0 (Fin.ofNat 3 (home (i + 1)))
    rw [ofNat_val (n := 16) (show i + 1 < 16 by omega)] at s1
    have s0 := scores_other I σ (Fin.ofNat 16 (i + 1)) 0 (Fin.ofNat 3 (home (i + 1))) _ _ _ hb h.s
    have v1 := h.v.of (scores_vt I σ (Fin.ofNat 16 (i + 1)) 0 (Fin.ofNat 3 (home (i + 1))))
    have r0 := h.r0.of (scores_m I σ (Fin.ofNat 16 (i + 1)) 0 (Fin.ofNat 3 (home (i + 1)))) (scores_acc I σ (Fin.ofNat 16 (i + 1)) 0 (Fin.ofNat 3 (home (i + 1))))
    have r1 := h.r1.of (scores_m I σ (Fin.ofNat 16 (i + 1)) 0 (Fin.ofNat 3 (home (i + 1)))) (scores_acc I σ (Fin.ofNat 16 (i + 1)) 0 (Fin.ofNat 3 (home (i + 1))))
    have o1 := h.o.of (scores_o I σ (Fin.ofNat 16 (i + 1)) 0 (Fin.ofNat 3 (home (i + 1))))
    exact walk_end I _ i hi v1 s0 r0 r1 o1 fun _ => s1

theorem walk_tile (I : Ins Ideal) (σ : St Ideal) (i : ℕ) (hi : i < 16) (h : Top I σ i) : Top I (runS I (tileSteps i) σ) (i + 1) := by
  unfold tileSteps
  rw [runS_cons, runS_append]
  refine walk_last I _ i hi (walk_mids I i (i / 2) hi 0 _ (by omega) ⟨h.v.of (start_vt I σ), ?_, step_start I σ 0 i, step_start I σ 1 i, h.o.of (start_o I σ)⟩)
  unfold bufOf
  rw [if_pos rfl]
  exact (h.s hi).of (start_s I σ) (start_mx I σ)

theorem walk_tiles (I : Ins Ideal) (n : ℕ) : ∀ (i : ℕ) (σ : St Ideal), i + n ≤ 16 → Top I σ i → Top I (runS I (tilesFrom n i) σ) (i + n) := by
  induction n with
  | zero => intro i σ _ h; exact h
  | succ n ih =>
    intro i σ e h
    show Top I (runS I (tileSteps i ++ tilesFrom n (i + 1)) σ) (i + (n + 1))
    rw [runS_append, show i + (n + 1) = i + 1 + n by omega]
    exact ih (i + 1) _ (by omega) (walk_tile I σ i (by omega) h)

theorem walk_pre (I : Ins Ideal) (σ : St Ideal) : Top I (runS I preSteps σ) 0 := by
  have v0 : VTn I σ 0 := fun j d c h => absurd h (Nat.not_lt_zero _)
  unfold preSteps
  rw [runS_cons, runS_cons, runS_cons, runS_cons, runS_cons, runS_cons, runS_cons, runS_cons, runS_cons, runS_nil]
  have v1 := step_vt I _ 0 v0
  generalize stepS I (.vt 0) σ = σ₁ at v1 ⊢
  have v2 := step_vt I _ 1 v1
  generalize stepS I (.vt 1) σ₁ = σ₂ at v2 ⊢
  have v3 := step_vt I _ 2 v2
  generalize stepS I (.vt 2) σ₂ = σ₃ at v3 ⊢
  have v4 := step_vt I _ 3 v3
  generalize stepS I (.vt 3) σ₃ = σ₄ at v4 ⊢
  have v5 := step_vt I _ 4 v4
  generalize stepS I (.vt 4) σ₄ = σ₅ at v5 ⊢
  have v6 := step_vt I _ 5 v5
  generalize stepS I (.vt 5) σ₅ = σ₆ at v6 ⊢
  have v7 := step_vt I _ 6 v6
  generalize stepS I (.vt 6) σ₆ = σ₇ at v7 ⊢
  have v8 : VTn I _ 8 := step_vt I _ 7 v7
  generalize stepS I (.vt 7) σ₇ = σ₈ at v8 ⊢
  exact ⟨v8.of (scores_vt I σ₈ 0 0 1), fun _ => step_scores I σ₈ 0 0 1, fun q d h => absurd h (Nat.not_lt_zero _)⟩

/-- The body's result. -/
def result (I : Ins Ideal) : Vec Ideal S1x8192x128 .bf16 := fun y => spec I (y 1).val (y 2).val

theorem runS_all (I : Ins Ideal) (σ : St Ideal) : (runS I allSteps σ).o = result I := by
  have h : Top I (runS I allSteps σ) 16 := by
    unfold allSteps
    rw [runS_append, runS_append]
    exact walk_tiles I 5 11 _ (by omega) (walk_tiles I 11 0 _ (by omega) (walk_pre I σ))
  funext y
  obtain ⟨a, q, d, rfl⟩ : ∃ (a : Fin 1) (q : Fin 8192) (d : Fin 128), y = ix3 a q d := ⟨y 0, y 1, y 2, eq_ix3 y⟩
  obtain rfl : a = 0 := Subsingleton.elim _ _
  exact h.o q d q.isLt

end Cert.KernelIdeal.Att

end
-- ==== Proof.Value.lean ====
module

public import proofs.«01_k».proof.Proof.Launch
public import proofs.«01_k».proof.Proof.Invariant
public import Idealize.ShloMosaic.Lib.Pipeline.ValueKit

/-! The result array of the attention after its run, element by element. -/

@[expose] public section

noncomputable section

namespace Cert.KernelIdeal.Att

open Idealize.ShloMosaic Idealize.ShloMosaic.TcCoe Idealize.ShloMosaic.ValueIdx
open Idealize.SL Idealize.SL.Sem
open Cert.KernelIdeal.Gen

/-- The inputs of head `h` of batch `b`. -/
def head (Q : Vec Ideal S8x8x16x256x512 .bf16) (K : Vec Ideal S8x8x8192x256 .bf16) (V : Vec Ideal S8x8x8192x128 .bf16) (b h : Fin 8) : Ins Ideal :=
  ⟨fun x => Q (ValueIdx.ix5 b h (x 2) (x 3) (x 4)), fun x => K (ValueIdx.ix4 b h (x 2) (x 3)), fun x => V (ValueIdx.ix4 b h (x 2) (x 3))⟩

/-- The attention of whole arrays: head `h` in columns `128 h` to `128 h + 127`. -/
def attn (Q : Vec Ideal S8x8x16x256x512 .bf16) (K : Vec Ideal S8x8x8192x256 .bf16) (V : Vec Ideal S8x8x8192x128 .bf16) :
    Vec Ideal S8x8192x1024 .bf16 :=
  fun i => spec (head Q K V (i 0) (Fin.ofNat 8 ((i 2).val / 128))) (i 1).val ((i 2).val % 128)

theorem index_0 : ∀ t : Fin cfg0.N, win0_0.index t = ![t.val / 8, t.val % 8, 0, 0, 0] :=
  (by decide +kernel : ∀ t : Fin grid0.N, _)
theorem index_1 : ∀ t : Fin cfg0.N, win0_1.index t = ![t.val / 8, t.val % 8, 0, 0] :=
  (by decide +kernel : ∀ t : Fin grid0.N, _)
theorem index_2 : ∀ t : Fin cfg0.N, win0_2.index t = ![t.val / 8, t.val % 8, 0, 0] :=
  (by decide +kernel : ∀ t : Fin grid0.N, _)
theorem index_3 : ∀ t : Fin cfg0.N, win0_3.index t = ![t.val / 8, 0, t.val % 8] :=
  (by decide +kernel : ∀ t : Fin grid0.N, _)

variable (m : (ℓ : Loc nD τ sig) → Buf (Elt Ideal) ℓ) (ρ : Dev nD → PrngReg)

theorem points : cfg0.N = 64 := by decide +kernel

theorem iblk_0 (c : Dev nD) (t : Fin cfg0.N) (b h : Fin 8) (hb : t.val / 8 = b.val) (hh : t.val % 8 = h.val) (x : S1x1x16x256x512.Idx) :
    iblk m c 0 t x = (m ((c.tc : Thread nD τ).loc main_arg0) : Vec Ideal S8x8x16x256x512 .bf16) (ValueIdx.ix5 b h (x 2) (x 3) (x 4)) := by
  blk_simp [iblk]
  refine congrArg (m ((c.tc : Thread nD τ).loc main_arg0)) ?_
  have h0 : (x 0).val < 1 := (x 0).isLt
  have h1 : (x 1).val < 1 := (x 1).isLt
  blk_ext [index_0]

theorem iblk_1 (c : Dev nD) (t : Fin cfg0.N) (b h : Fin 8) (hb : t.val / 8 = b.val) (hh : t.val % 8 = h.val) (x : S1x1x8192x256.Idx) :
    iblk m c 1 t x = (m ((c.tc : Thread nD τ).loc main_arg1) : Vec Ideal S8x8x8192x256 .bf16) (ValueIdx.ix4 b h (x 2) (x 3)) := by
  blk_simp [iblk]
  refine congrArg (m ((c.tc : Thread nD τ).loc main_arg1)) ?_
  have h0 : (x 0).val < 1 := (x 0).isLt
  have h1 : (x 1).val < 1 := (x 1).isLt
  blk_ext [index_1]

theorem iblk_2 (c : Dev nD) (t : Fin cfg0.N) (b h : Fin 8) (hb : t.val / 8 = b.val) (hh : t.val % 8 = h.val) (x : S1x1x8192x128.Idx) :
    iblk m c 2 t x = (m ((c.tc : Thread nD τ).loc main_arg2) : Vec Ideal S8x8x8192x128 .bf16) (ValueIdx.ix4 b h (x 2) (x 3)) := by
  blk_simp [iblk]
  refine congrArg (m ((c.tc : Thread nD τ).loc main_arg2)) ?_
  have h0 : (x 0).val < 1 := (x 0).isLt
  have h1 : (x 1).val < 1 := (x 1).isLt
  blk_ext [index_2]

/-- The inputs of a point are those of its head. -/
theorem ins_eq (c : Dev nD) (t : Fin cfg0.N) (b h : Fin 8) (hb : t.val / 8 = b.val) (hh : t.val % 8 = h.val) :
    ins m c t = head (m ((c.tc : Thread nD τ).loc main_arg0)) (m ((c.tc : Thread nD τ).loc main_arg1)) (m ((c.tc : Thread nD τ).loc main_arg2)) b h := by
  unfold ins head
  congr 1
  · exact funext fun x => iblk_0 m c t b h hb hh x
  · exact funext fun x => iblk_1 m c t b h hb hh x
  · exact funext fun x => iblk_2 m c t b h hb hh x

/-- A block's element is the whole array's, at the block's place. -/
theorem block_eq (c : Dev nD) (t : Fin cfg0.N) (y : S1x8192x128.Idx) (e : S8x8192x1024.Idx) (h0 : (e 0).val = t.val / 8)
    (h1 : (e 1).val = (y 1).val) (h2 : (e 2).val = t.val % 8 * 128 + (y 2).val) :
    result (ins m c t) y
      = attn (m ((c.tc : Thread nD τ).loc main_arg0)) (m ((c.tc : Thread nD τ).loc main_arg1)) (m ((c.tc : Thread nD τ).loc main_arg2)) e := by
  have ht : t.val < 64 := points ▸ t.isLt
  have hy : (y 2).val < 128 := (y 2).isLt
  rw [ins_eq m c t ⟨t.val / 8, by omega⟩ ⟨t.val % 8, by omega⟩ rfl rfl]
  unfold result attn
  rw [h1, h2, show e 0 = (⟨t.val / 8, by omega⟩ : Fin 8) from Fin.ext h0,
    show Fin.ofNat 8 ((t.val % 8 * 128 + (y 2).val) / 128) = (⟨t.val % 8, by omega⟩ : Fin 8) from
      Fin.ext (show (t.val % 8 * 128 + (y 2).val) / 128 % 8 = t.val % 8 by omega),
    show (t.val % 8 * 128 + (y 2).val) % 128 = (y 2).val by omega]

theorem after_3 (out : Out Ideal) (c : Dev nD) (t : Fin cfg0.N) : (dats m out 0 c).after 3 t = out c t := rfl

/-- The result array after the run. -/
theorem final (c : Dev nD) :
    (dats m (fun c t => result (ins m c t)) 0 c).arrAt 3 cfg0.N
      = attn (m ((c.tc : Thread nD τ).loc main_arg0)) (m ((c.tc : Thread nD τ).loc main_arg1)) (m ((c.tc : Thread nD τ).loc main_arg2)) := by
  refine (dats m (fun c t => result (ins m c t)) 0 c).arrAt_eq_of_covers 3 _ (by decide +kernel) fun t hf y => ?_
  have e0 : ((win0_3.blk t).view.emb y 0).val = t.val / 8 := by
    have h0 : (y 0).val < 1 := (y 0).isLt
    blk_simp [index_3]
  have e1 : ((win0_3.blk t).view.emb y 1).val = (y 1).val := by blk_simp [index_3]
  have e2 : ((win0_3.blk t).view.emb y 2).val = t.val % 8 * 128 + (y 2).val := by blk_simp [index_3]
  have key := block_eq m c t y _ e0 e1 e2
  blk_simp
  rw [after_3]
  exact key

/-- The attention runs to its end with its result array holding the attention of its arguments. -/
theorem run :
    θ_run defs (onTc (τ := τ) (main (F := Ideal))) ⟨m, fun _ => 0, ρ⟩ (fun r => ∀ c : Dev nD,
      r.2.mem ((c.tc : Thread nD τ).loc main_v0)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ (h : _ ∧ _) c => ⟨(h.1.out_eq c 3).trans (final m c),
      h.1.in_eq c 0 rfl, h.1.in_eq c 1 rfl, h.1.in_eq c 2 rfl⟩)
    (run_exact m ρ (fun c t => result (ins m c t)) fun c t σ => runS_all _ σ)

end Cert.KernelIdeal.Att

end
-- ==== Proof.Reference.lean ====
/-
  The reference's result, element by element, on the extended reals.
-/
module

public import proofs.«01_k».proof.Proof.Softmax
public import proofs.«01_k».proof.Proof.Gen.ReferenceIdeal.Run
public import Idealize.ShloMosaic.PureOps.Ideal.Laws
public import Idealize.ShloMosaic.Lib.ValueIdx
public import Idealize.ShloMosaic.Lib.ValueLayout
public import Idealize.ShloMosaic.Lib.Pipeline.Value
public import Idealize.ShloMosaic.Lib.MatmulPlain
public import Idealize.ShloMosaic.Lib.IdealHost

@[expose] public section

noncomputable section

namespace Cert.ReferenceIdeal.Att

open Idealize.ShloMosaic Idealize.ShloMosaic.TcCoe Idealize.ShloMosaic.ValueIdx Cert.Att
open Cert.ReferenceIdeal.Gen

/-! ## The reference's values, named -/

/-- The chunk of every position. -/
def chunks : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Whether the key's chunk is not after the query's. -/
def allowed : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

/-- The queries, one row per position. -/
def queries (Q : FVec Ideal S8x8x16x256x512 .bf16) : FVec Ideal S8x8x8192x256 .bf16 :=
  shapeCast _ (transpose S8x8x16x512x256 [0, 1, 2, 4, 3] Q transposes_S8x8x16x256x512_S8x8x16x512x256_0_1_2_4_3) shapeCasts_S8x8x16x512x256_S8x8x8192x256

/-- The scores, minus infinity where the key is not allowed. -/
def logits (Q : FVec Ideal S8x8x16x256x512 .bf16) (K : FVec Ideal S8x8x8192x256 .bf16) : FVec Ideal S8x8x8192x8192 .f32 :=
  select (broadcastInDim S8x8x8192x8192 ![2, 3] bcast_S8192x8192_S8x8x8192x8192_2_3 allowed)
    (extf .f32 (truncf .bf16 (Host.dotGeneral dot_S8x8x8192x256_S8x8x8192x256_S8x8x8192x8192_3_3_2_2_01_01 none (extf .f32 (queries Q) bitsLt_bf16_f32) (extf .f32 K bitsLt_bf16_f32)) bitsLt_bf16_f32) bitsLt_bf16_f32)
    (broadcastInDim S8x8x8192x8192 ![] bcast_S_S8x8x8192x8192 (id (constant S_ .f32 0xFF800000#32)))

/-- A number per query, at every key. -/
def spread (x : FVec Ideal S8x8x8192 .f32) : FVec Ideal S8x8x8192x8192 .f32 :=
  broadcastInDim S8x8x8192x8192 ![0, 1, 2, 3] bcast_S8x8x8192x1_S8x8x8192x8192_0_1_2_3 (broadcastInDim S8x8x8192x1 ![0, 1, 2] bcast_S8x8x8192_S8x8x8192x1_0_1_2 x)

/-- The greatest score of each query. -/
def greatest (L : FVec Ideal S8x8x8192x8192 .f32) : FVec Ideal S8x8x8192 .f32 :=
  Host.reduce FloatOps.maximumf L (constant S_ .f32 0xFF800000#32) reducesTo_S8x8x8192x8192_S8x8x8192_d3 h_S_

/-- Two to each score less its query's greatest. -/
def weights (L : FVec Ideal S8x8x8192x8192 .f32) : FVec Ideal S8x8x8192x8192 .f32 :=
  Host.powf (broadcastInDim S8x8x8192x8192 ![] bcast_S_S8x8x8192x8192 (constant S_ .f32 0x40000000#32)) (subf L (spread (greatest L)))

/-- The weights over their sum. -/
def probs (P : FVec Ideal S8x8x8192x8192 .f32) : FVec Ideal S8x8x8192x8192 .f32 :=
  Host.divf P (spread (Host.reduceAdd P (constant S_ .f32 0x00000000#32) reducesTo_S8x8x8192x8192_S8x8x8192_d3 h_S_))

/-- The result of weights and values. -/
def output (V : FVec Ideal S8x8x8192x128 .bf16) (W : FVec Ideal S8x8x8192x8192 .f32) : FVec Ideal S8x8192x1024 .bf16 :=
  shapeCast _ (truncf .bf16 (transpose S8x8192x8x128 [0, 3, 1, 2] (Host.dotGeneral dot_S8x8x8192x128_S8x8x8192x8192_S8x8x128x8192_2_3_3_2_01_01 none (extf .f32 V bitsLt_bf16_f32)
    (extf .f32 (truncf .bf16 W bitsLt_bf16_f32) bitsLt_bf16_f32)) transposes_S8x8x128x8192_S8x8192x8x128_0_3_1_2) bitsLt_bf16_f32) shapeCasts_S8x8192x8x128_S8x8192x1024

set_option maxRecDepth 8192 in
theorem res_eq (m : (ℓ : Loc nD τ sig) → Buf (Elt Ideal) ℓ) (c : Dev nD) :
    Value.res_main_v31 m c = output (m ((c.tc : Thread nD τ).loc main_arg2))
      (probs (weights (logits (m ((c.tc : Thread nD τ).loc main_arg0)) (m ((c.tc : Thread nD τ).loc main_arg1))))) := by
  unfold Value.res_main_v31
  rfl

/-! ## Their readings -/

/-- The chunk of a position, as a word. -/
def chunkWord (v : BitVec 32) : BitVec 32 :=
  if IntOp.andi
      (IntOp.cmpi .ne (if v = 0 then (0 : BitVec 32) else if v.msb then -1 else 1)
        (if 64#32 = 0 then (0 : BitVec 32) else if (64#32).msb then -1 else 1))
      (IntOp.cmpi .ne (IntOp.remsi .host v 64#32) 0#32) = 1#1
    then IntOp.subi (IntOp.divsi .host v 64#32) 1#32 else IntOp.divsi .host v 64#32

theorem chunkWord_nat : ∀ j : Fin 8192, chunkWord (BitVec.ofNat 32 j.val) = BitVec.ofNat 32 (j.val / 64) := by decide +kernel

theorem chunks_apply (j : Fin 8192) : chunks (ix1 j) = BitVec.ofNat 32 (j.val / 64) := chunkWord_nat j

theorem sle_nat : ∀ a b : Fin 128, IntOp.cmpi .sle (BitVec.ofNat 32 a.val) (BitVec.ofNat 32 b.val) = 1#1 ↔ a.val ≤ b.val := by
  decide +kernel

theorem allowed_apply (q j : Fin 8192) : allowed (ix2 q j) = 1#1 ↔ j.val / 64 ≤ q.val / 64 := by
  unfold allowed
  show IntOp.cmpi .sle (broadcastInDim S8192x8192 ![0, 1] bcast_S1x8192_S8192x8192_0_1 (broadcastInDim S1x8192 ![1] bcast_S8192_S1x8192_1 chunks) (ix2 q j))
    (broadcastInDim S8192x8192 ![0, 1] bcast_S8192x1_S8192x8192_0_1 (broadcastInDim S8192x1 ![0] bcast_S8192_S8192x1_0 chunks) (ix2 q j)) = 1#1 ↔ _
  have e1 : broadcastInDim S8192x8192 ![0, 1] bcast_S1x8192_S8192x8192_0_1 (broadcastInDim S1x8192 ![1] bcast_S8192_S1x8192_1 chunks) (ix2 q j)
      = BitVec.ofNat 32 (j.val / 64) := by
    rw [broadcastInDim_apply _ _ _ _ (ix2 (0 : Fin 1) j) (fun a => by match a with | ⟨0, _⟩ => rfl | ⟨1, _⟩ => rfl),
      broadcastInDim_apply _ _ _ _ (ix1 j) (fun a => by match a with | ⟨0, _⟩ => rfl), chunks_apply]
  have e2 : broadcastInDim S8192x8192 ![0, 1] bcast_S8192x1_S8192x8192_0_1 (broadcastInDim S8192x1 ![0] bcast_S8192_S8192x1_0 chunks) (ix2 q j)
      = BitVec.ofNat 32 (q.val / 64) := by
    rw [broadcastInDim_apply _ _ _ _ (ix2 q (0 : Fin 1)) (fun a => by match a with | ⟨0, _⟩ => rfl | ⟨1, _⟩ => rfl),
      broadcastInDim_apply _ _ _ _ (ix1 q) (fun a => by match a with | ⟨0, _⟩ => rfl), chunks_apply]
  rw [e1, e2]
  exact sle_nat ⟨j.val / 64, by omega⟩ ⟨q.val / 64, by omega⟩

theorem queries_apply (Q : FVec Ideal S8x8x16x256x512 .bf16) (b h : Fin 8) (q : Fin 8192) (d : Fin 256) :
    queries Q (ix4 b h q d) = Q (ix5 b h (⟨q.val / 512, by omega⟩ : Fin 16) d (⟨q.val % 512, by omega⟩ : Fin 512)) := by
  unfold queries
  rw [shapeCast_apply _ _ _ (ix5 b h (⟨q.val / 512, by omega⟩ : Fin 16) (⟨q.val % 512, by omega⟩ : Fin 512) d) (by
      rw [Shape.rowMajor_val_five, Shape.rowMajor_val_four]
      show (((b.val * 8 + h.val) * 16 + q.val / 512) * 512 + q.val % 512) * 256 + d.val = ((b.val * 8 + h.val) * 8192 + q.val) * 256 + d.val
      omega),
    transpose_apply _ _ _ _ (ix5 b h (⟨q.val / 512, by omega⟩ : Fin 16) d (⟨q.val % 512, by omega⟩ : Fin 512)) (fun a => by
      match a with | ⟨0, _⟩ => rfl | ⟨1, _⟩ => rfl | ⟨2, _⟩ => rfl | ⟨3, _⟩ => rfl | ⟨4, _⟩ => rfl)]

theorem scores_apply (X Y : FVec Ideal S8x8x8192x256 .f32) (b h : Fin 8) (q j : Fin 8192) :
    Host.dotGeneral dot_S8x8x8192x256_S8x8x8192x256_S8x8x8192x8192_3_3_2_2_01_01 none X Y (ix4 b h q j)
      = ∑ d : Fin 256, (X (ix4 b h q d) : EReal) * Y (ix4 b h j d) := by
  simp only [Host.dotGeneral]
  rw [Ideal.dotGeneral_apply, ← Equiv.sum_comp (contrEquiv1 _ 256 rfl rfl).symm]
  refine Finset.sum_congr rfl fun d _ => ?_
  have e := contrEquiv1_symm_val dot_S8x8x8192x256_S8x8x8192x256_S8x8x8192x8192_3_3_2_2_01_01 256 rfl rfl d
  congr 2
  · funext a; apply Fin.ext
    match a with
    | ⟨0, _⟩ => rfl
    | ⟨1, _⟩ => rfl
    | ⟨2, _⟩ => rfl
    | ⟨3, _⟩ => exact e
  · funext a; apply Fin.ext
    match a with
    | ⟨0, _⟩ => rfl
    | ⟨1, _⟩ => rfl
    | ⟨2, _⟩ => rfl
    | ⟨3, _⟩ => exact e

theorem values_apply (X : FVec Ideal S8x8x8192x128 .f32) (W : FVec Ideal S8x8x8192x8192 .f32) (b h : Fin 8) (d : Fin 128) (q : Fin 8192) :
    Host.dotGeneral dot_S8x8x8192x128_S8x8x8192x8192_S8x8x128x8192_2_3_3_2_01_01 none X W (ix4 b h d q)
      = ∑ j : Fin 8192, (X (ix4 b h j d) : EReal) * W (ix4 b h q j) := by
  simp only [Host.dotGeneral]
  rw [Ideal.dotGeneral_apply, ← Equiv.sum_comp (contrEquiv1 _ 8192 rfl rfl).symm]
  refine Finset.sum_congr rfl fun d _ => ?_
  have e := contrEquiv1_symm_val dot_S8x8x8192x128_S8x8x8192x8192_S8x8x128x8192_2_3_3_2_01_01 8192 rfl rfl d
  congr 2
  · funext a; apply Fin.ext
    match a with
    | ⟨0, _⟩ => rfl
    | ⟨1, _⟩ => rfl
    | ⟨2, _⟩ => exact e
    | ⟨3, _⟩ => rfl
  · funext a; apply Fin.ext
    match a with
    | ⟨0, _⟩ => rfl
    | ⟨1, _⟩ => rfl
    | ⟨2, _⟩ => rfl
    | ⟨3, _⟩ => exact e

theorem word_bot : Ideal.ofBits .f32 0xFF800000#32 = ⊥ := by simp [Ideal.ofBits, Ideal.ieee]

theorem word_two : Ideal.ofBits .f32 0x40000000#32 = ((2 : ℝ) : EReal) := by
  simp [Ideal.ofBits, Ideal.ieee]
  rw [← EReal.coe_mul]
  norm_num

/-- A power of two. -/
theorem pow_two (x : EReal) : Ideal.pow ((2 : ℝ) : EReal) x = Ideal.exp2 x := by
  induction x using EReal.rec with
  | bot => show (if (2 : ℝ) < 0 then (⊥ : EReal) else if (1 : ℝ) < 2 then 0 else if (2 : ℝ) = 1 then 1 else ⊤) = 0; norm_num
  | top => show (if (2 : ℝ) < 0 then (⊥ : EReal) else if (1 : ℝ) < 2 then ⊤ else if (2 : ℝ) = 1 then 1 else 0) = ⊤; norm_num
  | coe r => rfl

theorem logits_apply (Q : FVec Ideal S8x8x16x256x512 .bf16) (K : FVec Ideal S8x8x8192x256 .bf16) (b h : Fin 8) (q j : Fin 8192) :
    logits Q K (ix4 b h q j) = if j.val / 64 ≤ q.val / 64 then
      ∑ d : Fin 256, (Q (ix5 b h (⟨q.val / 512, by omega⟩ : Fin 16) d (⟨q.val % 512, by omega⟩ : Fin 512)) : EReal) * K (ix4 b h j d) else (⊥ : EReal) := by
  unfold logits
  show (if broadcastInDim S8x8x8192x8192 ![2, 3] bcast_S8192x8192_S8x8x8192x8192_2_3 allowed (ix4 b h q j) = 1#1 then
    Host.dotGeneral dot_S8x8x8192x256_S8x8x8192x256_S8x8x8192x8192_3_3_2_2_01_01 none (extf .f32 (queries Q) bitsLt_bf16_f32) (extf .f32 K bitsLt_bf16_f32) (ix4 b h q j)
    else Ideal.ofBits .f32 0xFF800000#32) = _
  rw [broadcastInDim_apply _ _ _ _ (ix2 q j) (fun a => by match a with | ⟨0, _⟩ => rfl | ⟨1, _⟩ => rfl), word_bot, scores_apply]
  refine if_congr (allowed_apply q j) (Finset.sum_congr rfl fun d _ => ?_) rfl
  show (queries Q (ix4 b h q d) : EReal) * K (ix4 b h j d) = _
  rw [queries_apply]

theorem spread_apply (x : FVec Ideal S8x8x8192 .f32) (b h : Fin 8) (q j : Fin 8192) : spread x (ix4 b h q j) = x (ix3 b h q) := by
  unfold spread
  rw [broadcastInDim_apply _ _ _ _ (ix4 b h q (0 : Fin 1)) (fun a => by match a with | ⟨0, _⟩ => rfl | ⟨1, _⟩ => rfl | ⟨2, _⟩ => rfl | ⟨3, _⟩ => rfl),
    broadcastInDim_apply _ _ _ _ (ix3 b h q) (fun a => by match a with | ⟨0, _⟩ => rfl | ⟨1, _⟩ => rfl | ⟨2, _⟩ => rfl)]

theorem reduces_last : S8x8x8192x8192.Reduces [3] S8x8x8192 := by decide

theorem lift_last (b h : Fin 8) (q j : Fin 8192) : reduces_last.lift (ix3 b h q) j = ix4 b h q j := by
  funext a
  match a with
  | ⟨0, _⟩ => rfl
  | ⟨1, _⟩ => rfl
  | ⟨2, _⟩ => rfl
  | ⟨3, _⟩ => rfl

theorem greatest_apply (L : FVec Ideal S8x8x8192x8192 .f32) (s : ℕ → EReal) (b h : Fin 8) (q : Fin 8192)
    (hs : ∀ j : Fin 8192, L (ix4 b h q j) = s j.val) : greatest L (ix3 b h q) = mx s 8192 := by
  unfold greatest
  rw [Host.reduce_eq_fold_single _ _ _ _ reduces_last]
  show (Finset.univ : Finset (Fin 8192)).fold max (Ideal.ofBits .f32 0xFF800000#32) (fun j => L (reduces_last.lift (ix3 b h q) j)) = _
  rw [word_bot]
  unfold mx
  apply le_antisymm
  · refine (Finset.fold_max_le _).2 ⟨bot_le, fun j _ => ?_⟩
    exact ((congrArg L (lift_last b h q j)).trans (hs j)).le.trans (Finset.le_sup (f := s) (Finset.mem_range.2 j.isLt))
  · refine Finset.sup_le fun j hj => ?_
    have hj' := Finset.mem_range.1 hj
    exact (Finset.le_fold_max _).2 (Or.inr ⟨⟨j, hj'⟩, Finset.mem_univ _, ((congrArg L (lift_last b h q ⟨j, hj'⟩)).trans (hs ⟨j, hj'⟩)).ge⟩)

theorem weights_apply (L : FVec Ideal S8x8x8192x8192 .f32) (s : ℕ → EReal) (b h : Fin 8) (q : Fin 8192)
    (hs : ∀ j : Fin 8192, L (ix4 b h q j) = s j.val) (j : Fin 8192) :
    weights L (ix4 b h q j) = Ideal.exp2 (s j.val - mx s 8192) := by
  unfold weights
  show Ideal.pow (Ideal.ofBits .f32 0x40000000#32) (L (ix4 b h q j) - spread (greatest L) (ix4 b h q j) : EReal) = _
  rw [word_two, pow_two, spread_apply, greatest_apply L s b h q hs, hs]

theorem probs_apply (P : FVec Ideal S8x8x8192x8192 .f32) (w : ℕ → EReal) (b h : Fin 8) (q : Fin 8192)
    (hw : ∀ j : Fin 8192, P (ix4 b h q j) = w j.val) (j : Fin 8192) :
    probs P (ix4 b h q j) = Ideal.div (w j.val) (∑ j ∈ Finset.range 8192, w j) := by
  unfold probs
  rw [hostDivf_apply, spread_apply, hw, hostReduceAdd_apply, Ideal.hostReduceAdd_single _ reduces_last, Finset.sum_range]
  exact congrArg (Ideal.div _) ((congrArg₂ (fun x y : EReal => x + y) Ideal.ofBits_zero_f32
    (Finset.sum_congr rfl fun k _ => (congrArg P (lift_last b h q k)).trans (hw k))).trans (zero_add _))

theorem output_apply (V : FVec Ideal S8x8x8192x128 .bf16) (W : FVec Ideal S8x8x8192x8192 .f32) (b h : Fin 8) (q : Fin 8192) (d : Fin 128)
    (e : Fin 1024) (he : e.val = h.val * 128 + d.val) :
    output V W (ix3 b q e) = ∑ j : Fin 8192, (V (ix4 b h j d) : EReal) * W (ix4 b h q j) := by
  unfold output
  rw [shapeCast_apply _ _ _ (ix4 b q h d) (by
      rw [Shape.rowMajor_val_four, Shape.rowMajor_val_three]
      show ((b.val * 8192 + q.val) * 8 + h.val) * 128 + d.val = (b.val * 8192 + q.val) * 1024 + e.val
      omega)]
  rw [truncf_apply, transpose_apply _ _ _ _ (ix4 b h d q) (fun a => by
      match a with | ⟨0, _⟩ => rfl | ⟨1, _⟩ => rfl | ⟨2, _⟩ => rfl | ⟨3, _⟩ => rfl), values_apply]
  rfl

/-- The reference's result, its query's scores being `s`. -/
theorem result_apply (Q : FVec Ideal S8x8x16x256x512 .bf16) (K : FVec Ideal S8x8x8192x256 .bf16) (V : FVec Ideal S8x8x8192x128 .bf16)
    (s x : ℕ → EReal) (b h : Fin 8) (q : Fin 8192) (d : Fin 128) (e : Fin 1024) (he : e.val = h.val * 128 + d.val)
    (hs : ∀ j : Fin 8192, logits Q K (ix4 b h q j) = s j.val) (hx : ∀ j : Fin 8192, V (ix4 b h j d) = x j.val) :
    output V (probs (weights (logits Q K))) (ix3 b q e)
      = ∑ j ∈ Finset.range 8192, x j * Ideal.div (Ideal.exp2 (s j - mx s 8192)) (∑ j ∈ Finset.range 8192, Ideal.exp2 (s j - mx s 8192)) := by
  rw [output_apply V _ b h q d e he, Finset.sum_range]
  refine Finset.sum_congr rfl fun j _ => ?_
  rw [hx, probs_apply _ (fun j => Ideal.exp2 (s j - mx s 8192)) b h q (weights_apply _ s b h q hs)]

end Cert.ReferenceIdeal.Att

end
-- ==== Proof.Equal.lean ====
/-
  The precondition read at an entry, and the attention's result equal to the reference's under it.
-/
module

public import proofs.«01_k».proof.Pre_finite
public import proofs.«01_k».proof.Proof.Gen.Pre_finite
public import proofs.«01_k».proof.Proof.Value
public import proofs.«01_k».proof.Proof.Reference

@[expose] public section

noncomputable section

namespace Cert.Att

open Idealize.ShloMosaic Cert.KernelIdeal.Att

/-! ## The precondition -/

theorem and_one {a b : BitVec 1} (h : IntOp.andi a b = 1#1) : a = 1#1 ∧ b = 1#1 := by
  revert a b; decide

/-- Where the conjunction of a list of bits is one, every bit is one. -/
theorem fold_and {ι : Type} (S : Finset ι) (x : ι → BitVec 1) (i₀ : BitVec 1) (h : S.fold IntOp.andi i₀ x = 1#1) : ∀ i ∈ S, x i = 1#1 := by
  classical
  induction S using Finset.induction_on with
  | empty => exact fun i hi => absurd hi (Finset.notMem_empty i)
  | insert a S ha ih =>
    rw [Finset.fold_insert ha] at h
    intro i hi
    rcases Finset.mem_insert.1 hi with rfl | hi
    · exact (and_one h).1
    · exact ih (and_one h).2 i hi

theorem reduce_and {s t u : Shape} {axes : List (Fin s.rank)} (ht : t.rank = 0) (x : s.Idx → BitVec 1) (init : u.Idx → BitVec 1)
    (h : s.ReducesTo axes t) (hu : 0 < u.numel) (j : t.Idx) (e : Host.reduce IntOp.andi x init h hu j = 1#1) (i : s.Idx) : x i = 1#1 := by
  rw [Host.reduce_eq_fold] at e
  exact fold_and _ x _ e i (Finset.mem_filter.2 ⟨Finset.mem_univ _, funext fun b => absurd (b.isLt.trans_eq ht) (Nat.not_lt_zero _)⟩)

theorem word_top : Ideal.ofBits .f32 0x7F800000#32 = ⊤ := by simp [Ideal.ofBits, Ideal.ieee]

/-- A magnitude below infinity is a real's. -/
theorem real_of_abs (x : EReal) (h : Ideal.cmp .olt (max x (-x)) (Ideal.ofBits .f32 0x7F800000#32) = 1#1) : ∃ r : ℝ, x = (r : EReal) := by
  rw [word_top] at h
  have h' : max x (-x) < ⊤ := by
    by_contra hc
    exact absurd h (by unfold Ideal.cmp; simp [hc])
  induction x using EReal.rec with
  | bot => exact absurd h' (by simp)
  | top => exact absurd h' (by simp)
  | coe r => exact ⟨r, rfl⟩

/-- Under the precondition every query and every key is a real. -/
theorem reals (Q : FVec Ideal Pre_finite.S8x8x16x256x512 .bf16) (K : FVec Ideal Pre_finite.S8x8x8192x256 .bf16)
    (V : FVec Ideal Pre_finite.S8x8x8192x128 .bf16) (h : Cert.Pre_finite.fn (F := Ideal) Q K V = fun _ => 1#1) :
    (∀ i, ∃ r : ℝ, (Q i : EReal) = (r : EReal)) ∧ (∀ i, ∃ r : ℝ, (K i : EReal) = (r : EReal)) := by
  have e := congrFun h ValueIdx.ix0
  unfold Cert.Pre_finite.fn at e
  have e' := and_one e
  exact ⟨fun i => real_of_abs _ (reduce_and rfl _ _ _ _ _ e'.1 i), fun i => real_of_abs _ (reduce_and rfl _ _ _ _ _ e'.2 i)⟩

/-! ## The equality -/

/-- A score of real queries and keys is a real. -/
theorem sc_real (I : Ins Ideal) (hq : ∀ i, ∃ r : ℝ, (I.q i : EReal) = (r : EReal)) (hk : ∀ i, ∃ r : ℝ, (I.k i : EReal) = (r : EReal)) (q j : ℕ) :
    ∃ r : ℝ, sc I q j = (r : EReal) := by
  choose fq hq using hq
  choose fk hk using hk
  refine ⟨∑ d : Fin 256, fk (ValueIdx.ix4 0 0 (Fin.ofNat 8192 j) d) * fq (ValueIdx.ix5 0 0 (Fin.ofNat 16 (q / 512)) d (Fin.ofNat 512 (q % 512))), ?_⟩
  unfold sc
  rw [show ∀ f : Fin 256 → ℝ, ((∑ d, f d : ℝ) : EReal) = ∑ d, (f d : EReal) from fun f =>
    map_sum (⟨⟨fun r : ℝ => (r : EReal), EReal.coe_zero⟩, EReal.coe_add⟩ : ℝ →+ EReal) f Finset.univ]
  exact Finset.sum_congr rfl fun d _ => by rw [hq, hk, EReal.coe_mul]

theorem spec_eq (I : Ins Ideal) (hq : ∀ i, ∃ r : ℝ, (I.q i : EReal) = (r : EReal)) (hk : ∀ i, ∃ r : ℝ, (I.k i : EReal) = (r : EReal))
    (q d : ℕ) (h : q < 8192) :
    spec I q d = ∑ j ∈ Finset.range 8192, xv I d j * Ideal.div (Ideal.exp2 (ms I q j - mx (ms I q) 8192))
      (∑ j ∈ Finset.range 8192, Ideal.exp2 (ms I q j - mx (ms I q) 8192)) := by
  have e : xv I 128 = fun _ => 1 := funext fun j => dif_neg (lt_irrefl _)
  unfold spec
  rw [e]
  refine div_ac (xv I d) (fun j _ => ?_) h ?_
  · unfold ms
    obtain ⟨r, hr⟩ := sc_real I hq hk q j
    split
    · rw [hr]; exact EReal.coe_ne_top r
    · exact bot_ne_top
  · unfold ms
    obtain ⟨r, hr⟩ := sc_real I hq hk q q
    rw [if_pos le_rfl, hr]
    exact EReal.coe_ne_bot r

/-- The attention is what the reference computes. -/
theorem attn_eq (Q : FVec Ideal KernelIdeal.S8x8x16x256x512 .bf16) (K : FVec Ideal KernelIdeal.S8x8x8192x256 .bf16)
    (V : FVec Ideal KernelIdeal.S8x8x8192x128 .bf16) (h : Cert.Pre_finite.fn (F := Ideal) Q K V = fun _ => 1#1) :
    ReferenceIdeal.Att.output V (ReferenceIdeal.Att.probs (ReferenceIdeal.Att.weights (ReferenceIdeal.Att.logits Q K))) = attn Q K V := by
  obtain ⟨hQ, hK⟩ := reals Q K V h
  funext i
  obtain ⟨b, q, e, rfl⟩ : ∃ (b : Fin 8) (q : Fin 8192) (e : Fin 1024), i = ValueIdx.ix3 b q e := ⟨i 0, i 1, i 2, ValueIdx.eq_ix3 i⟩
  have he := e.isLt
  have hh : Fin.ofNat 8 (e.val / 128) = (⟨e.val / 128, by omega⟩ : Fin 8) := Fin.ext (Nat.mod_eq_of_lt (by omega))
  show _ = spec (head Q K V b (Fin.ofNat 8 (e.val / 128))) q.val (e.val % 128)
  rw [hh, spec_eq _ (fun i => hQ _) (fun i => hK _) q.val _ q.isLt]
  refine ReferenceIdeal.Att.result_apply Q K V _ _ b ⟨e.val / 128, by omega⟩ q ⟨e.val % 128, by omega⟩ e
    (by show e.val = e.val / 128 * 128 + e.val % 128; omega) (fun j => ?_) (fun j => ?_)
  · rw [ReferenceIdeal.Att.logits_apply]
    unfold ms
    refine if_congr Iff.rfl ?_ rfl
    unfold sc head
    refine Finset.sum_congr rfl fun d _ => ?_
    have ej : Fin.ofNat 8192 j.val = j := Fin.ext (Nat.mod_eq_of_lt j.isLt)
    have eq : Fin.ofNat 16 (q.val / 512) = (⟨q.val / 512, by omega⟩ : Fin 16) := Fin.ext (Nat.mod_eq_of_lt (by omega))
    have er : Fin.ofNat 512 (q.val % 512) = (⟨q.val % 512, by omega⟩ : Fin 512) := Fin.ext (Nat.mod_eq_of_lt (by omega))
    rw [ej, eq, er]
    exact mul_comm _ _
  · unfold xv head
    rw [dif_pos (by omega : e.val % 128 < 128)]
    have ej : Fin.ofNat 8192 j.val = j := Fin.ext (Nat.mod_eq_of_lt j.isLt)
    rw [ej]

end Cert.Att

end
-- ==== Proof.DecayReference.lean ====
/-
  The reference's decay and keys of the recurrence: where the greatest entries of the table's columns are reals, they are the call's.
-/
module

public import proofs.«01_k».proof.Proof.ProjReference
public import proofs.«01_k».proof.Proof.DecayBody
public import proofs.«01_k».proof.Proof.Equal
public import proofs.«01_k».proof.Pre_bounded

@[expose] public section

noncomputable section

namespace Cert.Reference5Ideal.Proj

open Idealize.ShloMosaic hiding ix1 ix2 ix4 eq_ix2 eq_ix4 addf_apply mulf_apply divf_apply
open Idealize.ShloMosaic.TcCoe Idealize.ShloMosaic.ValueIdx
open Idealize.SL Idealize.SL.Sem
open Cert.Reference5Ideal Cert.Reference5Ideal.Gen Cert.Att.Row Cert.Att.Proj Cert.Att.Decay

/-! ## The running sum's first row -/

theorem fold_pair {α : Type} {n : ℕ} (hn : n = 2) (g : α → Fin n → α) (v : α) :
    (List.finRange n).foldl g v = g (g v ⟨0, by omega⟩) ⟨1, by omega⟩ := by
  subst hn
  rfl

theorem window_place (n : Fin (⟨2, ![2, 1]⟩ : Shape).numel) (k : Fin 2) (hn : n.val = k.val) :
    (⟨2, ![2, 1]⟩ : Shape).rowMajor.symm n = ix2 k (0 : Fin 1) := by
  refine (Equiv.symm_apply_eq _).2 (Fin.ext ?_)
  rw [hn, Shape.rowMajor_val_two]
  show k.val = k.val * 1 + 0
  omega

/-- The first row of the running sum of a table of two rows is the table's first row. -/
theorem running_apply (x : FVec Ideal S2x1024 .f32) (init : FVec Ideal S_ .f32) (h0 : ∀ i, init i = (0 : EReal)) (j : Fin 1024) :
    Host.reduceWindowAdd ![2, 1] ![1, 1] ![1, 0] ![0, 0] x init reduceWindows_S2x1024_S2x1024_w2s1p1_0_w1s1p0_0 h_S_ (ix2 (0 : Fin 2) j)
      = (x (ix2 (0 : Fin 2) j) : EReal) := by
  show Host.reduceWindow (fun p q : EReal => p + q) ![2, 1] ![1, 1] ![1, 0] ![0, 0] x
    (fun _ : (⟨0, ![]⟩ : Shape).Idx => (init (Shape.Idx.first h_S_) : EReal)) reduceWindows_S2x1024_S2x1024_w2s1p1_0_w1s1p0_0 (by decide) (ix2 (0 : Fin 2) j) = _
  rw [h0]
  unfold Host.reduceWindow
  refine (fold_pair (by decide) _ _).trans ?_
  have w0 := window_place ⟨0, by decide⟩ 0 rfl
  have w1 := window_place ⟨1, by decide⟩ 1 rfl
  dsimp only
  rw [dif_neg (fun hin => by
    have q := (hin 0).1
    change 1 ≤ 0 * 1 + ((⟨2, ![2, 1]⟩ : Shape).rowMajor.symm ⟨0, by decide⟩ 0).val at q
    rw [w0] at q
    change 1 ≤ 0 * 1 + 0 at q
    omega)]
  have p0 : ((⟨2, ![2, 1]⟩ : Shape).rowMajor.symm ⟨1, by decide⟩ 0).val = 1 := by rw [w1]; rfl
  have p1 : ((⟨2, ![2, 1]⟩ : Shape).rowMajor.symm ⟨1, by decide⟩ 1).val = 0 := by rw [w1]; rfl
  have hj := j.isLt
  rw [dif_pos (fun a => by
    match a with
    | ⟨0, _⟩ =>
      show 1 ≤ 0 * 1 + ((⟨2, ![2, 1]⟩ : Shape).rowMajor.symm ⟨1, by decide⟩ 0).val
        ∧ 0 * 1 + ((⟨2, ![2, 1]⟩ : Shape).rowMajor.symm ⟨1, by decide⟩ 0).val - 1 < 2
      rw [p0]
      omega
    | ⟨1, _⟩ =>
      show 0 ≤ j.val * 1 + ((⟨2, ![2, 1]⟩ : Shape).rowMajor.symm ⟨1, by decide⟩ 1).val
        ∧ j.val * 1 + ((⟨2, ![2, 1]⟩ : Shape).rowMajor.symm ⟨1, by decide⟩ 1).val - 0 < 1024
      rw [p1]
      omega)]
  show (0 : EReal) + 0 + _ = _
  rw [add_zero, zero_add]
  refine congrArg x (funext fun a => Fin.ext ?_)
  match a with
  | ⟨0, _⟩ =>
    show 0 * 1 + ((⟨2, ![2, 1]⟩ : Shape).rowMajor.symm ⟨1, by decide⟩ 0).val - 1 = 0
    rw [p0]
  | ⟨1, _⟩ =>
    show j.val * 1 + ((⟨2, ![2, 1]⟩ : Shape).rowMajor.symm ⟨1, by decide⟩ 1).val - 0 = j.val
    rw [p1]
    omega

/-! ## The lower bound -/

/-- A row of a table from a vector. -/
abbrev spread2 (v : FVec Ideal S1024 .f32) : FVec Ideal S2x1024 .f32 :=
  broadcastInDim S2x1024 ![0, 1] bcast_S1x1024_S2x1024_0_1 (broadcastInDim S1x1024 ![1] bcast_S1024_S1x1024_1 v)

theorem spread2_apply (v : FVec Ideal S1024 .f32) (k : Fin 2) (j : Fin 1024) : spread2 v (ix2 k j) = v (ix1 j) :=
  (broadcastInDim_apply _ _ _ _ (ix2 (0 : Fin 1) j) (fun a => by match a with | ⟨0, _⟩ => rfl | ⟨1, _⟩ => rfl)).trans
    (broadcastInDim_apply _ _ _ _ (ix1 j) (fun a => by match a with | ⟨0, _⟩ => rfl))

/-- The greatest entry of a column of the table. -/
theorem greatest_column (t : FVec Ideal S2x1024 .f32) (j : Fin 1024) :
    (Host.reduce FloatOps.maximumf t (constant S_ .f32 0xFF800000#32) reducesTo_S2x1024_S1024_d0 h_S_ : FVec Ideal S1024 .f32) (ix1 j)
      = max (t (ix2 (0 : Fin 2) j)) (t (ix2 (1 : Fin 2) j)) := by
  refine (Host.reduce_eq_fold_single _ _ _ _ (by decide : S2x1024.Reduces [0] S1024) _ _).trans ((fold_two _ word_low _).trans ?_)
  exact congrArg₂ max (congrArg t (lift_column (a := 2) (b := 1024) _ j 0)) (congrArg t (lift_column (a := 2) (b := 1024) _ j 1))

/-- The exponentials of the table less its columns' greatest. -/
def tableE (t : FVec Ideal S2x1024 .f32) : FVec Ideal S2x1024 .f32 :=
  Host.exp (subf t (spread2 (maximumf (broadcastInDim S1024 ![] bcast_S_S1024 (constant S_ .f32 0xFF800000#32))
    (Host.reduce FloatOps.maximumf t (constant S_ .f32 0xFF800000#32) reducesTo_S2x1024_S1024_d0 h_S_))))

theorem tableE_apply (t : FVec Ideal S2x1024 .f32) (k : Fin 2) (j : Fin 1024) :
    tableE t (ix2 k j) = Ideal.exp (t (ix2 k j) - max (t (ix2 (0 : Fin 2) j)) (t (ix2 (1 : Fin 2) j))) := by
  unfold tableE
  refine congrArg (fun q : EReal => Ideal.exp (t (ix2 k j) - q)) ((spread2_apply _ k j).trans ?_)
  exact (congrArg₂ max word_low (greatest_column t j)).trans (max_eq_right bot_le)

/-- The reference's lower bound. -/
def lower (t : FVec Ideal S2x1024 .f32) : FVec Ideal S1024 .f32 :=
  shapeCast S1024 (extractStridedSlice S1x1024 ![0, 0] (Host.reduceWindowAdd ![2, 1] ![1, 1] ![1, 0] ![0, 0]
    (Host.divf (tableE t) (spread2 (Host.reduceAdd (tableE t) (constant S_ .f32 0x00000000#32) reducesTo_S2x1024_S1024_d0 h_S_)))
    (broadcastInDim S_ ![] bcast_S_S_ (constant S_ .f32 0x00000000#32)) reduceWindows_S2x1024_S2x1024_w2s1p1_0_w1s1p0_0 h_S_)
    slices_S2x1024_S1x1024_0_0) shapeCasts_S1x1024_S1024

theorem lower_apply (t : FVec Ideal S2x1024 .f32) (j : Fin 1024) : lower t (ix1 j) = boundAt t j := by
  unfold lower
  refine (shapeCast_apply _ _ _ (ix2 (0 : Fin 1) j) (by
    rw [Shape.rowMajor_val_two, Shape.rowMajor_val_one]
    show 0 * 1024 + j.val = j.val
    omega)).trans ?_
  refine (extractStridedSlice_apply _ _ _ _ (ix2 (0 : Fin 2) j) (fun a => by
    match a with
    | ⟨0, _⟩ => rfl
    | ⟨1, _⟩ => exact (Nat.zero_add _).symm)).trans ?_
  refine (running_apply _ _ (fun _ => Ideal.ofBits_zero_f32) j).trans ?_
  unfold boundAt bound
  refine congrArg₂ Ideal.div (tableE_apply t 0 j) ((spread2_apply _ 0 j).trans ?_)
  rw [hostReduceAdd_apply, Ideal.hostReduceAdd_single _ (by decide : S2x1024.Reduces [0] S1024)]
  refine (congrArg₂ (fun p q : EReal => p + q) Ideal.ofBits_zero_f32 (Fin.sum_univ_two _)).trans ((zero_add _).trans ?_)
  exact congrArg₂ (fun p q : EReal => p + q) ((congrArg (tableE t) (lift_column (a := 2) (b := 1024) _ j 0)).trans (tableE_apply t 0 j))
    ((congrArg (tableE t) (lift_column (a := 2) (b := 1024) _ j 1)).trans (tableE_apply t 1 j))

/-! ## The logarithm of the gate -/

/-- The logarithm of the sum of two arrays' exponentials. -/
def lseV (a b : FVec Ideal S65536x1024 .f32) : FVec Ideal S65536x1024 .f32 :=
  select (cmpf .une (subf a b) (subf a b)) (addf a b)
    (addf (maximumf a b) (Host.log1p (Host.exp (Host.negf (Host.absf (subf a b))))))

theorem lseV_apply (a b : FVec Ideal S65536x1024 .f32) (i : S65536x1024.Idx) : lseV a b i = lse (a i) (b i) := by
  have e : lseV a b i = Scalar.select (BitVec.ofBool (decide ((a i - b i : EReal) ≠ (a i - b i : EReal)))) (a i + b i : EReal) (lse (a i) (b i)) := rfl
  rw [e, choose, if_neg (fun h => h rfl)]

/-- Rows from a vector. -/
abbrev rows (v : FVec Ideal S1024 .f32) : FVec Ideal S65536x1024 .f32 :=
  broadcastInDim S65536x1024 ![0, 1] bcast_S1x1024_S65536x1024_0_1 (broadcastInDim S1x1024 ![1] bcast_S1024_S1x1024_1 v)

theorem rows_apply (v : FVec Ideal S1024 .f32) (i : Fin 65536) (j : Fin 1024) : rows v (ix2 i j) = v (ix1 j) :=
  (broadcastInDim_apply _ _ _ _ (ix2 (0 : Fin 1) j) (fun a => by match a with | ⟨0, _⟩ => rfl | ⟨1, _⟩ => rfl)).trans
    (broadcastInDim_apply _ _ _ _ (ix1 j) (fun a => by match a with | ⟨0, _⟩ => rfl))

/-- The reference's logarithm of the decay. -/
def logF (u : FVec Ideal S65536x1024 .bf16) (w : FVec Ideal S1024x4800 .f32) (t : FVec Ideal S2x1024 .f32) : FVec Ideal S65536x1024 .f32 :=
  lseV (rows (Host.log (lower t))) (addf (rows (Host.log1p (Host.negf (lower t)))) (Host.negf (lseV
    (Host.negf (extractStridedSlice S65536x1024 ![0, 1024] (full u w) slices_S65536x4800_S65536x1024_0_1024))
    (broadcastInDim S65536x1024 ![] bcast_S_S65536x1024 (constant S_ .f32 0x00000000#32)))))

theorem logF_apply (u : FVec Ideal S65536x1024 .bf16) (w : FVec Ideal S1024x4800 .f32) (t : FVec Ideal S2x1024 .f32) (i : S65536x1024.Idx) :
    logF u w t i = logGate (boundAt t (i 1)) (projArr 1024 (by decide) u w i) := by
  have ei : i = ix2 (i 0) (i 1) := eq_ix2 i
  unfold logF logGate
  refine (lseV_apply _ _ i).trans (congrArg₂ lse ?_ ?_)
  · refine (congrArg _ ei).trans ((rows_apply _ (i 0) (i 1)).trans ?_)
    exact congrArg Ideal.log (lower_apply t (i 1))
  · refine congrArg₂ (fun p q : EReal => p + q) ((congrArg _ ei).trans ((rows_apply _ (i 0) (i 1)).trans ?_)) (congrArg (fun q : EReal => -q) ?_)
    · exact congrArg (fun q : EReal => Ideal.log (1 + -q)) (lower_apply t (i 1))
    · exact (lseV_apply _ _ i).trans (congrArg₂ lse (congrArg (fun q : EReal => -q) (slice_apply 1024 (by decide) u w _ i)) Ideal.ofBits_zero_f32)

/-! ## The results -/

/-- The reference's decay. -/
def decayV (u : FVec Ideal S65536x1024 .bf16) (w : FVec Ideal S1024x4800 .f32) (t : FVec Ideal S2x1024 .f32) : FVec Ideal S65536x1024 .f32 :=
  mulf (logF u w t) (broadcastInDim S65536x1024 ![] bcast_S_S65536x1024 (constant S_ .f32 0x3FB8AA3B#32))

/-- The reference's keys. -/
def keyV (u : FVec Ideal S65536x1024 .bf16) (w : FVec Ideal S1024x4800 .f32) (t : FVec Ideal S2x1024 .f32) : FVec Ideal S65536x1024 .bf16 :=
  truncf .bf16 (Host.negf (Host.expm1 (logF u w t))) bitsLt_bf16_f32

set_option maxRecDepth 8192 in
theorem res_decay (m : (ℓ : Loc nD τ sig) → Buf (Elt Ideal) ℓ) (c : Dev nD) : Cert.Reference5Ideal.Value.res_main_v76 m c
    = decayV (m ((c.tc : Thread nD τ).loc main_arg0)) (m ((c.tc : Thread nD τ).loc main_arg2)) (m ((c.tc : Thread nD τ).loc main_arg5)) := by
  unfold Cert.Reference5Ideal.Value.res_main_v76
  rfl

set_option maxRecDepth 8192 in
theorem res_key (m : (ℓ : Loc nD τ sig) → Buf (Elt Ideal) ℓ) (c : Dev nD) : Cert.Reference5Ideal.Value.res_main_v77 m c
    = keyV (m ((c.tc : Thread nD τ).loc main_arg0)) (m ((c.tc : Thread nD τ).loc main_arg2)) (m ((c.tc : Thread nD τ).loc main_arg5)) := by
  unfold Cert.Reference5Ideal.Value.res_main_v77
  rfl

/-- The precondition's facts. -/
instance boundedFacts : Cert.Pre_bounded.Facts where
  reducesTo_S2x1024_S1024_d0 := by decide
  h_S_ := by decide
  bcast_S_S1024 := by decide
  reducesTo_S1024_S_d0 := by decide

/-- Under the precondition the greatest entry of every column of the table is a real. -/
theorem table_real (u : FVec Ideal S65536x1024 .bf16) (a1 : IVec S65536x1 32) (w : FVec Ideal S1024x4800 .f32) (a3 : FVec Ideal S1024x2048 .f32)
    (a4 : FVec Ideal S2048 .f32) (t : FVec Ideal S2x1024 .f32) (a6 : FVec Ideal S384 .f32) (a7 : FVec Ideal S384x1536 .f32) (a8 : FVec Ideal S256 .f32)
    (a9 : FVec Ideal S256x2048 .f32) (a10 a11 : FVec Ideal S192 .f32)
    (hp : Cert.Pre_bounded.fn (F := Ideal) u a1 w a3 a4 t a6 a7 a8 a9 a10 a11 = fun _ => 1#1) (j : Fin 1024) :
    ∃ r : ℝ, max (t (ix2 (0 : Fin 2) j) : EReal) (t (ix2 (1 : Fin 2) j)) = (r : EReal) := by
  obtain ⟨r, hr⟩ := Cert.Att.real_of_abs _ (Cert.Att.reduce_and rfl _ _ _ _ _ (congrFun hp (Shape.Idx.first (by decide))) (ix1 j))
  exact ⟨r, (greatest_column t j).symm.trans hr⟩

theorem decay_arr (u : FVec Ideal S65536x1024 .bf16) (w : FVec Ideal S1024x4800 .f32) (t : FVec Ideal S2x1024 .f32)
    (ht : ∀ j : Fin 1024, ∃ r : ℝ, max (t (ix2 (0 : Fin 2) j) : EReal) (t (ix2 (1 : Fin 2) j)) = (r : EReal)) : decayV u w t = decayArr u w t := by
  funext i
  refine congrArg (fun q : EReal => q * Ideal.ofBits .f32 0x3FB8AA3B#32) ((logF_apply u w t i).trans ?_)
  exact (decay_eq _ _ (ht (i 1)) _).1

theorem key_arr (u : FVec Ideal S65536x1024 .bf16) (w : FVec Ideal S1024x4800 .f32) (t : FVec Ideal S2x1024 .f32)
    (ht : ∀ j : Fin 1024, ∃ r : ℝ, max (t (ix2 (0 : Fin 2) j) : EReal) (t (ix2 (1 : Fin 2) j)) = (r : EReal)) : keyV u w t = keyArr u w t := by
  funext i
  refine (congrArg (fun q : EReal => -(Ideal.exp q - 1)) (logF_apply u w t i)).trans ?_
  show _ = key (boundAt t (i 1)) (projArr 1024 (by decide) u w i)
  exact (decay_eq _ _ (ht (i 1)) _).2

end Cert.Reference5Ideal.Proj

end
-- ==== Proof.Twin.lean ====
/-
  The program read at machine words is, operation by operation, the text of the idealised program:
  the two frames are one proposition.
-/
module

public import proofs.«01_k».proof.Proof.Launch
public import proofs.«01_k».proof.Proof.Gen.Kernel
public import Idealize.ShloMosaic.PureOps.BitExact
public import Idealize.ShloMosaic.PureOps.Ideal

@[expose] public section

noncomputable section

namespace Cert.Kernel.Att

open Idealize.ShloMosaic Idealize.ShloMosaic.TcCoe Idealize.ShloMosaic.Tactic Idealize.SL.Sem

/-- The idealised program's text, its floats machine words, runs to its end, its arguments unchanged and every semaphore at zero. -/
def frameIdealText : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The program's own text, its floats machine words, runs to its end, its arguments unchanged and every semaphore at zero. -/
def frameText : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

theorem text_eq : frameIdealText = frameText := by sl_kernel_rfl

/-- The attention at machine words runs to its end, its arguments unchanged and every semaphore at zero. -/
theorem frame : frameText := text_eq ▸ fun m g => Cert.KernelIdeal.Att.frame (F := Bits) m g

end Cert.Kernel.Att

end
-- ==== Proof.Merge.lean ====
/-
  The merge: its result array, and the reference's, element by element on the extended reals.
-/
module

public import proofs.«01_k».proof.Proof.Row
public import proofs.«01_k».proof.Proof.Gen.Kernel4Ideal.Value
public import proofs.«01_k».proof.Proof.Gen.Reference4Ideal.Run
public import Idealize.ShloMosaic.Lib.Pipeline.ValueKit

@[expose] public section

noncomputable section

namespace Cert.Kernel4Ideal.Merge

open Idealize.ShloMosaic hiding ix1 ix2 eq_ix2 addf_apply mulf_apply
open Idealize.ShloMosaic.TcCoe Idealize.ShloMosaic.ValueIdx
open Idealize.SL Idealize.SL.Sem
open Cert.Kernel4Ideal.Gen Cert.Att.Row

variable (m : (ℓ : Loc nD τ sig) → Buf (Elt Ideal) ℓ) (ρ : Dev nD → PrngReg)

/-- What the body stores, at an entry. -/
theorem pay_apply (a b : Vec Ideal S1024x1024 .bf16) (y z u v : Vec Ideal S1024x1024 .bf16) (h : Vec Ideal S1024x1024 .f32)
    (w : Vec Ideal S1024x1024 .bf16) (r c : Fin 1024) :
    k0_pay1 a y u b z v h w (ix2 r c)
      = merged (fun l => y (ix2 r l)) (fun l => z (ix2 r l)) (fun k => a (ix2 r k)) (fun k => b (ix2 r k)) (fun k => h (ix2 r k))
        (fun l k => u (ix2 l k)) (fun l k => v (ix2 l k)) (fun k j => w (ix2 k j)) c := by
  unfold k0_pay1
  simp only [shapeCast_self]
  refine (addf_apply _ _ _).trans (congrArg (h (ix2 r c) + ·) ?_)
  refine (dot_apply (φ := .bf16) (ψ := .bf16) (a := 1024) (b := 1024) (c := 1024) _ _ r c).trans (Finset.sum_congr rfl fun k _ => congrArg (· * w (ix2 k c)) ?_)
  exact congrArg₂ (fun p q => a (ix2 r k) * p + b (ix2 r k) * q) (dot_apply (φ := .bf16) (ψ := .bf16) (a := 1024) (b := 1024) (c := 1024) y u r k)
    (dot_apply (φ := .bf16) (ψ := .bf16) (a := 1024) (b := 1024) (c := 1024) z v r k)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)

theorem points : cfg0.N = 64 := by decide +kernel

theorem V_u (c : Dev nD) : (V m c main_v0 : S1024x1024.Idx → EReal) = (m ((c.tc : Thread nD τ).loc main_arg4) : S1024x1024.Idx → EReal) := by
  unfold V
  after_results_simp
  rfl
theorem V_v (c : Dev nD) : (V m c main_v1 : S1024x1024.Idx → EReal) = (m ((c.tc : Thread nD τ).loc main_arg5) : S1024x1024.Idx → EReal) := by
  unfold V
  after_results_simp
  rfl
theorem V_w (c : Dev nD) : (V m c main_v2 : S1024x1024.Idx → EReal) = (m ((c.tc : Thread nD τ).loc main_arg6) : S1024x1024.Idx → EReal) := by
  unfold V
  after_results_simp
  rfl

theorem iblk_0 (c : Dev nD) (t : Fin cfg0.N) (i : Fin 65536) (r : Fin 1024) (k : Fin 1024) (hi : i.val = t.val * 1024 + r.val) :
    iblk m c 0 t (ix2 r k) = (m ((c.tc : Thread nD τ).loc main_arg0) : Vec Ideal S65536x1024 .bf16) (ix2 i k) := by
  blk_simp [iblk]
  refine (congrFun (V_main_arg0 m c) _).trans (congrArg (m ((c.tc : Thread nD τ).loc main_arg0)) ?_)
  blk_ext [index_0]
  exact hi.symm

theorem iblk_1 (c : Dev nD) (t : Fin cfg0.N) (i : Fin 65536) (r : Fin 1024) (k : Fin 1024) (hi : i.val = t.val * 1024 + r.val) :
    iblk m c 1 t (ix2 r k) = (m ((c.tc : Thread nD τ).loc main_arg1) : Vec Ideal S65536x1024 .bf16) (ix2 i k) := by
  blk_simp [iblk]
  refine (congrFun (V_main_arg1 m c) _).trans (congrArg (m ((c.tc : Thread nD τ).loc main_arg1)) ?_)
  blk_ext [index_1]
  exact hi.symm

theorem iblk_2 (c : Dev nD) (t : Fin cfg0.N) (i : Fin 65536) (r : Fin 1024) (k : Fin 2048) (hi : i.val = t.val * 1024 + r.val) :
    iblk m c 2 t (ix2 r k) = (m ((c.tc : Thread nD τ).loc main_arg2) : Vec Ideal S65536x2048 .bf16) (ix2 i k) := by
  blk_simp [iblk]
  refine (congrFun (V_main_arg2 m c) _).trans (congrArg (m ((c.tc : Thread nD τ).loc main_arg2)) ?_)
  blk_ext [index_2]
  exact hi.symm

theorem iblk_3 (c : Dev nD) (t : Fin cfg0.N) (i : Fin 65536) (r : Fin 1024) (k : Fin 1024) (hi : i.val = t.val * 1024 + r.val) :
    iblk m c 3 t (ix2 r k) = (m ((c.tc : Thread nD τ).loc main_arg3) : Vec Ideal S65536x1024 .f32) (ix2 i k) := by
  blk_simp [iblk]
  refine (congrFun (V_main_arg3 m c) _).trans (congrArg (m ((c.tc : Thread nD τ).loc main_arg3)) ?_)
  blk_ext [index_3]
  exact hi.symm

theorem iblk_4 (c : Dev nD) (t : Fin cfg0.N) (r k : Fin 1024) :
    iblk m c 4 t (ix2 r k) = (m ((c.tc : Thread nD τ).loc main_arg4) : Vec Ideal S1024x1024 .f32) (ix2 r k) := by
  blk_simp [iblk]
  refine (congrFun (V_u m c) _).trans (congrArg (m ((c.tc : Thread nD τ).loc main_arg4)) ?_)
  blk_ext [index_4]

theorem iblk_5 (c : Dev nD) (t : Fin cfg0.N) (r k : Fin 1024) :
    iblk m c 5 t (ix2 r k) = (m ((c.tc : Thread nD τ).loc main_arg5) : Vec Ideal S1024x1024 .f32) (ix2 r k) := by
  blk_simp [iblk]
  refine (congrFun (V_v m c) _).trans (congrArg (m ((c.tc : Thread nD τ).loc main_arg5)) ?_)
  blk_ext [index_5]

theorem iblk_6 (c : Dev nD) (t : Fin cfg0.N) (r k : Fin 1024) :
    iblk m c 6 t (ix2 r k) = (m ((c.tc : Thread nD τ).loc main_arg6) : Vec Ideal S1024x1024 .f32) (ix2 r k) := by
  blk_simp [iblk]
  refine (congrFun (V_w m c) _).trans (congrArg (m ((c.tc : Thread nD τ).loc main_arg6)) ?_)
  blk_ext [index_6]

/-- The merge of the arguments. -/
abbrev result (c : Dev nD) : Vec Ideal S65536x1024 .f32 :=
  mergedArr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- A block's element is the whole array's, at the block's place. -/
theorem block_eq (c : Dev nD) (t : Fin cfg0.N) (i : Fin 65536) (r j : Fin 1024) (hi : i.val = t.val * 1024 + r.val) :
    out0_7 (iblk m c 0 t) (iblk m c 1 t) (iblk m c 2 t) (iblk m c 3 t) (iblk m c 4 t) (iblk m c 5 t) (iblk m c 6 t) (ix2 r j)
      = result m c (ix2 i j) := by
  frame_out
  refine (pay_apply _ _ _ _ _ _ _ _ r j).trans ?_
  unfold result mergedArr
  have l0 : ∀ k : Fin 1024, View.ld (iblk m c 2 t) (Rect.unit ![0, 0] ![1024, 1024] inb_S1024x2048_S1024x1024_0_0) (ix2 r k)
      = (m ((c.tc : Thread nD τ).loc main_arg2) : Vec Ideal S65536x2048 .bf16) (ix2 i ⟨k.val, by omega⟩) := fun k =>
    (View.ld_unit_apply_of (iblk m c 2 t) _ _ _ _ (ix2 r ⟨k.val, by omega⟩) (fun ax => by
      match ax with
      | ⟨0, _⟩ => exact (Nat.zero_add _).symm
      | ⟨1, _⟩ => exact (Nat.zero_add _).symm)).trans (iblk_2 m c t i r _ hi)
  have l1 : ∀ k : Fin 1024, View.ld (iblk m c 2 t) (Rect.unit ![0, 1024] ![1024, 1024] inb_S1024x2048_S1024x1024_0_1024) (ix2 r k)
      = (m ((c.tc : Thread nD τ).loc main_arg2) : Vec Ideal S65536x2048 .bf16) (ix2 i ⟨1024 + k.val, by omega⟩) := fun k =>
    (View.ld_unit_apply_of (iblk m c 2 t) _ _ _ _ (ix2 r ⟨1024 + k.val, by omega⟩) (fun ax => by
      match ax with
      | ⟨0, _⟩ => exact (Nat.zero_add _).symm
      | ⟨1, _⟩ => rfl)).trans (iblk_2 m c t i r _ hi)
  rw [funext fun l => iblk_0 m c t i r l hi, funext fun l => iblk_1 m c t i r l hi, funext l0, funext l1,
    funext fun k => iblk_3 m c t i r k hi, funext fun l => funext fun k => iblk_4 m c t l k,
    funext fun l => funext fun k => iblk_5 m c t l k, funext fun l => funext fun k => iblk_6 m c t l k]

/-- The result array after the run. -/
theorem final (c : Dev nD) : (dats m 0 c).arrAt 7 cfg0.N = result m c := by
  refine (dats m 0 c).arrAt_eq_of_covers 7 _ (by decide +kernel) fun t hf y => ?_
  have e0 : ((win0_7.blk t).view.emb y 0).val = t.val * 1024 + (y 0).val := by blk_simp [index_7]
  have e1 : ((win0_7.blk t).view.emb y 1).val = (y 1).val := by blk_simp [index_7]
  have key := block_eq m c t ((win0_7.blk t).view.emb y 0) (y 0) (y 1) e0
  have hy : (y : S1024x1024.Idx) = ix2 (y 0) (y 1) := eq_ix2 y
  have he : ((win0_7.blk t).view.emb y : S65536x1024.Idx) = ix2 ((win0_7.blk t).view.emb y 0) (y 1) := by
    refine (eq_ix2 _).trans (congrArg (ix2 _) (Fin.ext e1))
  blk_simp
  rw [after0_7]
  exact (congrArg _ hy).trans (key.trans (congrArg (result m c) he.symm))

/-- The merge runs to its end with its result array holding the merge of its arguments. -/
theorem run :
    θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c), (h c).2⟩) (Value.run_blocks m ρ)

end Cert.Kernel4Ideal.Merge

namespace Cert.Reference4Ideal.Merge

open Idealize.ShloMosaic hiding ix1 ix2 eq_ix2 addf_apply mulf_apply
open Idealize.ShloMosaic.TcCoe Idealize.ShloMosaic.ValueIdx
open Cert.Reference4Ideal.Gen Cert.Att.Row

/-- The reference's value. -/
def value (y z : FVec Ideal S65536x1024 .bf16) (a : FVec Ideal S65536x2048 .bf16) (h : FVec Ideal S65536x1024 .f32)
    (u v w : FVec Ideal S1024x1024 .f32) : FVec Ideal S65536x1024 .f32 :=
  addf h (Host.dotGeneral dot_S65536x1024_S1024x1024_S65536x1024_1_0_0_1_n_n none (addf (mulf (extractStridedSlice S65536x1024 ![0, 0] (extf .f32 a bitsLt_bf16_f32) slices_S65536x2048_S65536x1024_0_0) (Host.dotGeneral dot_S65536x1024_S1024x1024_S65536x1024_1_0_0_1_n_n none (extf .f32 y bitsLt_bf16_f32) u)) (mulf (extractStridedSlice S65536x1024 ![0, 1024] (extf .f32 a bitsLt_bf16_f32) slices_S65536x2048_S65536x1024_0_1024) (Host.dotGeneral dot_S65536x1024_S1024x1024_S65536x1024_1_0_0_1_n_n none (extf .f32 z bitsLt_bf16_f32) v))) w)

theorem value_apply (y z : FVec Ideal S65536x1024 .bf16) (a : FVec Ideal S65536x2048 .bf16) (h : FVec Ideal S65536x1024 .f32)
    (u v w : FVec Ideal S1024x1024 .f32) (r : Fin 65536) (j : Fin 1024) :
    value y z a h u v w (ix2 r j) = mergedArr y z a h u v w (ix2 r j) := by
  unfold value
  refine (addf_apply _ _ _).trans (congrArg (h (ix2 r j) + ·) ?_)
  refine (StackMember.dotGeneral_plain_apply (m := 65536) (k := 1024) (n := 1024) none _ _ r j).trans
    (Finset.sum_congr rfl fun k _ => congrArg (· * w (ix2 k j)) ?_)
  refine congrArg₂ (· + ·) ?_ ?_
  · refine (mulf_apply _ _ _).trans (congrArg₂ (· * ·) ?_ (StackMember.dotGeneral_plain_apply (m := 65536) (k := 1024) (n := 1024) none _ _ r k))
    exact extractStridedSlice_apply _ _ _ _ (ix2 r ⟨k.val, by omega⟩) (fun ax => by
      match ax with
      | ⟨0, _⟩ => exact (Nat.zero_add _).symm
      | ⟨1, _⟩ => exact (Nat.zero_add _).symm)
  · refine (mulf_apply _ _ _).trans (congrArg₂ (· * ·) ?_ (StackMember.dotGeneral_plain_apply (m := 65536) (k := 1024) (n := 1024) none _ _ r k))
    exact extractStridedSlice_apply _ _ _ _ (ix2 r ⟨1024 + k.val, by omega⟩) (fun ax => by
      match ax with
      | ⟨0, _⟩ => exact (Nat.zero_add _).symm
      | ⟨1, _⟩ => rfl)

/-- The reference's value is the merge of its arguments. -/
theorem value_eq (y z : FVec Ideal S65536x1024 .bf16) (a : FVec Ideal S65536x2048 .bf16) (h : FVec Ideal S65536x1024 .f32)
    (u v w : FVec Ideal S1024x1024 .f32) : value y z a h u v w = mergedArr y z a h u v w :=
  funext fun i => (congrArg (value y z a h u v w) (eq_ix2 i)).trans
    ((value_apply y z a h u v w (i 0) (i 1)).trans (congrArg (mergedArr y z a h u v w) (eq_ix2 i).symm))

end Cert.Reference4Ideal.Merge

end
-- ==== Proof.Ffn2.lean ====
/-
  The second feed-forward block: its result array, element by element on the extended reals.
-/
module

public import proofs.«01_k».proof.Proof.Row
public import proofs.«01_k».proof.Proof.Gen.Kernel2Ideal.Value
public import Idealize.ShloMosaic.Lib.Pipeline.ValueKit

@[expose] public section

noncomputable section

namespace Cert.Kernel2Ideal.Ffn

open Idealize.ShloMosaic hiding ix1 ix2 eq_ix2 addf_apply mulf_apply
open Idealize.ShloMosaic.TcCoe Idealize.ShloMosaic.ValueIdx
open Idealize.SL Idealize.SL.Sem
open Cert.Kernel2Ideal.Gen Cert.Att.Row

/-! ## What the body stores -/

theorem pay2_apply (x : Vec Ideal S1024x1024 .f32) (g : Vec Ideal S1x1024 .f32) (r j : Fin 1024) :
    k0_pay2 x g (ix2 r j) = rms (fun k => x (ix2 r k)) (fun k => g (ix2 (0 : Fin 1) k)) j := by
  unfold k0_pay2
  simp only [shapeCast_self]
  exact normV_apply (a := 1024) (b := 1024) x g reduces_S1024x1024_S1024 shapeCasts_S1024_S1024x1 broadcasts_S1024x1_S1024x1024
    broadcasts_S1x1024_S1024x1024 r j

theorem pay3_eq (x : Vec Ideal S1024x1024 .f32) (g : Vec Ideal S1x1024 .f32) (w u : Vec Ideal S1024x512 .bf16) :
    k0_pay3 x g w u = gateV (a := 1024) (b := 1024) (c := 512) (k0_pay2 x g) w u := by
  unfold k0_pay3
  simp only [shapeCast_self]
  rfl

theorem pay6_eq (x : Vec Ideal S1024x1024 .f32) (g : Vec Ideal S1x1024 .f32) (w u : Vec Ideal S1024x512 .bf16) :
    k0_pay6 (k0_pay4 x g u) (k0_pay5 x g w) = gateV (a := 1024) (b := 1024) (c := 512) (k0_pay2 x g) w u := by
  unfold k0_pay6 k0_pay4 k0_pay5
  simp only [shapeCast_self]
  rfl

theorem pay7_eq (x : FVec Ideal S1024x1024 .bf16) (w u : Vec Ideal S1024x512 .bf16) :
    k0_pay7 x w u = gateV (a := 1024) (b := 1024) (c := 512) x w u := by
  unfold k0_pay7
  simp only [shapeCast_self]
  rfl

theorem pay8_eq (x : FVec Ideal S1024x1024 .bf16) (w u : Vec Ideal S1024x512 .bf16) :
    k0_pay8 x w u = gateV (a := 1024) (b := 1024) (c := 512) x w u := by
  unfold k0_pay8
  simp only [shapeCast_self]
  rfl

theorem pay10_eq (x : FVec Ideal S1024x1024 .bf16) (w u : Vec Ideal S1024x512 .bf16) :
    k0_pay10 x (k0_pay9 x w) u = gateV (a := 1024) (b := 1024) (c := 512) x w u := by
  unfold k0_pay10 k0_pay9
  simp only [shapeCast_self]
  rfl

theorem pay11_eq (x : FVec Ideal S1024x1024 .bf16) (w u : Vec Ideal S1024x256 .bf16) :
    k0_pay11 x w u = gateV (a := 1024) (b := 1024) (c := 256) x w u := by
  unfold k0_pay11
  simp only [shapeCast_self]
  rfl

theorem pay12_eq (x : Vec Ideal S1024x1024 .f32) (h : Vec Ideal S1024x2816 .bf16) (v : Vec Ideal S2816x1024 .bf16) :
    k0_pay12 x h v = halfV (a := 1024) (b := 2816) (c := 1024) x h v := by
  unfold k0_pay12
  simp only [shapeCast_self]
  rfl

/-- The scratch buffer after its six stores holds the gated units. -/
theorem scratch_eq (x : Vec Ideal S1024x1024 .f32) (g : Vec Ideal S1x1024 .f32) (w : Vec Ideal S1024x5632 .bf16) :
    (View.whole cc0_scratch0).readCov
          [⟨Rect.unit ![0, 2560] ![1024, 256] inb_S1024x2816_S1024x256_0_2560,
              k0_pay11 (k0_pay2 x g)
                (View.ld w (Rect.unit ![0, 2560] ![1024, 256] inb_S1024x5632_S1024x256_0_2560))
                (View.ld w (Rect.unit ![0, 5376] ![1024, 256] inb_S1024x5632_S1024x256_0_5376))⟩,
            ⟨Rect.unit ![0, 2048] ![1024, 512] inb_S1024x2816_S1024x512_0_2048,
              k0_pay10 (k0_pay2 x g)
                (k0_pay9 (k0_pay2 x g)
                  (View.ld w (Rect.unit ![0, 2048] ![1024, 512] inb_S1024x5632_S1024x512_0_2048)))
                (View.ld w (Rect.unit ![0, 4864] ![1024, 512] inb_S1024x5632_S1024x512_0_4864))⟩,
            ⟨Rect.unit ![0, 1536] ![1024, 512] inb_S1024x2816_S1024x512_0_1536,
              k0_pay8 (k0_pay2 x g)
                (View.ld w (Rect.unit ![0, 1536] ![1024, 512] inb_S1024x5632_S1024x512_0_1536))
                (View.ld w (Rect.unit ![0, 4352] ![1024, 512] inb_S1024x5632_S1024x512_0_4352))⟩,
            ⟨Rect.unit ![0, 1024] ![1024, 512] inb_S1024x2816_S1024x512_0_1024,
              k0_pay7 (k0_pay2 x g)
                (View.ld w (Rect.unit ![0, 1024] ![1024, 512] inb_S1024x5632_S1024x512_0_1024))
                (View.ld w (Rect.unit ![0, 3840] ![1024, 512] inb_S1024x5632_S1024x512_0_3840))⟩,
            ⟨Rect.unit ![0, 512] ![1024, 512] inb_S1024x2816_S1024x512_0_512,
              k0_pay6
                (k0_pay4 x g
                  (View.ld w (Rect.unit ![0, 3328] ![1024, 512] inb_S1024x5632_S1024x512_0_3328)))
                (k0_pay5 x g
                  (View.ld w (Rect.unit ![0, 512] ![1024, 512] inb_S1024x5632_S1024x512_0_512)))⟩,
            ⟨Rect.unit ![0, 0] ![1024, 512] inb_S1024x2816_S1024x512_0_0,
              k0_pay3 x g
                (View.ld w (Rect.unit ![0, 0] ![1024, 512] inb_S1024x5632_S1024x512_0_0))
                (View.ld w (Rect.unit ![0, 2816] ![1024, 512] inb_S1024x5632_S1024x512_0_2816))⟩]
          (Rect.unit ![0, 0] ![1024, 2816] inb_S1024x2816_S1024x2816_0_0).toLoadRect
      = hidden (k0_pay2 x g) w := by
  rw [View.readCov_eq_canon']
  funext y
  have hy : (Rect.unit (s := S1024x2816) ![0, 0] ![1024, 2816] inb_S1024x2816_S1024x2816_0_0).toLoadRect.idx y = y := by
    funext ax
    apply Fin.ext
    match ax with
    | ⟨0, _⟩ => show 0 + 1 * (y 0).val = (y 0).val; omega
    | ⟨1, _⟩ => show 0 + 1 * (y 1).val = (y 1).val; omega
  rw [hy]
  refine View.canon_eq_of_allAt _ y _ (cover_six _ _ _ _ _ _ _ _ _ _ _ _ y) ?_
  refine View.allAt_cons_unit _ _ _ _ _ (fun z hz => (congrFun (pay11_eq _ _ _) z).trans (part (k0_pay2 x g) w 2560 5376 256 rfl _ _ y z hz)) ?_
  refine View.allAt_cons_unit _ _ _ _ _ (fun z hz => (congrFun (pay10_eq _ _ _) z).trans (part (k0_pay2 x g) w 2048 4864 512 rfl _ _ y z hz)) ?_
  refine View.allAt_cons_unit _ _ _ _ _ (fun z hz => (congrFun (pay8_eq _ _ _) z).trans (part (k0_pay2 x g) w 1536 4352 512 rfl _ _ y z hz)) ?_
  refine View.allAt_cons_unit _ _ _ _ _ (fun z hz => (congrFun (pay7_eq _ _ _) z).trans (part (k0_pay2 x g) w 1024 3840 512 rfl _ _ y z hz)) ?_
  refine View.allAt_cons_unit _ _ _ _ _ (fun z hz => (congrFun (pay6_eq _ _ _ _) z).trans (part (k0_pay2 x g) w 512 3328 512 rfl _ _ y z hz)) ?_
  refine View.allAt_cons_unit _ _ _ _ _ (fun z hz => (congrFun (pay3_eq _ _ _ _) z).trans (part (k0_pay2 x g) w 0 2816 512 rfl _ _ y z hz)) ?_
  exact View.allAt_nil _ _

/-- The half step of a block, at an entry. -/
theorem half_apply (x : Vec Ideal S1024x1024 .f32) (g : Vec Ideal S1x1024 .f32) (w : Vec Ideal S1024x5632 .bf16)
    (v : Vec Ideal S2816x1024 .bf16) (r j : Fin 1024) :
    k0_pay12 x (hidden (k0_pay2 x g) w) v (ix2 r j)
      = half (fun k => x (ix2 r k)) (fun k => g (ix2 (0 : Fin 1) k)) (fun k f => w (ix2 k f)) (fun f j => v (ix2 f j)) j :=
  (congrFun (pay12_eq x _ v) _).trans (half_block x (fun k => g (ix2 (0 : Fin 1) k)) (k0_pay2 x g) w v r j fun k => pay2_apply x g r k)

/-- The norm of a block's half step, at an entry. -/
theorem norm_apply (x : Vec Ideal S1024x1024 .f32) (h : Vec Ideal S1024x2816 .bf16) (v : Vec Ideal S2816x1024 .bf16)
    (g : Vec Ideal S1x1024 .f32) (r j : Fin 1024) :
    k0_pay1 (k0_pay12 x h v) (k0_pay13 g) (k0_pay14 x h v) (ix2 r j)
      = rms (fun k => k0_pay12 x h v (ix2 r k)) (fun k => g (ix2 (0 : Fin 1) k)) j := by
  unfold k0_pay1 k0_pay13 k0_pay14
  simp only [shapeCast_self]
  exact normV_apply (a := 1024) (b := 1024) (k0_pay12 x h v) g reduces_S1024x1024_S1024 shapeCasts_S1024_S1024x1
    broadcasts_S1024x1_S1024x1024 broadcasts_S1x1024_S1024x1024 r j

/-! ## The blocks -/

variable (m : (ℓ : Loc nD τ sig) → Buf (Elt Ideal) ℓ) (ρ : Dev nD → PrngReg)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)

theorem V_w (c : Dev nD) : (V m c main_v0 : S1024x5632.Idx → EReal) = (m ((c.tc : Thread nD τ).loc main_arg2) : S1024x5632.Idx → EReal) := by
  unfold V
  after_results_simp
  rfl

theorem V_v (c : Dev nD) : (V m c main_v2 : S2816x1024.Idx → EReal) = (m ((c.tc : Thread nD τ).loc main_arg3) : S2816x1024.Idx → EReal) := by
  unfold V
  after_results_simp
  rfl

theorem V_g (c : Dev nD) (k : Fin 1024) : (V m c main_v1 : S1x1024.Idx → EReal) (ix2 (0 : Fin 1) k)
    = (m ((c.tc : Thread nD τ).loc main_arg1) : S1024.Idx → EReal) (ix1 k) := by
  unfold V
  after_results_simp
  exact cast_row (b := 1024) _ _ 0 k

theorem V_o (c : Dev nD) (k : Fin 1024) : (V m c main_v3 : S1x1024.Idx → EReal) (ix2 (0 : Fin 1) k)
    = (m ((c.tc : Thread nD τ).loc main_arg4) : S1024.Idx → EReal) (ix1 k) := by
  unfold V
  after_results_simp
  exact cast_row (b := 1024) _ _ 0 k

theorem iblk_0 (c : Dev nD) (t : Fin cfg0.N) (i : Fin 65536) (r : Fin 1024) (k : Fin 1024) (hi : i.val = t.val * 1024 + r.val) :
    iblk m c 0 t (ix2 r k) = (m ((c.tc : Thread nD τ).loc main_arg0) : Vec Ideal S65536x1024 .f32) (ix2 i k) := by
  blk_simp [iblk]
  refine (congrFun (V_main_arg0 m c) _).trans (congrArg (m ((c.tc : Thread nD τ).loc main_arg0)) ?_)
  blk_ext [index_0]
  exact hi.symm

theorem iblk_1 (c : Dev nD) (t : Fin cfg0.N) (k : Fin 1024) :
    iblk m c 1 t (ix2 (0 : Fin 1) k) = (m ((c.tc : Thread nD τ).loc main_arg1) : Vec Ideal S1024 .f32) (ix1 k) := by
  blk_simp [iblk]
  refine (congrArg (V m c main_v1 : S1x1024.Idx → EReal) ?_).trans (V_g m c k)
  blk_ext [index_1]

theorem iblk_2 (c : Dev nD) (t : Fin cfg0.N) (k : Fin 1024) (f : Fin 5632) :
    iblk m c 2 t (ix2 k f) = (m ((c.tc : Thread nD τ).loc main_arg2) : Vec Ideal S1024x5632 .f32) (ix2 k f) := by
  blk_simp [iblk]
  refine (congrFun (V_w m c) _).trans (congrArg (m ((c.tc : Thread nD τ).loc main_arg2)) ?_)
  blk_ext [index_2]

theorem iblk_3 (c : Dev nD) (t : Fin cfg0.N) (f : Fin 2816) (k : Fin 1024) :
    iblk m c 3 t (ix2 f k) = (m ((c.tc : Thread nD τ).loc main_arg3) : Vec Ideal S2816x1024 .f32) (ix2 f k) := by
  blk_simp [iblk]
  refine (congrFun (V_v m c) _).trans (congrArg (m ((c.tc : Thread nD τ).loc main_arg3)) ?_)
  blk_ext [index_3]

theorem iblk_4 (c : Dev nD) (t : Fin cfg0.N) (k : Fin 1024) :
    iblk m c 4 t (ix2 (0 : Fin 1) k) = (m ((c.tc : Thread nD τ).loc main_arg4) : Vec Ideal S1024 .f32) (ix1 k) := by
  blk_simp [iblk]
  refine (congrArg (V m c main_v3 : S1x1024.Idx → EReal) ?_).trans (V_o m c k)
  blk_ext [index_4]

/-- The half step of the arguments. -/
abbrev step (c : Dev nD) : Vec Ideal S65536x1024 .f32 :=
  halfArr (m ((c.tc : Thread nD τ).loc main_arg0)) (m ((c.tc : Thread nD τ).loc main_arg1)) (m ((c.tc : Thread nD τ).loc main_arg2))
    (m ((c.tc : Thread nD τ).loc main_arg3))

/-- The norm of the half step of the arguments. -/
abbrev result (c : Dev nD) : Vec Ideal S65536x1024 .f32 := rmsArr (step m c) (m ((c.tc : Thread nD τ).loc main_arg4))

/-- A block's half step is the whole array's, at the block's place. -/
theorem step_eq (c : Dev nD) (t : Fin cfg0.N) (i : Fin 65536) (r j : Fin 1024) (hi : i.val = t.val * 1024 + r.val) :
    k0_pay12 (iblk m c 0 t) (hidden (k0_pay2 (iblk m c 0 t) (iblk m c 1 t)) (iblk m c 2 t)) (iblk m c 3 t) (ix2 r j)
      = step m c (ix2 i j) := by
  refine (half_apply (iblk m c 0 t) (iblk m c 1 t) (iblk m c 2 t) (iblk m c 3 t) r j).trans ?_
  rw [funext fun k => iblk_0 m c t i r k hi, funext fun k => iblk_1 m c t k, funext fun k => funext fun f => iblk_2 m c t k f,
    funext fun f => funext fun k => iblk_3 m c t f k]
  rfl

/-- A block's element is the whole array's, at the block's place. -/
theorem block_eq (c : Dev nD) (t : Fin cfg0.N) (i : Fin 65536) (r j : Fin 1024) (hi : i.val = t.val * 1024 + r.val) :
    outsAt0 m c t (ix2 r j) = result m c (ix2 i j) := by
  unfold outsAt0
  frame_out
  rw [scratch_eq]
  refine (norm_apply _ _ _ _ r j).trans ?_
  rw [funext fun k => step_eq m c t i r k hi, funext fun k => iblk_4 m c t k]
  rfl

/-- The result array after the run. -/
theorem final (c : Dev nD) : (dats m 0 c).arrAt 5 cfg0.N = result m c := by
  refine (dats m 0 c).arrAt_eq_of_covers 5 _ (by decide +kernel) fun t hf y => ?_
  have e0 : ((win0_5.blk t).view.emb y 0).val = t.val * 1024 + (y 0).val := by blk_simp [index_5]
  have e1 : ((win0_5.blk t).view.emb y 1).val = (y 1).val := by blk_simp [index_5]
  have key := block_eq m c t ((win0_5.blk t).view.emb y 0) (y 0) (y 1) e0
  have hy : (y : S1024x1024.Idx) = ix2 (y 0) (y 1) := eq_ix2 y
  have he : ((win0_5.blk t).view.emb y : S65536x1024.Idx) = ix2 ((win0_5.blk t).view.emb y 0) (y 1) := by
    refine (eq_ix2 _).trans (congrArg (ix2 _) (Fin.ext e1))
  blk_simp
  rw [after0_5]
  exact (congrArg _ hy).trans (key.trans (congrArg (result m c) he.symm))

/-- The second feed-forward block runs to its end with its result array holding the norm of the half step of its arguments. -/
theorem run :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final m c), (h c).2⟩) (Value.run_blocks m ρ)

end Cert.Kernel2Ideal.Ffn

end
-- ==== Proof.Ffn1.lean ====
/-
  The first feed-forward block: its result arrays, element by element on the extended reals.
-/
module

public import proofs.«01_k».proof.Proof.Row
public import proofs.«01_k».proof.Proof.Ffn2
public import proofs.«01_k».proof.Proof.Gen.Kernel3Ideal.Value
public import Idealize.ShloMosaic.Lib.Pipeline.ValueKit

@[expose] public section

noncomputable section

namespace Cert.Kernel3Ideal.Ffn

open Idealize.ShloMosaic hiding ix1 ix2 eq_ix2 addf_apply mulf_apply
open Idealize.ShloMosaic.TcCoe Idealize.ShloMosaic.ValueIdx
open Idealize.SL Idealize.SL.Sem
open Cert.Kernel3Ideal.Gen Cert.Att.Row

/-! ## What the body stores -/

theorem pay2_apply (x : Vec Ideal S1024x1024 .f32) (g : Vec Ideal S1x1024 .f32) (r j : Fin 1024) :
    k0_pay2 x g (ix2 r j) = rms (fun k => x (ix2 r k)) (fun k => g (ix2 (0 : Fin 1) k)) j :=
  Cert.Kernel2Ideal.Ffn.pay2_apply x g r j

theorem pay3_eq (x : Vec Ideal S1024x1024 .f32) (g : Vec Ideal S1x1024 .f32) (w u : Vec Ideal S1024x512 .bf16) :
    k0_pay3 x g w u = gateV (a := 1024) (b := 1024) (c := 512) (k0_pay2 x g) w u :=
  Cert.Kernel2Ideal.Ffn.pay3_eq x g w u

theorem pay6_eq (x : Vec Ideal S1024x1024 .f32) (g : Vec Ideal S1x1024 .f32) (w u : Vec Ideal S1024x512 .bf16) :
    k0_pay6 (k0_pay4 x g u) (k0_pay5 x g w) = gateV (a := 1024) (b := 1024) (c := 512) (k0_pay2 x g) w u :=
  Cert.Kernel2Ideal.Ffn.pay6_eq x g w u

theorem pay7_eq (x : FVec Ideal S1024x1024 .bf16) (w u : Vec Ideal S1024x512 .bf16) :
    k0_pay7 x w u = gateV (a := 1024) (b := 1024) (c := 512) x w u :=
  Cert.Kernel2Ideal.Ffn.pay7_eq x w u

theorem pay8_eq (x : FVec Ideal S1024x1024 .bf16) (w u : Vec Ideal S1024x512 .bf16) :
    k0_pay8 x w u = gateV (a := 1024) (b := 1024) (c := 512) x w u :=
  Cert.Kernel2Ideal.Ffn.pay8_eq x w u

theorem pay10_eq (x : FVec Ideal S1024x1024 .bf16) (w u : Vec Ideal S1024x512 .bf16) :
    k0_pay10 x (k0_pay9 x w) u = gateV (a := 1024) (b := 1024) (c := 512) x w u :=
  Cert.Kernel2Ideal.Ffn.pay10_eq x w u

theorem pay11_eq (x : FVec Ideal S1024x1024 .bf16) (w u : Vec Ideal S1024x256 .bf16) :
    k0_pay11 x w u = gateV (a := 1024) (b := 1024) (c := 256) x w u :=
  Cert.Kernel2Ideal.Ffn.pay11_eq x w u

theorem pay12_eq (x : Vec Ideal S1024x1024 .f32) (h : Vec Ideal S1024x2816 .bf16) (v : Vec Ideal S2816x1024 .bf16) :
    k0_pay12 x h v = halfV (a := 1024) (b := 2816) (c := 1024) x h v :=
  Cert.Kernel2Ideal.Ffn.pay12_eq x h v

/-- The scratch buffer after its six stores holds the gated units. -/
theorem scratch_eq (x : Vec Ideal S1024x1024 .f32) (g : Vec Ideal S1x1024 .f32) (w : Vec Ideal S1024x5632 .bf16) :
    (View.whole cc0_scratch0).readCov
          [⟨Rect.unit ![0, 2560] ![1024, 256] inb_S1024x2816_S1024x256_0_2560,
              k0_pay11 (k0_pay2 x g)
                (View.ld w (Rect.unit ![0, 2560] ![1024, 256] inb_S1024x5632_S1024x256_0_2560))
                (View.ld w (Rect.unit ![0, 5376] ![1024, 256] inb_S1024x5632_S1024x256_0_5376))⟩,
            ⟨Rect.unit ![0, 2048] ![1024, 512] inb_S1024x2816_S1024x512_0_2048,
              k0_pay10 (k0_pay2 x g)
                (k0_pay9 (k0_pay2 x g)
                  (View.ld w (Rect.unit ![0, 2048] ![1024, 512] inb_S1024x5632_S1024x512_0_2048)))
                (View.ld w (Rect.unit ![0, 4864] ![1024, 512] inb_S1024x5632_S1024x512_0_4864))⟩,
            ⟨Rect.unit ![0, 1536] ![1024, 512] inb_S1024x2816_S1024x512_0_1536,
              k0_pay8 (k0_pay2 x g)
                (View.ld w (Rect.unit ![0, 1536] ![1024, 512] inb_S1024x5632_S1024x512_0_1536))
                (View.ld w (Rect.unit ![0, 4352] ![1024, 512] inb_S1024x5632_S1024x512_0_4352))⟩,
            ⟨Rect.unit ![0, 1024] ![1024, 512] inb_S1024x2816_S1024x512_0_1024,
              k0_pay7 (k0_pay2 x g)
                (View.ld w (Rect.unit ![0, 1024] ![1024, 512] inb_S1024x5632_S1024x512_0_1024))
                (View.ld w (Rect.unit ![0, 3840] ![1024, 512] inb_S1024x5632_S1024x512_0_3840))⟩,
            ⟨Rect.unit ![0, 512] ![1024, 512] inb_S1024x2816_S1024x512_0_512,
              k0_pay6
                (k0_pay4 x g
                  (View.ld w (Rect.unit ![0, 3328] ![1024, 512] inb_S1024x5632_S1024x512_0_3328)))
                (k0_pay5 x g
                  (View.ld w (Rect.unit ![0, 512] ![1024, 512] inb_S1024x5632_S1024x512_0_512)))⟩,
            ⟨Rect.unit ![0, 0] ![1024, 512] inb_S1024x2816_S1024x512_0_0,
              k0_pay3 x g
                (View.ld w (Rect.unit ![0, 0] ![1024, 512] inb_S1024x5632_S1024x512_0_0))
                (View.ld w (Rect.unit ![0, 2816] ![1024, 512] inb_S1024x5632_S1024x512_0_2816))⟩]
          (Rect.unit ![0, 0] ![1024, 2816] inb_S1024x2816_S1024x2816_0_0).toLoadRect
      = hidden (k0_pay2 x g) w := by
  rw [View.readCov_eq_canon']
  funext y
  have hy : (Rect.unit (s := S1024x2816) ![0, 0] ![1024, 2816] inb_S1024x2816_S1024x2816_0_0).toLoadRect.idx y = y := by
    funext ax
    apply Fin.ext
    match ax with
    | ⟨0, _⟩ => show 0 + 1 * (y 0).val = (y 0).val; omega
    | ⟨1, _⟩ => show 0 + 1 * (y 1).val = (y 1).val; omega
  rw [hy]
  refine View.canon_eq_of_allAt _ y _ (cover_six _ _ _ _ _ _ _ _ _ _ _ _ y) ?_
  refine View.allAt_cons_unit _ _ _ _ _ (fun z hz => (congrFun (pay11_eq _ _ _) z).trans (part (k0_pay2 x g) w 2560 5376 256 rfl _ _ y z hz)) ?_
  refine View.allAt_cons_unit _ _ _ _ _ (fun z hz => (congrFun (pay10_eq _ _ _) z).trans (part (k0_pay2 x g) w 2048 4864 512 rfl _ _ y z hz)) ?_
  refine View.allAt_cons_unit _ _ _ _ _ (fun z hz => (congrFun (pay8_eq _ _ _) z).trans (part (k0_pay2 x g) w 1536 4352 512 rfl _ _ y z hz)) ?_
  refine View.allAt_cons_unit _ _ _ _ _ (fun z hz => (congrFun (pay7_eq _ _ _) z).trans (part (k0_pay2 x g) w 1024 3840 512 rfl _ _ y z hz)) ?_
  refine View.allAt_cons_unit _ _ _ _ _ (fun z hz => (congrFun (pay6_eq _ _ _ _) z).trans (part (k0_pay2 x g) w 512 3328 512 rfl _ _ y z hz)) ?_
  refine View.allAt_cons_unit _ _ _ _ _ (fun z hz => (congrFun (pay3_eq _ _ _ _) z).trans (part (k0_pay2 x g) w 0 2816 512 rfl _ _ y z hz)) ?_
  exact View.allAt_nil _ _

/-- The half step of a block, at an entry. -/
theorem half_apply (x : Vec Ideal S1024x1024 .f32) (g : Vec Ideal S1x1024 .f32) (w : Vec Ideal S1024x5632 .bf16)
    (v : Vec Ideal S2816x1024 .bf16) (r j : Fin 1024) :
    k0_pay12 x (hidden (k0_pay2 x g) w) v (ix2 r j)
      = half (fun k => x (ix2 r k)) (fun k => g (ix2 (0 : Fin 1) k)) (fun k f => w (ix2 k f)) (fun f j => v (ix2 f j)) j :=
  (congrFun (pay12_eq x _ v) _).trans (half_block x (fun k => g (ix2 (0 : Fin 1) k)) (k0_pay2 x g) w v r j fun k => pay2_apply x g r k)

/-- The norm of a block's half step, at an entry. -/
theorem norm_apply (x : Vec Ideal S1024x1024 .f32) (h : Vec Ideal S1024x2816 .bf16) (v : Vec Ideal S2816x1024 .bf16)
    (g : Vec Ideal S1x1024 .f32) (r j : Fin 1024) :
    k0_pay1 (k0_pay12 x h v) (k0_pay13 g) (k0_pay14 x h v) (ix2 r j)
      = rms (fun k => k0_pay12 x h v (ix2 r k)) (fun k => g (ix2 (0 : Fin 1) k)) j :=
  Cert.Kernel2Ideal.Ffn.norm_apply x h v g r j

/-! ## The blocks -/

variable (m : (ℓ : Loc nD τ sig) → Buf (Elt Ideal) ℓ) (ρ : Dev nD → PrngReg)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)

theorem V_w (c : Dev nD) : (V m c main_v0 : S1024x5632.Idx → EReal) = (m ((c.tc : Thread nD τ).loc main_arg2) : S1024x5632.Idx → EReal) := by
  unfold V
  after_results_simp
  rfl

theorem V_v (c : Dev nD) : (V m c main_v2 : S2816x1024.Idx → EReal) = (m ((c.tc : Thread nD τ).loc main_arg3) : S2816x1024.Idx → EReal) := by
  unfold V
  after_results_simp
  rfl

theorem V_g (c : Dev nD) (k : Fin 1024) : (V m c main_v1 : S1x1024.Idx → EReal) (ix2 (0 : Fin 1) k)
    = (m ((c.tc : Thread nD τ).loc main_arg1) : S1024.Idx → EReal) (ix1 k) := by
  unfold V
  after_results_simp
  exact cast_row (b := 1024) _ _ 0 k

theorem V_o (c : Dev nD) (k : Fin 1024) : (V m c main_v3 : S1x1024.Idx → EReal) (ix2 (0 : Fin 1) k)
    = (m ((c.tc : Thread nD τ).loc main_arg4) : S1024.Idx → EReal) (ix1 k) := by
  unfold V
  after_results_simp
  exact cast_row (b := 1024) _ _ 0 k

theorem iblk_0 (c : Dev nD) (t : Fin cfg0.N) (i : Fin 65536) (r : Fin 1024) (k : Fin 1024) (hi : i.val = t.val * 1024 + r.val) :
    iblk m c 0 t (ix2 r k) = (m ((c.tc : Thread nD τ).loc main_arg0) : Vec Ideal S65536x1024 .f32) (ix2 i k) := by
  blk_simp [iblk]
  refine (congrFun (V_main_arg0 m c) _).trans (congrArg (m ((c.tc : Thread nD τ).loc main_arg0)) ?_)
  blk_ext [index_0]
  exact hi.symm

theorem iblk_1 (c : Dev nD) (t : Fin cfg0.N) (k : Fin 1024) :
    iblk m c 1 t (ix2 (0 : Fin 1) k) = (m ((c.tc : Thread nD τ).loc main_arg1) : Vec Ideal S1024 .f32) (ix1 k) := by
  blk_simp [iblk]
  refine (congrArg (V m c main_v1 : S1x1024.Idx → EReal) ?_).trans (V_g m c k)
  blk_ext [index_1]

theorem iblk_2 (c : Dev nD) (t : Fin cfg0.N) (k : Fin 1024) (f : Fin 5632) :
    iblk m c 2 t (ix2 k f) = (m ((c.tc : Thread nD τ).loc main_arg2) : Vec Ideal S1024x5632 .f32) (ix2 k f) := by
  blk_simp [iblk]
  refine (congrFun (V_w m c) _).trans (congrArg (m ((c.tc : Thread nD τ).loc main_arg2)) ?_)
  blk_ext [index_2]

theorem iblk_3 (c : Dev nD) (t : Fin cfg0.N) (f : Fin 2816) (k : Fin 1024) :
    iblk m c 3 t (ix2 f k) = (m ((c.tc : Thread nD τ).loc main_arg3) : Vec Ideal S2816x1024 .f32) (ix2 f k) := by
  blk_simp [iblk]
  refine (congrFun (V_v m c) _).trans (congrArg (m ((c.tc : Thread nD τ).loc main_arg3)) ?_)
  blk_ext [index_3]

theorem iblk_4 (c : Dev nD) (t : Fin cfg0.N) (k : Fin 1024) :
    iblk m c 4 t (ix2 (0 : Fin 1) k) = (m ((c.tc : Thread nD τ).loc main_arg4) : Vec Ideal S1024 .f32) (ix1 k) := by
  blk_simp [iblk]
  refine (congrArg (V m c main_v3 : S1x1024.Idx → EReal) ?_).trans (V_o m c k)
  blk_ext [index_4]

/-- The half step of the arguments. -/
abbrev step (c : Dev nD) : Vec Ideal S65536x1024 .f32 :=
  halfArr (m ((c.tc : Thread nD τ).loc main_arg0)) (m ((c.tc : Thread nD τ).loc main_arg1)) (m ((c.tc : Thread nD τ).loc main_arg2))
    (m ((c.tc : Thread nD τ).loc main_arg3))

/-- The norm of the half step of the arguments. -/
abbrev result (c : Dev nD) : Vec Ideal S65536x1024 .bf16 := rmsArr (step m c) (m ((c.tc : Thread nD τ).loc main_arg4))

/-- A block's half step is the whole array's, at the block's place. -/
theorem step_eq (c : Dev nD) (t : Fin cfg0.N) (i : Fin 65536) (r j : Fin 1024) (hi : i.val = t.val * 1024 + r.val) :
    k0_pay12 (iblk m c 0 t) (hidden (k0_pay2 (iblk m c 0 t) (iblk m c 1 t)) (iblk m c 2 t)) (iblk m c 3 t) (ix2 r j)
      = step m c (ix2 i j) := by
  refine (half_apply (iblk m c 0 t) (iblk m c 1 t) (iblk m c 2 t) (iblk m c 3 t) r j).trans ?_
  rw [funext fun k => iblk_0 m c t i r k hi, funext fun k => iblk_1 m c t k, funext fun k => funext fun f => iblk_2 m c t k f,
    funext fun f => funext fun k => iblk_3 m c t f k]
  rfl

/-- A block's half step, as stored, is the whole array's. -/
theorem block_eq_5 (c : Dev nD) (t : Fin cfg0.N) (i : Fin 65536) (r j : Fin 1024) (hi : i.val = t.val * 1024 + r.val) :
    (outsAt0 m c t).1 (ix2 r j) = step m c (ix2 i j) := by
  unfold outsAt0
  frame_out
  rw [scratch_eq]
  exact step_eq m c t i r j hi

/-- A block's norm, as stored, is the whole array's. -/
theorem block_eq_6 (c : Dev nD) (t : Fin cfg0.N) (i : Fin 65536) (r j : Fin 1024) (hi : i.val = t.val * 1024 + r.val) :
    (outsAt0 m c t).2 (ix2 r j) = result m c (ix2 i j) := by
  unfold outsAt0
  frame_out
  rw [scratch_eq]
  refine (norm_apply _ _ _ _ r j).trans ?_
  rw [funext fun k => step_eq m c t i r k hi, funext fun k => iblk_4 m c t k]
  rfl

/-- The half step after the run. -/
theorem final_5 (c : Dev nD) : (dats m 0 c).arrAt 5 cfg0.N = step m c := by
  refine (dats m 0 c).arrAt_eq_of_covers 5 _ (by decide +kernel) fun t hf y => ?_
  have e0 : ((win0_5.blk t).view.emb y 0).val = t.val * 1024 + (y 0).val := by blk_simp [index_5]
  have e1 : ((win0_5.blk t).view.emb y 1).val = (y 1).val := by blk_simp [index_5]
  have key := block_eq_5 m c t ((win0_5.blk t).view.emb y 0) (y 0) (y 1) e0
  have hy : (y : S1024x1024.Idx) = ix2 (y 0) (y 1) := eq_ix2 y
  have he : ((win0_5.blk t).view.emb y : S65536x1024.Idx) = ix2 ((win0_5.blk t).view.emb y 0) (y 1) := by
    refine (eq_ix2 _).trans (congrArg (ix2 _) (Fin.ext e1))
  blk_simp
  rw [after0_5]
  exact (congrArg _ hy).trans (key.trans (congrArg (step m c) he.symm))

/-- The norm after the run. -/
theorem final_6 (c : Dev nD) : (dats m 0 c).arrAt 6 cfg0.N = result m c := by
  refine (dats m 0 c).arrAt_eq_of_covers 6 _ (by decide +kernel) fun t hf y => ?_
  have e0 : ((win0_6.blk t).view.emb y 0).val = t.val * 1024 + (y 0).val := by blk_simp [index_6]
  have e1 : ((win0_6.blk t).view.emb y 1).val = (y 1).val := by blk_simp [index_6]
  have key := block_eq_6 m c t ((win0_6.blk t).view.emb y 0) (y 0) (y 1) e0
  have hy : (y : S1024x1024.Idx) = ix2 (y 0) (y 1) := eq_ix2 y
  have he : ((win0_6.blk t).view.emb y : S65536x1024.Idx) = ix2 ((win0_6.blk t).view.emb y 0) (y 1) := by
    refine (eq_ix2 _).trans (congrArg (ix2 _) (Fin.ext e1))
  blk_simp
  rw [after0_6]
  exact (congrArg _ hy).trans (key.trans (congrArg (result m c) he.symm))

/-- The first feed-forward block runs to its end with its result arrays holding the half step of its arguments and its norm. -/
theorem run :
    θ_run defs (onTc (τ := τ) (main (F := Ideal))) ⟨m, fun _ => 0, ρ⟩ (fun r => ∀ c : Dev nD,
      r.2.mem ((c.tc : Thread nD τ).loc main_v4_0) = step m c
      ∧ r.2.mem ((c.tc : Thread nD τ).loc main_v4_1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final_5 m c), (h c).2.1.trans (final_6 m c), (h c).2.2⟩) (Value.run_blocks m ρ)

end Cert.Kernel3Ideal.Ffn

end
-- ==== Proof.FfnReference.lean ====
/-
  The references of the two feed-forward blocks: their results, element by element on the extended reals.
-/
module

public import proofs.«01_k».proof.Proof.Row
public import proofs.«01_k».proof.Proof.Gen.Reference2Ideal.Run
public import proofs.«01_k».proof.Proof.Gen.Reference3Ideal.Run

@[expose] public section

noncomputable section

namespace Cert.Reference2Ideal.Ffn

open Idealize.ShloMosaic hiding ix1 ix2 eq_ix2 addf_apply mulf_apply
open Idealize.ShloMosaic.TcCoe Idealize.ShloMosaic.ValueIdx
open Idealize.SL Idealize.SL.Sem
open Cert.Reference2Ideal.Gen Cert.Att.Row

/-- The norm of the rows. -/
def norm (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf
    (Host.divf (broadcastInDim S65536x1 ![0] bcast_S65536_S65536x1_0
      (Host.reduceAdd (mulf x x) (constant S_ .f32 0x00000000#32) reducesTo_S65536x1024_S65536_d1 h_S_))
      (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The left half of the first product. -/
def left (n : FVec Ideal S65536x1024 .f32) (w : FVec Ideal S1024x5632 .f32) : FVec Ideal S65536x2816 .f32 :=
  extractStridedSlice S65536x2816 ![0, 0] (Host.dotGeneral dot_S65536x1024_S1024x5632_S65536x5632_1_0_0_1_n_n none n w)
    slices_S65536x5632_S65536x2816_0_0

/-- The right half of the first product. -/
def right (n : FVec Ideal S65536x1024 .f32) (w : FVec Ideal S1024x5632 .f32) : FVec Ideal S65536x2816 .f32 :=
  extractStridedSlice S65536x2816 ![0, 2816] (Host.dotGeneral dot_S65536x1024_S1024x5632_S65536x5632_1_0_0_1_n_n none n w)
    slices_S65536x5632_S65536x2816_0_2816

/-- The gated units. -/
def gated (s t : FVec Ideal S65536x2816 .f32) : FVec Ideal S65536x2816 .f32 :=
  mulf (mulf s (Host.divf (broadcastInDim S65536x2816 ![] bcast_S_S65536x2816 (constant S_ .f32 0x3F800000#32))
    (addf (broadcastInDim S65536x2816 ![] bcast_S_S65536x2816 (constant S_ .f32 0x3F800000#32)) (Host.exp (Host.negf s))))) t

/-- The half step from the gated units. -/
def half (x : FVec Ideal S65536x1024 .f32) (u : FVec Ideal S65536x2816 .f32) (v : FVec Ideal S2816x1024 .f32) : FVec Ideal S65536x1024 .f32 :=
  addf x (mulf (broadcastInDim S65536x1024 ![] bcast_S_S65536x1024 (constant S_ .f32 0x3F000000#32))
    (Host.dotGeneral dot_S65536x2816_S2816x1024_S65536x1024_1_0_0_1_n_n none u v))

/-- The half step. -/
def step (x : FVec Ideal S65536x1024 .f32) (g : FVec Ideal S1024 .f32) (w : FVec Ideal S1024x5632 .f32) (v : FVec Ideal S2816x1024 .f32) :
    FVec Ideal S65536x1024 .f32 :=
  half x (gated (left (norm x g) w) (right (norm x g) w)) v

theorem norm_apply (x : FVec Ideal S65536x1024 .f32) (g : FVec Ideal S1024 .f32) (r : Fin 65536) (j : Fin 1024) :
    norm x g (ix2 r j) = rms (fun k => x (ix2 r k)) (fun k => g (ix1 k)) j := by
  unfold norm rms scale
  refine (mulf_apply _ _ _).trans (congrArg₂ (· * ·) ((mulf_apply _ _ _).trans (congrArg (x (ix2 r j) * ·) ?_)) ?_)
  · refine (broadcastInDim_apply _ _ _ _ (ix2 r (0 : Fin 1)) (fun a => by match a with | ⟨0, _⟩ => rfl | ⟨1, _⟩ => rfl)).trans ?_
    refine congrArg (fun q => Ideal.rsqrt (Ideal.div q (Ideal.ofBits .f32 0x44800000#32) + Ideal.ofBits .f32 0x358637BD#32)) ?_
    refine (broadcastInDim_apply _ _ _ _ (ix1 r) (fun a => by match a with | ⟨0, _⟩ => rfl)).trans ?_
    rw [hostReduceAdd_apply, Ideal.hostReduceAdd_single _ (by decide : S65536x1024.Reduces [1] S65536)]
    exact (congrArg₂ (fun p q : EReal => p + q) Ideal.ofBits_zero_f32
      (Finset.sum_congr rfl fun k _ => congrArg (fun p => (x p : EReal) * x p) (lift_row (a := 65536) (b := 1024) _ r k))).trans (zero_add _)
  · exact (broadcastInDim_apply _ _ _ _ (ix2 (0 : Fin 1) j) (fun a => by match a with | ⟨0, _⟩ => rfl | ⟨1, _⟩ => rfl)).trans
      (broadcastInDim_apply _ _ _ _ (ix1 j) (fun a => by match a with | ⟨0, _⟩ => rfl))

theorem left_apply (n : FVec Ideal S65536x1024 .f32) (w : FVec Ideal S1024x5632 .f32) (r : Fin 65536) (f : Fin 2816) :
    left n w (ix2 r f) = ∑ k : Fin 1024, n (ix2 r k) * w (ix2 k (⟨f.val, by omega⟩ : Fin 5632)) :=
  (extractStridedSlice_apply _ _ _ _ (ix2 r (⟨f.val, by omega⟩ : Fin 5632)) (fun a => by
    match a with
    | ⟨0, _⟩ => exact (Nat.zero_add _).symm
    | ⟨1, _⟩ => exact (Nat.zero_add _).symm)).trans
    (StackMember.dotGeneral_plain_apply (m := 65536) (k := 1024) (n := 5632) none n w r _)

theorem right_apply (n : FVec Ideal S65536x1024 .f32) (w : FVec Ideal S1024x5632 .f32) (r : Fin 65536) (f : Fin 2816) :
    right n w (ix2 r f) = ∑ k : Fin 1024, n (ix2 r k) * w (ix2 k (⟨2816 + f.val, by omega⟩ : Fin 5632)) :=
  (extractStridedSlice_apply _ _ _ _ (ix2 r (⟨2816 + f.val, by omega⟩ : Fin 5632)) (fun a => by
    match a with
    | ⟨0, _⟩ => exact (Nat.zero_add _).symm
    | ⟨1, _⟩ => rfl)).trans
    (StackMember.dotGeneral_plain_apply (m := 65536) (k := 1024) (n := 5632) none n w r _)

theorem gated_apply (s t : FVec Ideal S65536x2816 .f32) (i : S65536x2816.Idx) :
    gated s t i = s i * Ideal.logistic (s i) * t i := by
  show s i * Ideal.div (Ideal.ofBits .f32 0x3F800000#32) (Ideal.ofBits .f32 0x3F800000#32 + Ideal.exp (-(s i))) * t i = _
  rw [Ideal.ofBits_one_f32]
  rfl

theorem step_apply (x : FVec Ideal S65536x1024 .f32) (g : FVec Ideal S1024 .f32) (w : FVec Ideal S1024x5632 .f32)
    (v : FVec Ideal S2816x1024 .f32) (r : Fin 65536) (j : Fin 1024) : step x g w v (ix2 r j) = halfArr x g w v (ix2 r j) := by
  unfold step half
  refine (addf_apply _ _ _).trans (congrArg (x (ix2 r j) + ·) ?_)
  refine (mulf_apply _ _ _).trans (congrArg (Ideal.ofBits .f32 0x3F000000#32 * ·) ?_)
  refine (StackMember.dotGeneral_plain_apply (m := 65536) (k := 2816) (n := 1024) none _ _ r j).trans
    (Finset.sum_congr rfl fun f _ => congrArg (· * v (ix2 f j)) ?_)
  refine (gated_apply _ _ _).trans ?_
  rw [left_apply, right_apply]
  exact congrArg (fun q : Fin 1024 → EReal => act q (fun k => w (ix2 k (⟨f.val, by omega⟩ : Fin 5632))) (fun k => w (ix2 k (⟨2816 + f.val, by omega⟩ : Fin 5632))))
    (funext fun k => norm_apply x g r k)

/-- The half step is that of the rows. -/
theorem step_eq (x : FVec Ideal S65536x1024 .f32) (g : FVec Ideal S1024 .f32) (w : FVec Ideal S1024x5632 .f32)
    (v : FVec Ideal S2816x1024 .f32) : step x g w v = halfArr x g w v :=
  funext fun i => (congrArg (step x g w v) (eq_ix2 i)).trans
    ((step_apply x g w v (i 0) (i 1)).trans (congrArg (halfArr x g w v) (eq_ix2 i).symm))

/-- The norm is that of the rows. -/
theorem norm_eq (x : FVec Ideal S65536x1024 .f32) (g : FVec Ideal S1024 .f32) : norm x g = rmsArr x g :=
  funext fun i => (congrArg (norm x g) (eq_ix2 i)).trans (norm_apply x g (i 0) (i 1))

/-- The result of given arguments. -/
abbrev result (x : FVec Ideal S65536x1024 .f32) (g : FVec Ideal S1024 .f32) (w : FVec Ideal S1024x5632 .f32)
    (v : FVec Ideal S2816x1024 .f32) (o : FVec Ideal S1024 .f32) : FVec Ideal S65536x1024 .f32 := rmsArr (halfArr x g w v) o

theorem result_eq (x : FVec Ideal S65536x1024 .f32) (g : FVec Ideal S1024 .f32) (w : FVec Ideal S1024x5632 .f32)
    (v : FVec Ideal S2816x1024 .f32) (o : FVec Ideal S1024 .f32) : norm (step x g w v) o = result x g w v o :=
  (norm_eq _ o).trans (congrArg (fun q => rmsArr q o) (step_eq x g w v))

set_option maxRecDepth 8192 in
theorem res_eq (m : (ℓ : Loc nD τ sig) → Buf (Elt Ideal) ℓ) (c : Dev nD) :
    Value.res_main_v34 (F := Ideal) m c = norm (step (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := by
  unfold Value.res_main_v34
  rfl

/-- The second block's reference holds the norm of the half step of its arguments. -/
theorem value_eq (m : (ℓ : Loc nD τ sig) → Buf (Elt Ideal) ℓ) (c : Dev nD) :
    Value.res_main_v34 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  (res_eq m c).trans (result_eq _ _ _ _ _)

end Cert.Reference2Ideal.Ffn

namespace Cert.Reference3Ideal.Ffn

open Idealize.ShloMosaic hiding ix1 ix2 eq_ix2 addf_apply mulf_apply
open Idealize.ShloMosaic.TcCoe Idealize.ShloMosaic.ValueIdx
open Idealize.SL Idealize.SL.Sem
open Cert.Reference3Ideal.Gen Cert.Att.Row

set_option maxRecDepth 8192 in
theorem res_eq (m : (ℓ : Loc nD τ sig) → Buf (Elt Ideal) ℓ) (c : Dev nD) :
    (Value.res_main_v35 (F := Ideal) m c : S65536x1024.Idx → EReal)
      = Cert.Reference2Ideal.Ffn.norm (Cert.Reference2Ideal.Ffn.step (m ((c.tc : Thread nD τ).loc main_arg0))
        (m ((c.tc : Thread nD τ).loc main_arg1)) (m ((c.tc : Thread nD τ).loc main_arg2)) (m ((c.tc : Thread nD τ).loc main_arg3)))
        (m ((c.tc : Thread nD τ).loc main_arg4)) := by
  unfold Value.res_main_v35
  rfl

/-- The first block's reference holds the norm of the half step of its arguments. -/
theorem value_eq (m : (ℓ : Loc nD τ sig) → Buf (Elt Ideal) ℓ) (c : Dev nD) :
    (Value.res_main_v35 (F := Ideal) m c : S65536x1024.Idx → EReal)
      = Cert.Reference2Ideal.Ffn.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (res_eq m c).trans (Cert.Reference2Ideal.Ffn.result_eq _ _ _ _ _)

end Cert.Reference3Ideal.Ffn

end
-- ==== Proof.lean ====
/-
  The claims: about the attention, the two feed-forward blocks, the merge and the projections, both programs and the reference run to their
  ends, the idealised program is the program's own text, and on the extended reals the call and the reference end with
  equal results.
-/
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.ProjTwin
public import proofs.«01_k».proof.Proof.Proj
public import proofs.«01_k».proof.Proof.ProjReference
public import proofs.«01_k».proof.Proof.DecayReference
public import proofs.«01_k».proof.Proof.Gen.Reference5Ideal.Run
public import proofs.«01_k».proof.Defs
public import proofs.«01_k».proof.Proof.Launch
public import proofs.«01_k».proof.Proof.Twin
public import proofs.«01_k».proof.Proof.Gen.ReferenceIdeal.Run
public import proofs.«01_k».proof.Proof.Gen.Pre_finite
public import proofs.«01_k».proof.Proof.Equal
public import proofs.«01_k».proof.Proof.Merge
public import proofs.«01_k».proof.Proof.Ffn1
public import proofs.«01_k».proof.Proof.FfnReference
public import Idealize.ShloMosaic.Lib.Quiescent

@[expose] public section

noncomputable section

namespace Cert.Proof

open Idealize.ShloMosaic Idealize.SL.Sem

/-- The reference runs to its end, its arguments unchanged; it has no semaphores. -/
theorem reference_frame : Cert.quiescent_ReferenceIdeal := fun m g _ =>
  (θ_run _ _ _).mono (fun _ h => ⟨fun c => (h c).2, sem_eq_zero_of_no_sems (by decide) _⟩) (Cert.ReferenceIdeal.Value.run (F := Ideal) m g)

/-- On the extended reals, no query and no key being infinite, the attention and the reference end with equal results. -/
theorem algebraic : Cert.algebraic_KernelIdeal_ReferenceIdeal_pre_finite := fun m g m' g' hpre hargs =>
  ⟨fun c => Cert.KernelIdeal.Att.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Att.run m g,
    (θ_run _ _ _).mono (fun _ h c => ⟨(h c).1.trans (by
        rw [Cert.ReferenceIdeal.Att.res_eq, (hargs c).1, (hargs c).2.1, (hargs c).2.2]
        exact Cert.Att.attn_eq _ _ _ (hpre c)), (h c).2⟩) (Cert.ReferenceIdeal.Value.run (F := Ideal) m' g')⟩

/-- The second feed-forward block's reference runs to its end, its arguments unchanged; it has no semaphores. -/
theorem reference2_frame : Cert.quiescent_Reference2Ideal := fun m g _ =>
  (θ_run _ _ _).mono (fun _ h => ⟨fun c => (h c).2, sem_eq_zero_of_no_sems (by decide) _⟩) (Cert.Reference2Ideal.Value.run (F := Ideal) m g)

/-- The first feed-forward block's reference runs to its end, its arguments unchanged; it has no semaphores. -/
theorem reference3_frame : Cert.quiescent_Reference3Ideal := fun m g _ =>
  (θ_run _ _ _).mono (fun _ h => ⟨fun c => (h c).2.2, sem_eq_zero_of_no_sems (by decide) _⟩) (Cert.Reference3Ideal.Value.run (F := Ideal) m g)

/-- The merge's reference runs to its end, its arguments unchanged; it has no semaphores. -/
theorem reference4_frame : Cert.quiescent_Reference4Ideal := fun m g _ =>
  (θ_run _ _ _).mono (fun _ h => ⟨fun c => (h c).2, sem_eq_zero_of_no_sems (by decide) _⟩) (Cert.Reference4Ideal.Value.run (F := Ideal) m g)

/-- On the extended reals the second feed-forward block and its reference end with equal results. -/
theorem algebraic2 : Cert.algebraic_Kernel2Ideal_Reference2Ideal := fun m g m' g' _ hargs =>
  ⟨fun c => Cert.Kernel2Ideal.Ffn.result m c, Cert.Kernel2Ideal.Ffn.run m g,
    (θ_run _ _ _).mono (fun _ h c => ⟨(h c).1.trans ((Cert.Reference2Ideal.Ffn.value_eq m' c).trans (by
        rw [(hargs c).1, (hargs c).2.1, (hargs c).2.2.1, (hargs c).2.2.2.1, (hargs c).2.2.2.2])), (h c).2⟩) (Cert.Reference2Ideal.Value.run (F := Ideal) m' g')⟩

/-- On the extended reals the first feed-forward block and its reference end with equal results. -/
theorem algebraic3 : Cert.algebraic_Kernel3Ideal_Reference3Ideal := fun m g m' g' _ hargs =>
  ⟨fun c => Cert.Kernel3Ideal.Ffn.step m c, fun c => Cert.Kernel3Ideal.Ffn.result m c, Cert.Kernel3Ideal.Ffn.run m g,
    (θ_run _ _ _).mono (fun _ h c => ⟨(h c).1.trans ((Cert.Reference2Ideal.Ffn.step_eq
        (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans (by
        rw [(hargs c).1, (hargs c).2.1, (hargs c).2.2.1, (hargs c).2.2.2.1])),
      (h c).2.1.trans ((Cert.Reference3Ideal.Ffn.value_eq m' c).trans (by
        rw [(hargs c).1, (hargs c).2.1, (hargs c).2.2.1, (hargs c).2.2.2.1, (hargs c).2.2.2.2])), (h c).2.2⟩) (Cert.Reference3Ideal.Value.run (F := Ideal) m' g')⟩

/-- On the extended reals the merge and its reference end with equal results. -/
theorem algebraic4 : Cert.algebraic_Kernel4Ideal_Reference4Ideal := fun m g m' g' _ hargs =>
  ⟨fun c => Cert.Kernel4Ideal.Merge.result m c, Cert.Kernel4Ideal.Merge.run m g,
    (θ_run _ _ _).mono (fun _ h c => ⟨(h c).1.trans ((Cert.Reference4Ideal.Merge.value_eq
        (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))).trans (by
        rw [(hargs c).1, (hargs c).2.1, (hargs c).2.2.1, (hargs c).2.2.2.1, (hargs c).2.2.2.2.1, (hargs c).2.2.2.2.2.1, (hargs c).2.2.2.2.2.2])), (h c).2⟩) (Cert.Reference4Ideal.Value.run (F := Ideal) m' g')⟩

/-- The projections' reference runs to its end, its arguments unchanged; it has no semaphores. -/
theorem reference5_frame : Cert.quiescent_Reference5Ideal := fun m g _ =>
  (θ_run _ _ _).mono (fun _ h => ⟨fun c => (h c).2.2.2.2.2.2.2, sem_eq_zero_of_no_sems (by decide) _⟩) (Cert.Reference5Ideal.Value.run (F := Ideal) m g)

/-- On the extended reals, no column of the table having an infinite greatest entry, the projections and their reference end with equal results. -/
theorem algebraic5 : Cert.algebraic_Kernel5Ideal_Reference5Ideal_pre_bounded := fun m g m' g' hpre hargs =>
  ⟨fun c => Cert.Kernel5Ideal.Proj.resQ m c, fun c => Cert.Kernel5Ideal.Proj.resL m c, fun c => Cert.Kernel5Ideal.Proj.resK m c,
    fun c => Cert.Kernel5Ideal.Proj.resV m c, fun c => Cert.Kernel5Ideal.Proj.resG m c,
    fun c => Cert.Kernel5Ideal.Proj.resM m c, fun c => Cert.Kernel5Ideal.Proj.resH m c, Cert.Kernel5Ideal.Proj.run m g,
    (θ_run _ _ _).mono (fun _ h c => ⟨
      (h c).1.trans ((Cert.Reference5Ideal.Proj.unit_eq 0 (by decide) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) _).trans (by
        rw [(hargs c).1, (hargs c).2.2.1])),
      (h c).2.1.trans ((Cert.Reference5Ideal.Proj.res_decay m' c).trans (by
        rw [(hargs c).1, (hargs c).2.2.1, (hargs c).2.2.2.2.2.1]
        exact Cert.Reference5Ideal.Proj.decay_arr _ _ _ (Cert.Reference5Ideal.Proj.table_real _ _ _ _ _ _ _ _ _ _ _ _ (hpre c)))),
      (h c).2.2.1.trans ((Cert.Reference5Ideal.Proj.res_key m' c).trans (by
        rw [(hargs c).1, (hargs c).2.2.1, (hargs c).2.2.2.2.2.1]
        exact Cert.Reference5Ideal.Proj.key_arr _ _ _ (Cert.Reference5Ideal.Proj.table_real _ _ _ _ _ _ _ _ _ _ _ _ (hpre c)))),
      (h c).2.2.2.1.trans ((Cert.Reference5Ideal.Proj.plain_eq 2048 (by decide) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) _).trans (by
        rw [(hargs c).1, (hargs c).2.2.1])),
      (h c).2.2.2.2.1.trans ((Cert.Reference5Ideal.Proj.unit_eq 3072 (by decide) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) _).trans (by
        rw [(hargs c).1, (hargs c).2.2.1])),
      (h c).2.2.2.2.2.1.trans ((Cert.Reference5Ideal.Proj.gate_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))).trans (by
        rw [(hargs c).1, (hargs c).2.2.2.1, (hargs c).2.2.2.2.1])),
      (h c).2.2.2.2.2.2.1.trans ((Cert.Reference5Ideal.Proj.value_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))).trans (by
        rw [(hargs c).1, (hargs c).2.2.1, (hargs c).2.2.2.2.2.2.2.2.1, (hargs c).2.2.2.2.2.2.2.2.2.1])),
      (h c).2.2.2.2.2.2.2⟩) (Cert.Reference5Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Reference5Ideal.Proj.boundedFacts,
  fun m g _ => Cert.Kernel.Att.frame m g, fun m g _ => Cert.KernelIdeal.Att.frame (F := Ideal) m g,
  fun m g _ => Cert.KernelIdeal.Att.frame (F := Ideal) m g, reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Proj.frame m g, fun m g _ => Cert.Kernel5Ideal.Proj.frame m g,
  fun m g _ => Cert.Kernel5Ideal.Proj.frame m g, reference5_frame, fun m g _ => reference5_frame m g trivial,
  trivial, algebraic, trivial, algebraic2, trivial, algebraic3, trivial, algebraic4, trivial, algebraic5⟩

end Cert.Proof

end
